-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InprojKv (m : (ℓ : Loc Cert.InprojKv.nD Cert.InprojKv.τ Cert.InprojKv.sig) → Buf (Elt Bits) ℓ) : Prop :=
  True

def Pre_InprojKvIdeal (m : (ℓ : Loc Cert.InprojKvIdeal.nD Cert.InprojKvIdeal.τ Cert.InprojKvIdeal.sig) → Buf (Elt Ideal) ℓ) : Prop :=
  True

def Pre_InprojKvRefIdeal (m : (ℓ : Loc Cert.InprojKvRefIdeal.nD Cert.InprojKvRefIdeal.τ Cert.InprojKvRefIdeal.sig) → Buf (Elt Ideal) ℓ) : Prop :=
  True

def Pre_InprojRest (m : (ℓ : Loc Cert.InprojRest.nD Cert.InprojRest.τ Cert.InprojRest.sig) → Buf (Elt Bits) ℓ) : Prop :=
  True

def Pre_InprojRestIdeal (m : (ℓ : Loc Cert.InprojRestIdeal.nD Cert.InprojRestIdeal.τ Cert.InprojRestIdeal.sig) → Buf (Elt Ideal) ℓ) : Prop :=
  True

def Pre_InprojRestRefIdeal (m : (ℓ : Loc Cert.InprojRestRefIdeal.nD Cert.InprojRestRefIdeal.τ Cert.InprojRestRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_NormH (m : (ℓ : Loc Cert.NormH.nD Cert.NormH.τ Cert.NormH.sig) → Buf (Elt Bits) ℓ) : Prop :=
  True

def Pre_NormHIdeal (m : (ℓ : Loc Cert.NormHIdeal.nD Cert.NormHIdeal.τ Cert.NormHIdeal.sig) → Buf (Elt Ideal) ℓ) : Prop :=
  True

def Pre_NormHRefIdeal (m : (ℓ : Loc Cert.NormHRefIdeal.nD Cert.NormHRefIdeal.τ Cert.NormHRefIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptRefIdeal (m : (ℓ : Loc Cert.NormPromptRefIdeal.nD Cert.NormPromptRefIdeal.τ Cert.NormPromptRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_MixbPrompt (m : (ℓ : Loc Cert.MixbPrompt.nD Cert.MixbPrompt.τ Cert.MixbPrompt.sig) → Buf (Elt Bits) ℓ) : Prop :=
  True

def Pre_MixbPromptIdeal (m : (ℓ : Loc Cert.MixbPromptIdeal.nD Cert.MixbPromptIdeal.τ Cert.MixbPromptIdeal.sig) → Buf (Elt Ideal) ℓ) : Prop :=
  True

def Pre_MixbPromptRefIdeal (m : (ℓ : Loc Cert.MixbPromptRefIdeal.nD Cert.MixbPromptRefIdeal.τ Cert.MixbPromptRefIdeal.sig) → Buf (Elt Ideal) ℓ) : Prop :=
  True

def Pre_MixbSample (m : (ℓ : Loc Cert.MixbSample.nD Cert.MixbSample.τ Cert.MixbSample.sig) → Buf (Elt Bits) ℓ) : Prop :=
  True

def Pre_MixbSampleIdeal (m : (ℓ : Loc Cert.MixbSampleIdeal.nD Cert.MixbSampleIdeal.τ Cert.MixbSampleIdeal.sig) → Buf (Elt Ideal) ℓ) : Prop :=
  True

def Pre_MixbSampleRefIdeal (m : (ℓ : Loc Cert.MixbSampleRefIdeal.nD Cert.MixbSampleRefIdeal.τ Cert.MixbSampleRefIdeal.sig) → Buf (Elt Ideal) ℓ) : Prop :=
  True

def Pre_MixcPrompt (m : (ℓ : Loc Cert.MixcPrompt.nD Cert.MixcPrompt.τ Cert.MixcPrompt.sig) → Buf (Elt Bits) ℓ) : Prop :=
  True

def Pre_MixcPromptIdeal (m : (ℓ : Loc Cert.MixcPromptIdeal.nD Cert.MixcPromptIdeal.τ Cert.MixcPromptIdeal.sig) → Buf (Elt Ideal) ℓ) : Prop :=
  True

def Pre_MixcPromptRefIdeal (m : (ℓ : Loc Cert.MixcPromptRefIdeal.nD Cert.MixcPromptRefIdeal.τ Cert.MixcPromptRefIdeal.sig) → Buf (Elt Ideal) ℓ) : Prop :=
  True

def Pre_MixcSample (m : (ℓ : Loc Cert.MixcSample.nD Cert.MixcSample.τ Cert.MixcSample.sig) → Buf (Elt Bits) ℓ) : Prop :=
  True

def Pre_MixcSampleIdeal (m : (ℓ : Loc Cert.MixcSampleIdeal.nD Cert.MixcSampleIdeal.τ Cert.MixcSampleIdeal.sig) → Buf (Elt Ideal) ℓ) : Prop :=
  True

def Pre_MixcSampleRefIdeal (m : (ℓ : Loc Cert.MixcSampleRefIdeal.nD Cert.MixcSampleRefIdeal.τ Cert.MixcSampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InprojKv [hInprojKv : Cert.InprojKv.Facts] : Prop :=
  ∀ (m : (ℓ : Loc Cert.InprojKv.nD Cert.InprojKv.τ Cert.InprojKv.sig) → Buf (Elt Bits) ℓ) (g : Dev Cert.InprojKv.nD → PrngReg), Pre_InprojKv m →
    θ_run (Cert.InprojKv.defs (F := Bits)) (onTc (τ := Cert.InprojKv.τ) (Cert.InprojKv.main (F := Bits))) ⟨m, fun _ => 0, g⟩ (fun r => (∀ c : Dev Cert.InprojKv.nD,
      r.2.mem ((c.tc : Thread Cert.InprojKv.nD Cert.InprojKv.τ).loc Cert.InprojKv.main_arg0) = m ((c.tc : Thread Cert.InprojKv.nD Cert.InprojKv.τ).loc Cert.InprojKv.main_arg0)
      ∧ r.2.mem ((c.tc : Thread Cert.InprojKv.nD Cert.InprojKv.τ).loc Cert.InprojKv.main_arg1) = m ((c.tc : Thread Cert.InprojKv.nD Cert.InprojKv.τ).loc Cert.InprojKv.main_arg1))
      ∧ r.2.sem = fun _ => 0)

def quiescent_InprojKvIdeal [hInprojKvIdeal : Cert.InprojKvIdeal.Facts] : Prop :=
  ∀ (m : (ℓ : Loc Cert.InprojKvIdeal.nD Cert.InprojKvIdeal.τ Cert.InprojKvIdeal.sig) → Buf (Elt Ideal) ℓ) (g : Dev Cert.InprojKvIdeal.nD → PrngReg), Pre_InprojKvIdeal m →
    θ_run (Cert.InprojKvIdeal.defs (F := Ideal)) (onTc (τ := Cert.InprojKvIdeal.τ) (Cert.InprojKvIdeal.main (F := Ideal))) ⟨m, fun _ => 0, g⟩ (fun r => (∀ c : Dev Cert.InprojKvIdeal.nD,
      r.2.mem ((c.tc : Thread Cert.InprojKvIdeal.nD Cert.InprojKvIdeal.τ).loc Cert.InprojKvIdeal.main_arg0) = m ((c.tc : Thread Cert.InprojKvIdeal.nD Cert.InprojKvIdeal.τ).loc Cert.InprojKvIdeal.main_arg0)
      ∧ r.2.mem ((c.tc : Thread Cert.InprojKvIdeal.nD Cert.InprojKvIdeal.τ).loc Cert.InprojKvIdeal.main_arg1) = m ((c.tc : Thread Cert.InprojKvIdeal.nD Cert.InprojKvIdeal.τ).loc Cert.InprojKvIdeal.main_arg1))
      ∧ r.2.sem = fun _ => 0)

def quiescent_InprojKvRefIdeal [hInprojKvRefIdeal : Cert.InprojKvRefIdeal.Facts] : Prop :=
  ∀ (m : (ℓ : Loc Cert.InprojKvRefIdeal.nD Cert.InprojKvRefIdeal.τ Cert.InprojKvRefIdeal.sig) → Buf (Elt Ideal) ℓ) (g : Dev Cert.InprojKvRefIdeal.nD → PrngReg), Pre_InprojKvRefIdeal m →
    θ_run (Cert.InprojKvRefIdeal.defs (F := Ideal)) (onTc (τ := Cert.InprojKvRefIdeal.τ) (Cert.InprojKvRefIdeal.main (F := Ideal))) ⟨m, fun _ => 0, g⟩ (fun r => (∀ c : Dev Cert.InprojKvRefIdeal.nD,
      r.2.mem ((c.tc : Thread Cert.InprojKvRefIdeal.nD Cert.InprojKvRefIdeal.τ).loc Cert.InprojKvRefIdeal.main_arg0) = m ((c.tc : Thread Cert.InprojKvRefIdeal.nD Cert.InprojKvRefIdeal.τ).loc Cert.InprojKvRefIdeal.main_arg0)
      ∧ r.2.mem ((c.tc : Thread Cert.InprojKvRefIdeal.nD Cert.InprojKvRefIdeal.τ).loc Cert.InprojKvRefIdeal.main_arg1) = m ((c.tc : Thread Cert.InprojKvRefIdeal.nD Cert.InprojKvRefIdeal.τ).loc Cert.InprojKvRefIdeal.main_arg1))
      ∧ r.2.sem = fun _ => 0)

def quiescent_InprojRest [hInprojRest : Cert.InprojRest.Facts] : Prop :=
  ∀ (m : (ℓ : Loc Cert.InprojRest.nD Cert.InprojRest.τ Cert.InprojRest.sig) → Buf (Elt Bits) ℓ) (g : Dev Cert.InprojRest.nD → PrngReg), Pre_InprojRest m →
    θ_run (Cert.InprojRest.defs (F := Bits)) (onTc (τ := Cert.InprojRest.τ) (Cert.InprojRest.main (F := Bits))) ⟨m, fun _ => 0, g⟩ (fun r => (∀ c : Dev Cert.InprojRest.nD,
      r.2.mem ((c.tc : Thread Cert.InprojRest.nD Cert.InprojRest.τ).loc Cert.InprojRest.main_arg0) = m ((c.tc : Thread Cert.InprojRest.nD Cert.InprojRest.τ).loc Cert.InprojRest.main_arg0)
      ∧ r.2.mem ((c.tc : Thread Cert.InprojRest.nD Cert.InprojRest.τ).loc Cert.InprojRest.main_arg1) = m ((c.tc : Thread Cert.InprojRest.nD Cert.InprojRest.τ).loc Cert.InprojRest.main_arg1))
      ∧ r.2.sem = fun _ => 0)

def quiescent_InprojRestIdeal [hInprojRestIdeal : Cert.InprojRestIdeal.Facts] : Prop :=
  ∀ (m : (ℓ : Loc Cert.InprojRestIdeal.nD Cert.InprojRestIdeal.τ Cert.InprojRestIdeal.sig) → Buf (Elt Ideal) ℓ) (g : Dev Cert.InprojRestIdeal.nD → PrngReg), Pre_InprojRestIdeal m →
    θ_run (Cert.InprojRestIdeal.defs (F := Ideal)) (onTc (τ := Cert.InprojRestIdeal.τ) (Cert.InprojRestIdeal.main (F := Ideal))) ⟨m, fun _ => 0, g⟩ (fun r => (∀ c : Dev Cert.InprojRestIdeal.nD,
      r.2.mem ((c.tc : Thread Cert.InprojRestIdeal.nD Cert.InprojRestIdeal.τ).loc Cert.InprojRestIdeal.main_arg0) = m ((c.tc : Thread Cert.InprojRestIdeal.nD Cert.InprojRestIdeal.τ).loc Cert.InprojRestIdeal.main_arg0)
      ∧ r.2.mem ((c.tc : Thread Cert.InprojRestIdeal.nD Cert.InprojRestIdeal.τ).loc Cert.InprojRestIdeal.main_arg1) = m ((c.tc : Thread Cert.InprojRestIdeal.nD Cert.InprojRestIdeal.τ).loc Cert.InprojRestIdeal.main_arg1))
      ∧ r.2.sem = fun _ => 0)

def quiescent_InprojRestRefIdeal [hInprojRestRefIdeal : Cert.InprojRestRefIdeal.Facts] : Prop :=
  ∀ (m : (ℓ : Loc Cert.InprojRestRefIdeal.nD Cert.InprojRestRefIdeal.τ Cert.InprojRestRefIdeal.sig) → Buf (Elt Ideal) ℓ) (g : Dev Cert.InprojRestRefIdeal.nD → PrngReg), Pre_InprojRestRefIdeal m →
    θ_run (Cert.InprojRestRefIdeal.defs (F := Ideal)) (onTc (τ := Cert.InprojRestRefIdeal.τ) (Cert.InprojRestRefIdeal.main (F := Ideal))) ⟨m, fun _ => 0, g⟩ (fun r => (∀ c : Dev Cert.InprojRestRefIdeal.nD,
      r.2.mem ((c.tc : Thread Cert.InprojRestRefIdeal.nD Cert.InprojRestRefIdeal.τ).loc Cert.InprojRestRefIdeal.main_arg0) = m ((c.tc : Thread Cert.InprojRestRefIdeal.nD Cert.InprojRestRefIdeal.τ).loc Cert.InprojRestRefIdeal.main_arg0)
      ∧ r.2.mem ((c.tc : Thread Cert.InprojRestRefIdeal.nD Cert.InprojRestRefIdeal.τ).loc Cert.InprojRestRefIdeal.main_arg1) = m ((c.tc : Thread Cert.InprojRestRefIdeal.nD Cert.InprojRestRefIdeal.τ).loc Cert.InprojRestRefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_NormH [hNormH : Cert.NormH.Facts] : Prop :=
  ∀ (m : (ℓ : Loc Cert.NormH.nD Cert.NormH.τ Cert.NormH.sig) → Buf (Elt Bits) ℓ) (g : Dev Cert.NormH.nD → PrngReg), Pre_NormH m →
    θ_run (Cert.NormH.defs (F := Bits)) (onTc (τ := Cert.NormH.τ) (Cert.NormH.main (F := Bits))) ⟨m, fun _ => 0, g⟩ (fun r => (∀ c : Dev Cert.NormH.nD,
      r.2.mem ((c.tc : Thread Cert.NormH.nD Cert.NormH.τ).loc Cert.NormH.main_arg0) = m ((c.tc : Thread Cert.NormH.nD Cert.NormH.τ).loc Cert.NormH.main_arg0)
      ∧ r.2.mem ((c.tc : Thread Cert.NormH.nD Cert.NormH.τ).loc Cert.NormH.main_arg1) = m ((c.tc : Thread Cert.NormH.nD Cert.NormH.τ).loc Cert.NormH.main_arg1))
      ∧ r.2.sem = fun _ => 0)

def quiescent_NormHIdeal [hNormHIdeal : Cert.NormHIdeal.Facts] : Prop :=
  ∀ (m : (ℓ : Loc Cert.NormHIdeal.nD Cert.NormHIdeal.τ Cert.NormHIdeal.sig) → Buf (Elt Ideal) ℓ) (g : Dev Cert.NormHIdeal.nD → PrngReg), Pre_NormHIdeal m →
    θ_run (Cert.NormHIdeal.defs (F := Ideal)) (onTc (τ := Cert.NormHIdeal.τ) (Cert.NormHIdeal.main (F := Ideal))) ⟨m, fun _ => 0, g⟩ (fun r => (∀ c : Dev Cert.NormHIdeal.nD,
      r.2.mem ((c.tc : Thread Cert.NormHIdeal.nD Cert.NormHIdeal.τ).loc Cert.NormHIdeal.main_arg0) = m ((c.tc : Thread Cert.NormHIdeal.nD Cert.NormHIdeal.τ).loc Cert.NormHIdeal.main_arg0)
      ∧ r.2.mem ((c.tc : Thread Cert.NormHIdeal.nD Cert.NormHIdeal.τ).loc Cert.NormHIdeal.main_arg1) = m ((c.tc : Thread Cert.NormHIdeal.nD Cert.NormHIdeal.τ).loc Cert.NormHIdeal.main_arg1))
      ∧ r.2.sem = fun _ => 0)

def quiescent_NormHRefIdeal [hNormHRefIdeal : Cert.NormHRefIdeal.Facts] : Prop :=
  ∀ (m : (ℓ : Loc Cert.NormHRefIdeal.nD Cert.NormHRefIdeal.τ Cert.NormHRefIdeal.sig) → Buf (Elt Ideal) ℓ) (g : Dev Cert.NormHRefIdeal.nD → PrngReg), Pre_NormHRefIdeal m →
    θ_run (Cert.NormHRefIdeal.defs (F := Ideal)) (onTc (τ := Cert.NormHRefIdeal.τ) (Cert.NormHRefIdeal.main (F := Ideal))) ⟨m, fun _ => 0, g⟩ (fun r => (∀ c : Dev Cert.NormHRefIdeal.nD,
      r.2.mem ((c.tc : Thread Cert.NormHRefIdeal.nD Cert.NormHRefIdeal.τ).loc Cert.NormHRefIdeal.main_arg0) = m ((c.tc : Thread Cert.NormHRefIdeal.nD Cert.NormHRefIdeal.τ).loc Cert.NormHRefIdeal.main_arg0)
      ∧ r.2.mem ((c.tc : Thread Cert.NormHRefIdeal.nD Cert.NormHRefIdeal.τ).loc Cert.NormHRefIdeal.main_arg1) = m ((c.tc : Thread Cert.NormHRefIdeal.nD Cert.NormHRefIdeal.τ).loc Cert.NormHRefIdeal.main_arg1))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptRefIdeal [hNormPromptRefIdeal : Cert.NormPromptRefIdeal.Facts] : Prop :=
  ∀ (m : (ℓ : Loc Cert.NormPromptRefIdeal.nD Cert.NormPromptRefIdeal.τ Cert.NormPromptRefIdeal.sig) → Buf (Elt Ideal) ℓ) (g : Dev Cert.NormPromptRefIdeal.nD → PrngReg), Pre_NormPromptRefIdeal m →
    θ_run (Cert.NormPromptRefIdeal.defs (F := Ideal)) (onTc (τ := Cert.NormPromptRefIdeal.τ) (Cert.NormPromptRefIdeal.main (F := Ideal))) ⟨m, fun _ => 0, g⟩ (fun r => (∀ c : Dev Cert.NormPromptRefIdeal.nD,
      r.2.mem ((c.tc : Thread Cert.NormPromptRefIdeal.nD Cert.NormPromptRefIdeal.τ).loc Cert.NormPromptRefIdeal.main_arg0) = m ((c.tc : Thread Cert.NormPromptRefIdeal.nD Cert.NormPromptRefIdeal.τ).loc Cert.NormPromptRefIdeal.main_arg0)
      ∧ r.2.mem ((c.tc : Thread Cert.NormPromptRefIdeal.nD Cert.NormPromptRefIdeal.τ).loc Cert.NormPromptRefIdeal.main_arg1) = m ((c.tc : Thread Cert.NormPromptRefIdeal.nD Cert.NormPromptRefIdeal.τ).loc Cert.NormPromptRefIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1))
      ∧ r.2.sem = fun _ => 0)

def quiescent_MixbPrompt [hMixbPrompt : Cert.MixbPrompt.Facts] : Prop :=
  ∀ (m : (ℓ : Loc Cert.MixbPrompt.nD Cert.MixbPrompt.τ Cert.MixbPrompt.sig) → Buf (Elt Bits) ℓ) (g : Dev Cert.MixbPrompt.nD → PrngReg), Pre_MixbPrompt m →
    θ_run (Cert.MixbPrompt.defs (F := Bits)) (onTc (τ := Cert.MixbPrompt.τ) (Cert.MixbPrompt.main (F := Bits))) ⟨m, fun _ => 0, g⟩ (fun r => (∀ c : Dev Cert.MixbPrompt.nD,
      r.2.mem ((c.tc : Thread Cert.MixbPrompt.nD Cert.MixbPrompt.τ).loc Cert.MixbPrompt.main_arg0) = m ((c.tc : Thread Cert.MixbPrompt.nD Cert.MixbPrompt.τ).loc Cert.MixbPrompt.main_arg0)
      ∧ r.2.mem ((c.tc : Thread Cert.MixbPrompt.nD Cert.MixbPrompt.τ).loc Cert.MixbPrompt.main_arg1) = m ((c.tc : Thread Cert.MixbPrompt.nD Cert.MixbPrompt.τ).loc Cert.MixbPrompt.main_arg1))
      ∧ r.2.sem = fun _ => 0)

def quiescent_MixbPromptIdeal [hMixbPromptIdeal : Cert.MixbPromptIdeal.Facts] : Prop :=
  ∀ (m : (ℓ : Loc Cert.MixbPromptIdeal.nD Cert.MixbPromptIdeal.τ Cert.MixbPromptIdeal.sig) → Buf (Elt Ideal) ℓ) (g : Dev Cert.MixbPromptIdeal.nD → PrngReg), Pre_MixbPromptIdeal m →
    θ_run (Cert.MixbPromptIdeal.defs (F := Ideal)) (onTc (τ := Cert.MixbPromptIdeal.τ) (Cert.MixbPromptIdeal.main (F := Ideal))) ⟨m, fun _ => 0, g⟩ (fun r => (∀ c : Dev Cert.MixbPromptIdeal.nD,
      r.2.mem ((c.tc : Thread Cert.MixbPromptIdeal.nD Cert.MixbPromptIdeal.τ).loc Cert.MixbPromptIdeal.main_arg0) = m ((c.tc : Thread Cert.MixbPromptIdeal.nD Cert.MixbPromptIdeal.τ).loc Cert.MixbPromptIdeal.main_arg0)
      ∧ r.2.mem ((c.tc : Thread Cert.MixbPromptIdeal.nD Cert.MixbPromptIdeal.τ).loc Cert.MixbPromptIdeal.main_arg1) = m ((c.tc : Thread Cert.MixbPromptIdeal.nD Cert.MixbPromptIdeal.τ).loc Cert.MixbPromptIdeal.main_arg1))
      ∧ r.2.sem = fun _ => 0)

def quiescent_MixbPromptRefIdeal [hMixbPromptRefIdeal : Cert.MixbPromptRefIdeal.Facts] : Prop :=
  ∀ (m : (ℓ : Loc Cert.MixbPromptRefIdeal.nD Cert.MixbPromptRefIdeal.τ Cert.MixbPromptRefIdeal.sig) → Buf (Elt Ideal) ℓ) (g : Dev Cert.MixbPromptRefIdeal.nD → PrngReg), Pre_MixbPromptRefIdeal m →
    θ_run (Cert.MixbPromptRefIdeal.defs (F := Ideal)) (onTc (τ := Cert.MixbPromptRefIdeal.τ) (Cert.MixbPromptRefIdeal.main (F := Ideal))) ⟨m, fun _ => 0, g⟩ (fun r => (∀ c : Dev Cert.MixbPromptRefIdeal.nD,
      r.2.mem ((c.tc : Thread Cert.MixbPromptRefIdeal.nD Cert.MixbPromptRefIdeal.τ).loc Cert.MixbPromptRefIdeal.main_arg0) = m ((c.tc : Thread Cert.MixbPromptRefIdeal.nD Cert.MixbPromptRefIdeal.τ).loc Cert.MixbPromptRefIdeal.main_arg0)
      ∧ r.2.mem ((c.tc : Thread Cert.MixbPromptRefIdeal.nD Cert.MixbPromptRefIdeal.τ).loc Cert.MixbPromptRefIdeal.main_arg1) = m ((c.tc : Thread Cert.MixbPromptRefIdeal.nD Cert.MixbPromptRefIdeal.τ).loc Cert.MixbPromptRefIdeal.main_arg1))
      ∧ r.2.sem = fun _ => 0)

def quiescent_MixbSample [hMixbSample : Cert.MixbSample.Facts] : Prop :=
  ∀ (m : (ℓ : Loc Cert.MixbSample.nD Cert.MixbSample.τ Cert.MixbSample.sig) → Buf (Elt Bits) ℓ) (g : Dev Cert.MixbSample.nD → PrngReg), Pre_MixbSample m →
    θ_run (Cert.MixbSample.defs (F := Bits)) (onTc (τ := Cert.MixbSample.τ) (Cert.MixbSample.main (F := Bits))) ⟨m, fun _ => 0, g⟩ (fun r => (∀ c : Dev Cert.MixbSample.nD,
      r.2.mem ((c.tc : Thread Cert.MixbSample.nD Cert.MixbSample.τ).loc Cert.MixbSample.main_arg0) = m ((c.tc : Thread Cert.MixbSample.nD Cert.MixbSample.τ).loc Cert.MixbSample.main_arg0)
      ∧ r.2.mem ((c.tc : Thread Cert.MixbSample.nD Cert.MixbSample.τ).loc Cert.MixbSample.main_arg1) = m ((c.tc : Thread Cert.MixbSample.nD Cert.MixbSample.τ).loc Cert.MixbSample.main_arg1)
      ∧ r.2.mem ((c.tc : Thread Cert.MixbSample.nD Cert.MixbSample.τ).loc Cert.MixbSample.main_arg2) = m ((c.tc : Thread Cert.MixbSample.nD Cert.MixbSample.τ).loc Cert.MixbSample.main_arg2)
      ∧ r.2.mem ((c.tc : Thread Cert.MixbSample.nD Cert.MixbSample.τ).loc Cert.MixbSample.main_arg3) = m ((c.tc : Thread Cert.MixbSample.nD Cert.MixbSample.τ).loc Cert.MixbSample.main_arg3))
      ∧ r.2.sem = fun _ => 0)

def quiescent_MixbSampleIdeal [hMixbSampleIdeal : Cert.MixbSampleIdeal.Facts] : Prop :=
  ∀ (m : (ℓ : Loc Cert.MixbSampleIdeal.nD Cert.MixbSampleIdeal.τ Cert.MixbSampleIdeal.sig) → Buf (Elt Ideal) ℓ) (g : Dev Cert.MixbSampleIdeal.nD → PrngReg), Pre_MixbSampleIdeal m →
    θ_run (Cert.MixbSampleIdeal.defs (F := Ideal)) (onTc (τ := Cert.MixbSampleIdeal.τ) (Cert.MixbSampleIdeal.main (F := Ideal))) ⟨m, fun _ => 0, g⟩ (fun r => (∀ c : Dev Cert.MixbSampleIdeal.nD,
      r.2.mem ((c.tc : Thread Cert.MixbSampleIdeal.nD Cert.MixbSampleIdeal.τ).loc Cert.MixbSampleIdeal.main_arg0) = m ((c.tc : Thread Cert.MixbSampleIdeal.nD Cert.MixbSampleIdeal.τ).loc Cert.MixbSampleIdeal.main_arg0)
      ∧ r.2.mem ((c.tc : Thread Cert.MixbSampleIdeal.nD Cert.MixbSampleIdeal.τ).loc Cert.MixbSampleIdeal.main_arg1) = m ((c.tc : Thread Cert.MixbSampleIdeal.nD Cert.MixbSampleIdeal.τ).loc Cert.MixbSampleIdeal.main_arg1)
      ∧ r.2.mem ((c.tc : Thread Cert.MixbSampleIdeal.nD Cert.MixbSampleIdeal.τ).loc Cert.MixbSampleIdeal.main_arg2) = m ((c.tc : Thread Cert.MixbSampleIdeal.nD Cert.MixbSampleIdeal.τ).loc Cert.MixbSampleIdeal.main_arg2)
      ∧ r.2.mem ((c.tc : Thread Cert.MixbSampleIdeal.nD Cert.MixbSampleIdeal.τ).loc Cert.MixbSampleIdeal.main_arg3) = m ((c.tc : Thread Cert.MixbSampleIdeal.nD Cert.MixbSampleIdeal.τ).loc Cert.MixbSampleIdeal.main_arg3))
      ∧ r.2.sem = fun _ => 0)

def quiescent_MixbSampleRefIdeal [hMixbSampleRefIdeal : Cert.MixbSampleRefIdeal.Facts] : Prop :=
  ∀ (m : (ℓ : Loc Cert.MixbSampleRefIdeal.nD Cert.MixbSampleRefIdeal.τ Cert.MixbSampleRefIdeal.sig) → Buf (Elt Ideal) ℓ) (g : Dev Cert.MixbSampleRefIdeal.nD → PrngReg), Pre_MixbSampleRefIdeal m →
    θ_run (Cert.MixbSampleRefIdeal.defs (F := Ideal)) (onTc (τ := Cert.MixbSampleRefIdeal.τ) (Cert.MixbSampleRefIdeal.main (F := Ideal))) ⟨m, fun _ => 0, g⟩ (fun r => (∀ c : Dev Cert.MixbSampleRefIdeal.nD,
      r.2.mem ((c.tc : Thread Cert.MixbSampleRefIdeal.nD Cert.MixbSampleRefIdeal.τ).loc Cert.MixbSampleRefIdeal.main_arg0) = m ((c.tc : Thread Cert.MixbSampleRefIdeal.nD Cert.MixbSampleRefIdeal.τ).loc Cert.MixbSampleRefIdeal.main_arg0)
      ∧ r.2.mem ((c.tc : Thread Cert.MixbSampleRefIdeal.nD Cert.MixbSampleRefIdeal.τ).loc Cert.MixbSampleRefIdeal.main_arg1) = m ((c.tc : Thread Cert.MixbSampleRefIdeal.nD Cert.MixbSampleRefIdeal.τ).loc Cert.MixbSampleRefIdeal.main_arg1)
      ∧ r.2.mem ((c.tc : Thread Cert.MixbSampleRefIdeal.nD Cert.MixbSampleRefIdeal.τ).loc Cert.MixbSampleRefIdeal.main_arg2) = m ((c.tc : Thread Cert.MixbSampleRefIdeal.nD Cert.MixbSampleRefIdeal.τ).loc Cert.MixbSampleRefIdeal.main_arg2)
      ∧ r.2.mem ((c.tc : Thread Cert.MixbSampleRefIdeal.nD Cert.MixbSampleRefIdeal.τ).loc Cert.MixbSampleRefIdeal.main_arg3) = m ((c.tc : Thread Cert.MixbSampleRefIdeal.nD Cert.MixbSampleRefIdeal.τ).loc Cert.MixbSampleRefIdeal.main_arg3))
      ∧ r.2.sem = fun _ => 0)

def quiescent_MixcPrompt [hMixcPrompt : Cert.MixcPrompt.Facts] : Prop :=
  ∀ (m : (ℓ : Loc Cert.MixcPrompt.nD Cert.MixcPrompt.τ Cert.MixcPrompt.sig) → Buf (Elt Bits) ℓ) (g : Dev Cert.MixcPrompt.nD → PrngReg), Pre_MixcPrompt m →
    θ_run (Cert.MixcPrompt.defs (F := Bits)) (onTc (τ := Cert.MixcPrompt.τ) (Cert.MixcPrompt.main (F := Bits))) ⟨m, fun _ => 0, g⟩ (fun r => (∀ c : Dev Cert.MixcPrompt.nD,
      r.2.mem ((c.tc : Thread Cert.MixcPrompt.nD Cert.MixcPrompt.τ).loc Cert.MixcPrompt.main_arg0) = m ((c.tc : Thread Cert.MixcPrompt.nD Cert.MixcPrompt.τ).loc Cert.MixcPrompt.main_arg0)
      ∧ r.2.mem ((c.tc : Thread Cert.MixcPrompt.nD Cert.MixcPrompt.τ).loc Cert.MixcPrompt.main_arg1) = m ((c.tc : Thread Cert.MixcPrompt.nD Cert.MixcPrompt.τ).loc Cert.MixcPrompt.main_arg1)
      ∧ r.2.mem ((c.tc : Thread Cert.MixcPrompt.nD Cert.MixcPrompt.τ).loc Cert.MixcPrompt.main_arg2) = m ((c.tc : Thread Cert.MixcPrompt.nD Cert.MixcPrompt.τ).loc Cert.MixcPrompt.main_arg2)
      ∧ r.2.mem ((c.tc : Thread Cert.MixcPrompt.nD Cert.MixcPrompt.τ).loc Cert.MixcPrompt.main_arg3) = m ((c.tc : Thread Cert.MixcPrompt.nD Cert.MixcPrompt.τ).loc Cert.MixcPrompt.main_arg3)
      ∧ r.2.mem ((c.tc : Thread Cert.MixcPrompt.nD Cert.MixcPrompt.τ).loc Cert.MixcPrompt.main_arg4) = m ((c.tc : Thread Cert.MixcPrompt.nD Cert.MixcPrompt.τ).loc Cert.MixcPrompt.main_arg4))
      ∧ r.2.sem = fun _ => 0)

def quiescent_MixcPromptIdeal [hMixcPromptIdeal : Cert.MixcPromptIdeal.Facts] : Prop :=
  ∀ (m : (ℓ : Loc Cert.MixcPromptIdeal.nD Cert.MixcPromptIdeal.τ Cert.MixcPromptIdeal.sig) → Buf (Elt Ideal) ℓ) (g : Dev Cert.MixcPromptIdeal.nD → PrngReg), Pre_MixcPromptIdeal m →
    θ_run (Cert.MixcPromptIdeal.defs (F := Ideal)) (onTc (τ := Cert.MixcPromptIdeal.τ) (Cert.MixcPromptIdeal.main (F := Ideal))) ⟨m, fun _ => 0, g⟩ (fun r => (∀ c : Dev Cert.MixcPromptIdeal.nD,
      r.2.mem ((c.tc : Thread Cert.MixcPromptIdeal.nD Cert.MixcPromptIdeal.τ).loc Cert.MixcPromptIdeal.main_arg0) = m ((c.tc : Thread Cert.MixcPromptIdeal.nD Cert.MixcPromptIdeal.τ).loc Cert.MixcPromptIdeal.main_arg0)
      ∧ r.2.mem ((c.tc : Thread Cert.MixcPromptIdeal.nD Cert.MixcPromptIdeal.τ).loc Cert.MixcPromptIdeal.main_arg1) = m ((c.tc : Thread Cert.MixcPromptIdeal.nD Cert.MixcPromptIdeal.τ).loc Cert.MixcPromptIdeal.main_arg1)
      ∧ r.2.mem ((c.tc : Thread Cert.MixcPromptIdeal.nD Cert.MixcPromptIdeal.τ).loc Cert.MixcPromptIdeal.main_arg2) = m ((c.tc : Thread Cert.MixcPromptIdeal.nD Cert.MixcPromptIdeal.τ).loc Cert.MixcPromptIdeal.main_arg2)
      ∧ r.2.mem ((c.tc : Thread Cert.MixcPromptIdeal.nD Cert.MixcPromptIdeal.τ).loc Cert.MixcPromptIdeal.main_arg3) = m ((c.tc : Thread Cert.MixcPromptIdeal.nD Cert.MixcPromptIdeal.τ).loc Cert.MixcPromptIdeal.main_arg3)
      ∧ r.2.mem ((c.tc : Thread Cert.MixcPromptIdeal.nD Cert.MixcPromptIdeal.τ).loc Cert.MixcPromptIdeal.main_arg4) = m ((c.tc : Thread Cert.MixcPromptIdeal.nD Cert.MixcPromptIdeal.τ).loc Cert.MixcPromptIdeal.main_arg4))
      ∧ r.2.sem = fun _ => 0)

def quiescent_MixcPromptRefIdeal [hMixcPromptRefIdeal : Cert.MixcPromptRefIdeal.Facts] : Prop :=
  ∀ (m : (ℓ : Loc Cert.MixcPromptRefIdeal.nD Cert.MixcPromptRefIdeal.τ Cert.MixcPromptRefIdeal.sig) → Buf (Elt Ideal) ℓ) (g : Dev Cert.MixcPromptRefIdeal.nD → PrngReg), Pre_MixcPromptRefIdeal m →
    θ_run (Cert.MixcPromptRefIdeal.defs (F := Ideal)) (onTc (τ := Cert.MixcPromptRefIdeal.τ) (Cert.MixcPromptRefIdeal.main (F := Ideal))) ⟨m, fun _ => 0, g⟩ (fun r => (∀ c : Dev Cert.MixcPromptRefIdeal.nD,
      r.2.mem ((c.tc : Thread Cert.MixcPromptRefIdeal.nD Cert.MixcPromptRefIdeal.τ).loc Cert.MixcPromptRefIdeal.main_arg0) = m ((c.tc : Thread Cert.MixcPromptRefIdeal.nD Cert.MixcPromptRefIdeal.τ).loc Cert.MixcPromptRefIdeal.main_arg0)
      ∧ r.2.mem ((c.tc : Thread Cert.MixcPromptRefIdeal.nD Cert.MixcPromptRefIdeal.τ).loc Cert.MixcPromptRefIdeal.main_arg1) = m ((c.tc : Thread Cert.MixcPromptRefIdeal.nD Cert.MixcPromptRefIdeal.τ).loc Cert.MixcPromptRefIdeal.main_arg1)
      ∧ r.2.mem ((c.tc : Thread Cert.MixcPromptRefIdeal.nD Cert.MixcPromptRefIdeal.τ).loc Cert.MixcPromptRefIdeal.main_arg2) = m ((c.tc : Thread Cert.MixcPromptRefIdeal.nD Cert.MixcPromptRefIdeal.τ).loc Cert.MixcPromptRefIdeal.main_arg2)
      ∧ r.2.mem ((c.tc : Thread Cert.MixcPromptRefIdeal.nD Cert.MixcPromptRefIdeal.τ).loc Cert.MixcPromptRefIdeal.main_arg3) = m ((c.tc : Thread Cert.MixcPromptRefIdeal.nD Cert.MixcPromptRefIdeal.τ).loc Cert.MixcPromptRefIdeal.main_arg3)
      ∧ r.2.mem ((c.tc : Thread Cert.MixcPromptRefIdeal.nD Cert.MixcPromptRefIdeal.τ).loc Cert.MixcPromptRefIdeal.main_arg4) = m ((c.tc : Thread Cert.MixcPromptRefIdeal.nD Cert.MixcPromptRefIdeal.τ).loc Cert.MixcPromptRefIdeal.main_arg4))
      ∧ r.2.sem = fun _ => 0)

def quiescent_MixcSample [hMixcSample : Cert.MixcSample.Facts] : Prop :=
  ∀ (m : (ℓ : Loc Cert.MixcSample.nD Cert.MixcSample.τ Cert.MixcSample.sig) → Buf (Elt Bits) ℓ) (g : Dev Cert.MixcSample.nD → PrngReg), Pre_MixcSample m →
    θ_run (Cert.MixcSample.defs (F := Bits)) (onTc (τ := Cert.MixcSample.τ) (Cert.MixcSample.main (F := Bits))) ⟨m, fun _ => 0, g⟩ (fun r => (∀ c : Dev Cert.MixcSample.nD,
      r.2.mem ((c.tc : Thread Cert.MixcSample.nD Cert.MixcSample.τ).loc Cert.MixcSample.main_arg0) = m ((c.tc : Thread Cert.MixcSample.nD Cert.MixcSample.τ).loc Cert.MixcSample.main_arg0)
      ∧ r.2.mem ((c.tc : Thread Cert.MixcSample.nD Cert.MixcSample.τ).loc Cert.MixcSample.main_arg1) = m ((c.tc : Thread Cert.MixcSample.nD Cert.MixcSample.τ).loc Cert.MixcSample.main_arg1)
      ∧ r.2.mem ((c.tc : Thread Cert.MixcSample.nD Cert.MixcSample.τ).loc Cert.MixcSample.main_arg2) = m ((c.tc : Thread Cert.MixcSample.nD Cert.MixcSample.τ).loc Cert.MixcSample.main_arg2)
      ∧ r.2.mem ((c.tc : Thread Cert.MixcSample.nD Cert.MixcSample.τ).loc Cert.MixcSample.main_arg3) = m ((c.tc : Thread Cert.MixcSample.nD Cert.MixcSample.τ).loc Cert.MixcSample.main_arg3)
      ∧ r.2.mem ((c.tc : Thread Cert.MixcSample.nD Cert.MixcSample.τ).loc Cert.MixcSample.main_arg4) = m ((c.tc : Thread Cert.MixcSample.nD Cert.MixcSample.τ).loc Cert.MixcSample.main_arg4)
      ∧ r.2.mem ((c.tc : Thread Cert.MixcSample.nD Cert.MixcSample.τ).loc Cert.MixcSample.main_arg5) = m ((c.tc : Thread Cert.MixcSample.nD Cert.MixcSample.τ).loc Cert.MixcSample.main_arg5)
      ∧ r.2.mem ((c.tc : Thread Cert.MixcSample.nD Cert.MixcSample.τ).loc Cert.MixcSample.main_arg6) = m ((c.tc : Thread Cert.MixcSample.nD Cert.MixcSample.τ).loc Cert.MixcSample.main_arg6))
      ∧ r.2.sem = fun _ => 0)

def quiescent_MixcSampleIdeal [hMixcSampleIdeal : Cert.MixcSampleIdeal.Facts] : Prop :=
  ∀ (m : (ℓ : Loc Cert.MixcSampleIdeal.nD Cert.MixcSampleIdeal.τ Cert.MixcSampleIdeal.sig) → Buf (Elt Ideal) ℓ) (g : Dev Cert.MixcSampleIdeal.nD → PrngReg), Pre_MixcSampleIdeal m →
    θ_run (Cert.MixcSampleIdeal.defs (F := Ideal)) (onTc (τ := Cert.MixcSampleIdeal.τ) (Cert.MixcSampleIdeal.main (F := Ideal))) ⟨m, fun _ => 0, g⟩ (fun r => (∀ c : Dev Cert.MixcSampleIdeal.nD,
      r.2.mem ((c.tc : Thread Cert.MixcSampleIdeal.nD Cert.MixcSampleIdeal.τ).loc Cert.MixcSampleIdeal.main_arg0) = m ((c.tc : Thread Cert.MixcSampleIdeal.nD Cert.MixcSampleIdeal.τ).loc Cert.MixcSampleIdeal.main_arg0)
      ∧ r.2.mem ((c.tc : Thread Cert.MixcSampleIdeal.nD Cert.MixcSampleIdeal.τ).loc Cert.MixcSampleIdeal.main_arg1) = m ((c.tc : Thread Cert.MixcSampleIdeal.nD Cert.MixcSampleIdeal.τ).loc Cert.MixcSampleIdeal.main_arg1)
      ∧ r.2.mem ((c.tc : Thread Cert.MixcSampleIdeal.nD Cert.MixcSampleIdeal.τ).loc Cert.MixcSampleIdeal.main_arg2) = m ((c.tc : Thread Cert.MixcSampleIdeal.nD Cert.MixcSampleIdeal.τ).loc Cert.MixcSampleIdeal.main_arg2)
      ∧ r.2.mem ((c.tc : Thread Cert.MixcSampleIdeal.nD Cert.MixcSampleIdeal.τ).loc Cert.MixcSampleIdeal.main_arg3) = m ((c.tc : Thread Cert.MixcSampleIdeal.nD Cert.MixcSampleIdeal.τ).loc Cert.MixcSampleIdeal.main_arg3)
      ∧ r.2.mem ((c.tc : Thread Cert.MixcSampleIdeal.nD Cert.MixcSampleIdeal.τ).loc Cert.MixcSampleIdeal.main_arg4) = m ((c.tc : Thread Cert.MixcSampleIdeal.nD Cert.MixcSampleIdeal.τ).loc Cert.MixcSampleIdeal.main_arg4)
      ∧ r.2.mem ((c.tc : Thread Cert.MixcSampleIdeal.nD Cert.MixcSampleIdeal.τ).loc Cert.MixcSampleIdeal.main_arg5) = m ((c.tc : Thread Cert.MixcSampleIdeal.nD Cert.MixcSampleIdeal.τ).loc Cert.MixcSampleIdeal.main_arg5)
      ∧ r.2.mem ((c.tc : Thread Cert.MixcSampleIdeal.nD Cert.MixcSampleIdeal.τ).loc Cert.MixcSampleIdeal.main_arg6) = m ((c.tc : Thread Cert.MixcSampleIdeal.nD Cert.MixcSampleIdeal.τ).loc Cert.MixcSampleIdeal.main_arg6))
      ∧ r.2.sem = fun _ => 0)

def quiescent_MixcSampleRefIdeal [hMixcSampleRefIdeal : Cert.MixcSampleRefIdeal.Facts] : Prop :=
  ∀ (m : (ℓ : Loc Cert.MixcSampleRefIdeal.nD Cert.MixcSampleRefIdeal.τ Cert.MixcSampleRefIdeal.sig) → Buf (Elt Ideal) ℓ) (g : Dev Cert.MixcSampleRefIdeal.nD → PrngReg), Pre_MixcSampleRefIdeal m →
    θ_run (Cert.MixcSampleRefIdeal.defs (F := Ideal)) (onTc (τ := Cert.MixcSampleRefIdeal.τ) (Cert.MixcSampleRefIdeal.main (F := Ideal))) ⟨m, fun _ => 0, g⟩ (fun r => (∀ c : Dev Cert.MixcSampleRefIdeal.nD,
      r.2.mem ((c.tc : Thread Cert.MixcSampleRefIdeal.nD Cert.MixcSampleRefIdeal.τ).loc Cert.MixcSampleRefIdeal.main_arg0) = m ((c.tc : Thread Cert.MixcSampleRefIdeal.nD Cert.MixcSampleRefIdeal.τ).loc Cert.MixcSampleRefIdeal.main_arg0)
      ∧ r.2.mem ((c.tc : Thread Cert.MixcSampleRefIdeal.nD Cert.MixcSampleRefIdeal.τ).loc Cert.MixcSampleRefIdeal.main_arg1) = m ((c.tc : Thread Cert.MixcSampleRefIdeal.nD Cert.MixcSampleRefIdeal.τ).loc Cert.MixcSampleRefIdeal.main_arg1)
      ∧ r.2.mem ((c.tc : Thread Cert.MixcSampleRefIdeal.nD Cert.MixcSampleRefIdeal.τ).loc Cert.MixcSampleRefIdeal.main_arg2) = m ((c.tc : Thread Cert.MixcSampleRefIdeal.nD Cert.MixcSampleRefIdeal.τ).loc Cert.MixcSampleRefIdeal.main_arg2)
      ∧ r.2.mem ((c.tc : Thread Cert.MixcSampleRefIdeal.nD Cert.MixcSampleRefIdeal.τ).loc Cert.MixcSampleRefIdeal.main_arg3) = m ((c.tc : Thread Cert.MixcSampleRefIdeal.nD Cert.MixcSampleRefIdeal.τ).loc Cert.MixcSampleRefIdeal.main_arg3)
      ∧ r.2.mem ((c.tc : Thread Cert.MixcSampleRefIdeal.nD Cert.MixcSampleRefIdeal.τ).loc Cert.MixcSampleRefIdeal.main_arg4) = m ((c.tc : Thread Cert.MixcSampleRefIdeal.nD Cert.MixcSampleRefIdeal.τ).loc Cert.MixcSampleRefIdeal.main_arg4)
      ∧ r.2.mem ((c.tc : Thread Cert.MixcSampleRefIdeal.nD Cert.MixcSampleRefIdeal.τ).loc Cert.MixcSampleRefIdeal.main_arg5) = m ((c.tc : Thread Cert.MixcSampleRefIdeal.nD Cert.MixcSampleRefIdeal.τ).loc Cert.MixcSampleRefIdeal.main_arg5)
      ∧ r.2.mem ((c.tc : Thread Cert.MixcSampleRefIdeal.nD Cert.MixcSampleRefIdeal.τ).loc Cert.MixcSampleRefIdeal.main_arg6) = m ((c.tc : Thread Cert.MixcSampleRefIdeal.nD Cert.MixcSampleRefIdeal.τ).loc Cert.MixcSampleRefIdeal.main_arg6))
      ∧ r.2.sem = fun _ => 0)

def preserves_Attn_AttnIdeal : Prop :=
  IdealRules.named_const.Statement Cert.AttnIdeal.κ "mask" .f32 0xF149F2CA#32 ⊥

def algebraic_AttnIdeal_AttnRefIdeal_on_prompt_rows_pre_finite_scores [hAttnIdeal : Cert.AttnIdeal.Facts] [hAttnRefIdeal : Cert.AttnRefIdeal.Facts] [hPre_finite_scores : Cert.Pre_finite_scores.Facts] [hOn_prompt_rows : Cert.On_prompt_rows.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v34)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![16896, 2048]⟩ : Shape).Idx, (Cert.On_prompt_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) i = 1#1 → r.2.mem ((c.tc : Thread Cert.AttnIdeal.nD Cert.AttnIdeal.τ).loc Cert.AttnIdeal.main_v34) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![16896, 2048]⟩ : Shape).Idx, (Cert.On_prompt_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) i = 1#1 → r.2.mem ((c.tc : Thread Cert.AttnRefIdeal.nD Cert.AttnRefIdeal.τ).loc Cert.AttnRefIdeal.main_v92) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InprojKv_InprojKvIdeal : Prop :=
  True

def algebraic_InprojKvIdeal_InprojKvRefIdeal [hInprojKvIdeal : Cert.InprojKvIdeal.Facts] [hInprojKvRefIdeal : Cert.InprojKvRefIdeal.Facts] : Prop :=
  ∀ (m : (ℓ : Loc Cert.InprojKvIdeal.nD Cert.InprojKvIdeal.τ Cert.InprojKvIdeal.sig) → Buf (Elt Ideal) ℓ) (g : Dev Cert.InprojKvIdeal.nD → PrngReg)
    (m' : (ℓ : Loc Cert.InprojKvRefIdeal.nD Cert.InprojKvRefIdeal.τ Cert.InprojKvRefIdeal.sig) → Buf (Elt Ideal) ℓ) (g' : Dev Cert.InprojKvRefIdeal.nD → PrngReg), Pre_InprojKvIdeal m →
    (∀ c : Dev Cert.InprojKvIdeal.nD,
      m' ((c.tc : Thread Cert.InprojKvRefIdeal.nD Cert.InprojKvRefIdeal.τ).loc Cert.InprojKvRefIdeal.main_arg0) = m ((c.tc : Thread Cert.InprojKvIdeal.nD Cert.InprojKvIdeal.τ).loc Cert.InprojKvIdeal.main_arg0)
      ∧ m' ((c.tc : Thread Cert.InprojKvRefIdeal.nD Cert.InprojKvRefIdeal.τ).loc Cert.InprojKvRefIdeal.main_arg1) = m ((c.tc : Thread Cert.InprojKvIdeal.nD Cert.InprojKvIdeal.τ).loc Cert.InprojKvIdeal.main_arg1)) →
    ∃ (v0 : (c : Dev Cert.InprojKvIdeal.nD) → Buf (Elt Ideal) ((c.tc : Thread Cert.InprojKvIdeal.nD Cert.InprojKvIdeal.τ).loc Cert.InprojKvIdeal.main_v1_0)) (v1 : (c : Dev Cert.InprojKvIdeal.nD) → Buf (Elt Ideal) ((c.tc : Thread Cert.InprojKvIdeal.nD Cert.InprojKvIdeal.τ).loc Cert.InprojKvIdeal.main_v1_1)),
      θ_run (Cert.InprojKvIdeal.defs (F := Ideal)) (onTc (τ := Cert.InprojKvIdeal.τ) (Cert.InprojKvIdeal.main (F := Ideal))) ⟨m, fun _ => 0, g⟩ (fun r => ∀ c : Dev Cert.InprojKvIdeal.nD,
          r.2.mem ((c.tc : Thread Cert.InprojKvIdeal.nD Cert.InprojKvIdeal.τ).loc Cert.InprojKvIdeal.main_v1_0) = v0 c
          ∧ r.2.mem ((c.tc : Thread Cert.InprojKvIdeal.nD Cert.InprojKvIdeal.τ).loc Cert.InprojKvIdeal.main_v1_1) = v1 c
          ∧ r.2.mem ((c.tc : Thread Cert.InprojKvIdeal.nD Cert.InprojKvIdeal.τ).loc Cert.InprojKvIdeal.main_arg0) = m ((c.tc : Thread Cert.InprojKvIdeal.nD Cert.InprojKvIdeal.τ).loc Cert.InprojKvIdeal.main_arg0)
          ∧ r.2.mem ((c.tc : Thread Cert.InprojKvIdeal.nD Cert.InprojKvIdeal.τ).loc Cert.InprojKvIdeal.main_arg1) = m ((c.tc : Thread Cert.InprojKvIdeal.nD Cert.InprojKvIdeal.τ).loc Cert.InprojKvIdeal.main_arg1))
      ∧ θ_run (Cert.InprojKvRefIdeal.defs (F := Ideal)) (onTc (τ := Cert.InprojKvRefIdeal.τ) (Cert.InprojKvRefIdeal.main (F := Ideal))) ⟨m', fun _ => 0, g'⟩ (fun r => ∀ c : Dev Cert.InprojKvRefIdeal.nD,
          r.2.mem ((c.tc : Thread Cert.InprojKvRefIdeal.nD Cert.InprojKvRefIdeal.τ).loc Cert.InprojKvRefIdeal.main_v3) = v0 c
          ∧ r.2.mem ((c.tc : Thread Cert.InprojKvRefIdeal.nD Cert.InprojKvRefIdeal.τ).loc Cert.InprojKvRefIdeal.main_v2) = v1 c
          ∧ r.2.mem ((c.tc : Thread Cert.InprojKvRefIdeal.nD Cert.InprojKvRefIdeal.τ).loc Cert.InprojKvRefIdeal.main_arg0) = m' ((c.tc : Thread Cert.InprojKvRefIdeal.nD Cert.InprojKvRefIdeal.τ).loc Cert.InprojKvRefIdeal.main_arg0)
          ∧ r.2.mem ((c.tc : Thread Cert.InprojKvRefIdeal.nD Cert.InprojKvRefIdeal.τ).loc Cert.InprojKvRefIdeal.main_arg1) = m' ((c.tc : Thread Cert.InprojKvRefIdeal.nD Cert.InprojKvRefIdeal.τ).loc Cert.InprojKvRefIdeal.main_arg1))

def preserves_InprojRest_InprojRestIdeal : Prop :=
  True

def algebraic_InprojRestIdeal_InprojRestRefIdeal [hInprojRestIdeal : Cert.InprojRestIdeal.Facts] [hInprojRestRefIdeal : Cert.InprojRestRefIdeal.Facts] : Prop :=
  ∀ (m : (ℓ : Loc Cert.InprojRestIdeal.nD Cert.InprojRestIdeal.τ Cert.InprojRestIdeal.sig) → Buf (Elt Ideal) ℓ) (g : Dev Cert.InprojRestIdeal.nD → PrngReg)
    (m' : (ℓ : Loc Cert.InprojRestRefIdeal.nD Cert.InprojRestRefIdeal.τ Cert.InprojRestRefIdeal.sig) → Buf (Elt Ideal) ℓ) (g' : Dev Cert.InprojRestRefIdeal.nD → PrngReg), Pre_InprojRestIdeal m →
    (∀ c : Dev Cert.InprojRestIdeal.nD,
      m' ((c.tc : Thread Cert.InprojRestRefIdeal.nD Cert.InprojRestRefIdeal.τ).loc Cert.InprojRestRefIdeal.main_arg0) = m ((c.tc : Thread Cert.InprojRestIdeal.nD Cert.InprojRestIdeal.τ).loc Cert.InprojRestIdeal.main_arg0)
      ∧ m' ((c.tc : Thread Cert.InprojRestRefIdeal.nD Cert.InprojRestRefIdeal.τ).loc Cert.InprojRestRefIdeal.main_arg1) = m ((c.tc : Thread Cert.InprojRestIdeal.nD Cert.InprojRestIdeal.τ).loc Cert.InprojRestIdeal.main_arg1)) →
    ∃ (v0 : (c : Dev Cert.InprojRestIdeal.nD) → Buf (Elt Ideal) ((c.tc : Thread Cert.InprojRestIdeal.nD Cert.InprojRestIdeal.τ).loc Cert.InprojRestIdeal.main_v1)),
      θ_run (Cert.InprojRestIdeal.defs (F := Ideal)) (onTc (τ := Cert.InprojRestIdeal.τ) (Cert.InprojRestIdeal.main (F := Ideal))) ⟨m, fun _ => 0, g⟩ (fun r => ∀ c : Dev Cert.InprojRestIdeal.nD,
          r.2.mem ((c.tc : Thread Cert.InprojRestIdeal.nD Cert.InprojRestIdeal.τ).loc Cert.InprojRestIdeal.main_v1) = v0 c
          ∧ r.2.mem ((c.tc : Thread Cert.InprojRestIdeal.nD Cert.InprojRestIdeal.τ).loc Cert.InprojRestIdeal.main_arg0) = m ((c.tc : Thread Cert.InprojRestIdeal.nD Cert.InprojRestIdeal.τ).loc Cert.InprojRestIdeal.main_arg0)
          ∧ r.2.mem ((c.tc : Thread Cert.InprojRestIdeal.nD Cert.InprojRestIdeal.τ).loc Cert.InprojRestIdeal.main_arg1) = m ((c.tc : Thread Cert.InprojRestIdeal.nD Cert.InprojRestIdeal.τ).loc Cert.InprojRestIdeal.main_arg1))
      ∧ θ_run (Cert.InprojRestRefIdeal.defs (F := Ideal)) (onTc (τ := Cert.InprojRestRefIdeal.τ) (Cert.InprojRestRefIdeal.main (F := Ideal))) ⟨m', fun _ => 0, g'⟩ (fun r => ∀ c : Dev Cert.InprojRestRefIdeal.nD,
          r.2.mem ((c.tc : Thread Cert.InprojRestRefIdeal.nD Cert.InprojRestRefIdeal.τ).loc Cert.InprojRestRefIdeal.main_v5) = v0 c
          ∧ r.2.mem ((c.tc : Thread Cert.InprojRestRefIdeal.nD Cert.InprojRestRefIdeal.τ).loc Cert.InprojRestRefIdeal.main_arg0) = m' ((c.tc : Thread Cert.InprojRestRefIdeal.nD Cert.InprojRestRefIdeal.τ).loc Cert.InprojRestRefIdeal.main_arg0)
          ∧ r.2.mem ((c.tc : Thread Cert.InprojRestRefIdeal.nD Cert.InprojRestRefIdeal.τ).loc Cert.InprojRestRefIdeal.main_arg1) = m' ((c.tc : Thread Cert.InprojRestRefIdeal.nD Cert.InprojRestRefIdeal.τ).loc Cert.InprojRestRefIdeal.main_arg1))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v3) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_NormH_NormHIdeal : Prop :=
  True

def algebraic_NormHIdeal_NormHRefIdeal [hNormHIdeal : Cert.NormHIdeal.Facts] [hNormHRefIdeal : Cert.NormHRefIdeal.Facts] : Prop :=
  ∀ (m : (ℓ : Loc Cert.NormHIdeal.nD Cert.NormHIdeal.τ Cert.NormHIdeal.sig) → Buf (Elt Ideal) ℓ) (g : Dev Cert.NormHIdeal.nD → PrngReg)
    (m' : (ℓ : Loc Cert.NormHRefIdeal.nD Cert.NormHRefIdeal.τ Cert.NormHRefIdeal.sig) → Buf (Elt Ideal) ℓ) (g' : Dev Cert.NormHRefIdeal.nD → PrngReg), Pre_NormHIdeal m →
    (∀ c : Dev Cert.NormHIdeal.nD,
      m' ((c.tc : Thread Cert.NormHRefIdeal.nD Cert.NormHRefIdeal.τ).loc Cert.NormHRefIdeal.main_arg0) = m ((c.tc : Thread Cert.NormHIdeal.nD Cert.NormHIdeal.τ).loc Cert.NormHIdeal.main_arg0)
      ∧ m' ((c.tc : Thread Cert.NormHRefIdeal.nD Cert.NormHRefIdeal.τ).loc Cert.NormHRefIdeal.main_arg1) = m ((c.tc : Thread Cert.NormHIdeal.nD Cert.NormHIdeal.τ).loc Cert.NormHIdeal.main_arg1)) →
    ∃ (v0 : (c : Dev Cert.NormHIdeal.nD) → Buf (Elt Ideal) ((c.tc : Thread Cert.NormHIdeal.nD Cert.NormHIdeal.τ).loc Cert.NormHIdeal.main_v1)),
      θ_run (Cert.NormHIdeal.defs (F := Ideal)) (onTc (τ := Cert.NormHIdeal.τ) (Cert.NormHIdeal.main (F := Ideal))) ⟨m, fun _ => 0, g⟩ (fun r => ∀ c : Dev Cert.NormHIdeal.nD,
          r.2.mem ((c.tc : Thread Cert.NormHIdeal.nD Cert.NormHIdeal.τ).loc Cert.NormHIdeal.main_v1) = v0 c
          ∧ r.2.mem ((c.tc : Thread Cert.NormHIdeal.nD Cert.NormHIdeal.τ).loc Cert.NormHIdeal.main_arg0) = m ((c.tc : Thread Cert.NormHIdeal.nD Cert.NormHIdeal.τ).loc Cert.NormHIdeal.main_arg0)
          ∧ r.2.mem ((c.tc : Thread Cert.NormHIdeal.nD Cert.NormHIdeal.τ).loc Cert.NormHIdeal.main_arg1) = m ((c.tc : Thread Cert.NormHIdeal.nD Cert.NormHIdeal.τ).loc Cert.NormHIdeal.main_arg1))
      ∧ θ_run (Cert.NormHRefIdeal.defs (F := Ideal)) (onTc (τ := Cert.NormHRefIdeal.τ) (Cert.NormHRefIdeal.main (F := Ideal))) ⟨m', fun _ => 0, g'⟩ (fun r => ∀ c : Dev Cert.NormHRefIdeal.nD,
          r.2.mem ((c.tc : Thread Cert.NormHRefIdeal.nD Cert.NormHRefIdeal.τ).loc Cert.NormHRefIdeal.main_v13) = v0 c
          ∧ r.2.mem ((c.tc : Thread Cert.NormHRefIdeal.nD Cert.NormHRefIdeal.τ).loc Cert.NormHRefIdeal.main_arg0) = m' ((c.tc : Thread Cert.NormHRefIdeal.nD Cert.NormHRefIdeal.τ).loc Cert.NormHRefIdeal.main_arg0)
          ∧ r.2.mem ((c.tc : Thread Cert.NormHRefIdeal.nD Cert.NormHRefIdeal.τ).loc Cert.NormHRefIdeal.main_arg1) = m' ((c.tc : Thread Cert.NormHRefIdeal.nD Cert.NormHRefIdeal.τ).loc Cert.NormHRefIdeal.main_arg1))

def preserves_NormPrompt_NormPromptIdeal : Prop :=
  True

def algebraic_NormPromptIdeal_NormPromptRefIdeal [hNormPromptIdeal : Cert.NormPromptIdeal.Facts] [hNormPromptRefIdeal : Cert.NormPromptRefIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptRefIdeal.nD Cert.NormPromptRefIdeal.τ Cert.NormPromptRefIdeal.sig) → Buf (Elt Ideal) ℓ) (g' : Dev Cert.NormPromptRefIdeal.nD → PrngReg), Pre_NormPromptIdeal m →
    (∀ c : Dev Cert.NormPromptIdeal.nD,
      m' ((c.tc : Thread Cert.NormPromptRefIdeal.nD Cert.NormPromptRefIdeal.τ).loc Cert.NormPromptRefIdeal.main_arg0) = m ((c.tc : Thread Cert.NormPromptIdeal.nD Cert.NormPromptIdeal.τ).loc Cert.NormPromptIdeal.main_arg0)
      ∧ m' ((c.tc : Thread Cert.NormPromptRefIdeal.nD Cert.NormPromptRefIdeal.τ).loc Cert.NormPromptRefIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v1)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v1) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptRefIdeal.defs (F := Ideal)) (onTc (τ := Cert.NormPromptRefIdeal.τ) (Cert.NormPromptRefIdeal.main (F := Ideal))) ⟨m', fun _ => 0, g'⟩ (fun r => ∀ c : Dev Cert.NormPromptRefIdeal.nD,
          r.2.mem ((c.tc : Thread Cert.NormPromptRefIdeal.nD Cert.NormPromptRefIdeal.τ).loc Cert.NormPromptRefIdeal.main_v13) = v0 c
          ∧ r.2.mem ((c.tc : Thread Cert.NormPromptRefIdeal.nD Cert.NormPromptRefIdeal.τ).loc Cert.NormPromptRefIdeal.main_arg0) = m' ((c.tc : Thread Cert.NormPromptRefIdeal.nD Cert.NormPromptRefIdeal.τ).loc Cert.NormPromptRefIdeal.main_arg0)
          ∧ r.2.mem ((c.tc : Thread Cert.NormPromptRefIdeal.nD Cert.NormPromptRefIdeal.τ).loc Cert.NormPromptRefIdeal.main_arg1) = m' ((c.tc : Thread Cert.NormPromptRefIdeal.nD Cert.NormPromptRefIdeal.τ).loc Cert.NormPromptRefIdeal.main_arg1))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v13) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1))

def preserves_MixbPrompt_MixbPromptIdeal : Prop :=
  True

def algebraic_MixbPromptIdeal_MixbPromptRefIdeal_on_mixb_prompt_written [hMixbPromptIdeal : Cert.MixbPromptIdeal.Facts] [hMixbPromptRefIdeal : Cert.MixbPromptRefIdeal.Facts] [hOn_mixb_prompt_written : Cert.On_mixb_prompt_written.Facts] : Prop :=
  ∀ (m : (ℓ : Loc Cert.MixbPromptIdeal.nD Cert.MixbPromptIdeal.τ Cert.MixbPromptIdeal.sig) → Buf (Elt Ideal) ℓ) (g : Dev Cert.MixbPromptIdeal.nD → PrngReg)
    (m' : (ℓ : Loc Cert.MixbPromptRefIdeal.nD Cert.MixbPromptRefIdeal.τ Cert.MixbPromptRefIdeal.sig) → Buf (Elt Ideal) ℓ) (g' : Dev Cert.MixbPromptRefIdeal.nD → PrngReg), Pre_MixbPromptIdeal m →
    (∀ c : Dev Cert.MixbPromptIdeal.nD,
      m' ((c.tc : Thread Cert.MixbPromptRefIdeal.nD Cert.MixbPromptRefIdeal.τ).loc Cert.MixbPromptRefIdeal.main_arg0) = m ((c.tc : Thread Cert.MixbPromptIdeal.nD Cert.MixbPromptIdeal.τ).loc Cert.MixbPromptIdeal.main_arg0)
      ∧ m' ((c.tc : Thread Cert.MixbPromptRefIdeal.nD Cert.MixbPromptRefIdeal.τ).loc Cert.MixbPromptRefIdeal.main_arg1) = m ((c.tc : Thread Cert.MixbPromptIdeal.nD Cert.MixbPromptIdeal.τ).loc Cert.MixbPromptIdeal.main_arg1)) →
    ∃ (v0 : (c : Dev Cert.MixbPromptIdeal.nD) → Buf (Elt Ideal) ((c.tc : Thread Cert.MixbPromptIdeal.nD Cert.MixbPromptIdeal.τ).loc Cert.MixbPromptIdeal.main_v0_0)) (v1 : (c : Dev Cert.MixbPromptIdeal.nD) → Buf (Elt Ideal) ((c.tc : Thread Cert.MixbPromptIdeal.nD Cert.MixbPromptIdeal.τ).loc Cert.MixbPromptIdeal.main_v0_1)),
      θ_run (Cert.MixbPromptIdeal.defs (F := Ideal)) (onTc (τ := Cert.MixbPromptIdeal.τ) (Cert.MixbPromptIdeal.main (F := Ideal))) ⟨m, fun _ => 0, g⟩ (fun r => ∀ c : Dev Cert.MixbPromptIdeal.nD,
          (∀ i : (⟨2, ![16896, 1024]⟩ : Shape).Idx, (Cert.On_mixb_prompt_written.fn (F := Ideal) (m ((c.tc : Thread Cert.MixbPromptIdeal.nD Cert.MixbPromptIdeal.τ).loc Cert.MixbPromptIdeal.main_arg0)) (m ((c.tc : Thread Cert.MixbPromptIdeal.nD Cert.MixbPromptIdeal.τ).loc Cert.MixbPromptIdeal.main_arg1))).1 i = 1#1 → r.2.mem ((c.tc : Thread Cert.MixbPromptIdeal.nD Cert.MixbPromptIdeal.τ).loc Cert.MixbPromptIdeal.main_v0_0) i = v0 c i)
          ∧ (∀ i : (⟨3, ![8, 8, 1024]⟩ : Shape).Idx, (Cert.On_mixb_prompt_written.fn (F := Ideal) (m ((c.tc : Thread Cert.MixbPromptIdeal.nD Cert.MixbPromptIdeal.τ).loc Cert.MixbPromptIdeal.main_arg0)) (m ((c.tc : Thread Cert.MixbPromptIdeal.nD Cert.MixbPromptIdeal.τ).loc Cert.MixbPromptIdeal.main_arg1))).2 i = 1#1 → r.2.mem ((c.tc : Thread Cert.MixbPromptIdeal.nD Cert.MixbPromptIdeal.τ).loc Cert.MixbPromptIdeal.main_v0_1) i = v1 c i)
          ∧ r.2.mem ((c.tc : Thread Cert.MixbPromptIdeal.nD Cert.MixbPromptIdeal.τ).loc Cert.MixbPromptIdeal.main_arg0) = m ((c.tc : Thread Cert.MixbPromptIdeal.nD Cert.MixbPromptIdeal.τ).loc Cert.MixbPromptIdeal.main_arg0)
          ∧ r.2.mem ((c.tc : Thread Cert.MixbPromptIdeal.nD Cert.MixbPromptIdeal.τ).loc Cert.MixbPromptIdeal.main_arg1) = m ((c.tc : Thread Cert.MixbPromptIdeal.nD Cert.MixbPromptIdeal.τ).loc Cert.MixbPromptIdeal.main_arg1))
      ∧ θ_run (Cert.MixbPromptRefIdeal.defs (F := Ideal)) (onTc (τ := Cert.MixbPromptRefIdeal.τ) (Cert.MixbPromptRefIdeal.main (F := Ideal))) ⟨m', fun _ => 0, g'⟩ (fun r => ∀ c : Dev Cert.MixbPromptRefIdeal.nD,
          (∀ i : (⟨2, ![16896, 1024]⟩ : Shape).Idx, (Cert.On_mixb_prompt_written.fn (F := Ideal) (m ((c.tc : Thread Cert.MixbPromptIdeal.nD Cert.MixbPromptIdeal.τ).loc Cert.MixbPromptIdeal.main_arg0)) (m ((c.tc : Thread Cert.MixbPromptIdeal.nD Cert.MixbPromptIdeal.τ).loc Cert.MixbPromptIdeal.main_arg1))).1 i = 1#1 → r.2.mem ((c.tc : Thread Cert.MixbPromptRefIdeal.nD Cert.MixbPromptRefIdeal.τ).loc Cert.MixbPromptRefIdeal.main_v34) i = v0 c i)
          ∧ (∀ i : (⟨3, ![8, 8, 1024]⟩ : Shape).Idx, (Cert.On_mixb_prompt_written.fn (F := Ideal) (m ((c.tc : Thread Cert.MixbPromptIdeal.nD Cert.MixbPromptIdeal.τ).loc Cert.MixbPromptIdeal.main_arg0)) (m ((c.tc : Thread Cert.MixbPromptIdeal.nD Cert.MixbPromptIdeal.τ).loc Cert.MixbPromptIdeal.main_arg1))).2 i = 1#1 → r.2.mem ((c.tc : Thread Cert.MixbPromptRefIdeal.nD Cert.MixbPromptRefIdeal.τ).loc Cert.MixbPromptRefIdeal.main_v35) i = v1 c i)
          ∧ r.2.mem ((c.tc : Thread Cert.MixbPromptRefIdeal.nD Cert.MixbPromptRefIdeal.τ).loc Cert.MixbPromptRefIdeal.main_arg0) = m' ((c.tc : Thread Cert.MixbPromptRefIdeal.nD Cert.MixbPromptRefIdeal.τ).loc Cert.MixbPromptRefIdeal.main_arg0)
          ∧ r.2.mem ((c.tc : Thread Cert.MixbPromptRefIdeal.nD Cert.MixbPromptRefIdeal.τ).loc Cert.MixbPromptRefIdeal.main_arg1) = m' ((c.tc : Thread Cert.MixbPromptRefIdeal.nD Cert.MixbPromptRefIdeal.τ).loc Cert.MixbPromptRefIdeal.main_arg1))

def preserves_MixbSample_MixbSampleIdeal : Prop :=
  True

def algebraic_MixbSampleIdeal_MixbSampleRefIdeal_on_mixb_sample_kept [hMixbSampleIdeal : Cert.MixbSampleIdeal.Facts] [hMixbSampleRefIdeal : Cert.MixbSampleRefIdeal.Facts] [hOn_mixb_sample_kept : Cert.On_mixb_sample_kept.Facts] : Prop :=
  ∀ (m : (ℓ : Loc Cert.MixbSampleIdeal.nD Cert.MixbSampleIdeal.τ Cert.MixbSampleIdeal.sig) → Buf (Elt Ideal) ℓ) (g : Dev Cert.MixbSampleIdeal.nD → PrngReg)
    (m' : (ℓ : Loc Cert.MixbSampleRefIdeal.nD Cert.MixbSampleRefIdeal.τ Cert.MixbSampleRefIdeal.sig) → Buf (Elt Ideal) ℓ) (g' : Dev Cert.MixbSampleRefIdeal.nD → PrngReg), Pre_MixbSampleIdeal m →
    (∀ c : Dev Cert.MixbSampleIdeal.nD,
      m' ((c.tc : Thread Cert.MixbSampleRefIdeal.nD Cert.MixbSampleRefIdeal.τ).loc Cert.MixbSampleRefIdeal.main_arg0) = m ((c.tc : Thread Cert.MixbSampleIdeal.nD Cert.MixbSampleIdeal.τ).loc Cert.MixbSampleIdeal.main_arg0)
      ∧ m' ((c.tc : Thread Cert.MixbSampleRefIdeal.nD Cert.MixbSampleRefIdeal.τ).loc Cert.MixbSampleRefIdeal.main_arg1) = m ((c.tc : Thread Cert.MixbSampleIdeal.nD Cert.MixbSampleIdeal.τ).loc Cert.MixbSampleIdeal.main_arg1)
      ∧ m' ((c.tc : Thread Cert.MixbSampleRefIdeal.nD Cert.MixbSampleRefIdeal.τ).loc Cert.MixbSampleRefIdeal.main_arg2) = m ((c.tc : Thread Cert.MixbSampleIdeal.nD Cert.MixbSampleIdeal.τ).loc Cert.MixbSampleIdeal.main_arg2)
      ∧ m' ((c.tc : Thread Cert.MixbSampleRefIdeal.nD Cert.MixbSampleRefIdeal.τ).loc Cert.MixbSampleRefIdeal.main_arg3) = m ((c.tc : Thread Cert.MixbSampleIdeal.nD Cert.MixbSampleIdeal.τ).loc Cert.MixbSampleIdeal.main_arg3)) →
    ∃ (v0 : (c : Dev Cert.MixbSampleIdeal.nD) → Buf (Elt Ideal) ((c.tc : Thread Cert.MixbSampleIdeal.nD Cert.MixbSampleIdeal.τ).loc Cert.MixbSampleIdeal.main_v1_0)) (v1 : (c : Dev Cert.MixbSampleIdeal.nD) → Buf (Elt Ideal) ((c.tc : Thread Cert.MixbSampleIdeal.nD Cert.MixbSampleIdeal.τ).loc Cert.MixbSampleIdeal.main_v1_1)),
      θ_run (Cert.MixbSampleIdeal.defs (F := Ideal)) (onTc (τ := Cert.MixbSampleIdeal.τ) (Cert.MixbSampleIdeal.main (F := Ideal))) ⟨m, fun _ => 0, g⟩ (fun r => ∀ c : Dev Cert.MixbSampleIdeal.nD,
          (∀ i : (⟨2, ![16896, 1024]⟩ : Shape).Idx, (Cert.On_mixb_sample_kept.fn (F := Ideal) (m ((c.tc : Thread Cert.MixbSampleIdeal.nD Cert.MixbSampleIdeal.τ).loc Cert.MixbSampleIdeal.main_arg0)) (m ((c.tc : Thread Cert.MixbSampleIdeal.nD Cert.MixbSampleIdeal.τ).loc Cert.MixbSampleIdeal.main_arg1)) (m ((c.tc : Thread Cert.MixbSampleIdeal.nD Cert.MixbSampleIdeal.τ).loc Cert.MixbSampleIdeal.main_arg2)) (m ((c.tc : Thread Cert.MixbSampleIdeal.nD Cert.MixbSampleIdeal.τ).loc Cert.MixbSampleIdeal.main_arg3))).1 i = 1#1 → r.2.mem ((c.tc : Thread Cert.MixbSampleIdeal.nD Cert.MixbSampleIdeal.τ).loc Cert.MixbSampleIdeal.main_v1_0) i = v0 c i)
          ∧ (∀ i : (⟨3, ![16, 8, 1024]⟩ : Shape).Idx, (Cert.On_mixb_sample_kept.fn (F := Ideal) (m ((c.tc : Thread Cert.MixbSampleIdeal.nD Cert.MixbSampleIdeal.τ).loc Cert.MixbSampleIdeal.main_arg0)) (m ((c.tc : Thread Cert.MixbSampleIdeal.nD Cert.MixbSampleIdeal.τ).loc Cert.MixbSampleIdeal.main_arg1)) (m ((c.tc : Thread Cert.MixbSampleIdeal.nD Cert.MixbSampleIdeal.τ).loc Cert.MixbSampleIdeal.main_arg2)) (m ((c.tc : Thread Cert.MixbSampleIdeal.nD Cert.MixbSampleIdeal.τ).loc Cert.MixbSampleIdeal.main_arg3))).2 i = 1#1 → r.2.mem ((c.tc : Thread Cert.MixbSampleIdeal.nD Cert.MixbSampleIdeal.τ).loc Cert.MixbSampleIdeal.main_v1_1) i = v1 c i)
          ∧ r.2.mem ((c.tc : Thread Cert.MixbSampleIdeal.nD Cert.MixbSampleIdeal.τ).loc Cert.MixbSampleIdeal.main_arg0) = m ((c.tc : Thread Cert.MixbSampleIdeal.nD Cert.MixbSampleIdeal.τ).loc Cert.MixbSampleIdeal.main_arg0)
          ∧ r.2.mem ((c.tc : Thread Cert.MixbSampleIdeal.nD Cert.MixbSampleIdeal.τ).loc Cert.MixbSampleIdeal.main_arg1) = m ((c.tc : Thread Cert.MixbSampleIdeal.nD Cert.MixbSampleIdeal.τ).loc Cert.MixbSampleIdeal.main_arg1)
          ∧ r.2.mem ((c.tc : Thread Cert.MixbSampleIdeal.nD Cert.MixbSampleIdeal.τ).loc Cert.MixbSampleIdeal.main_arg2) = m ((c.tc : Thread Cert.MixbSampleIdeal.nD Cert.MixbSampleIdeal.τ).loc Cert.MixbSampleIdeal.main_arg2)
          ∧ r.2.mem ((c.tc : Thread Cert.MixbSampleIdeal.nD Cert.MixbSampleIdeal.τ).loc Cert.MixbSampleIdeal.main_arg3) = m ((c.tc : Thread Cert.MixbSampleIdeal.nD Cert.MixbSampleIdeal.τ).loc Cert.MixbSampleIdeal.main_arg3))
      ∧ θ_run (Cert.MixbSampleRefIdeal.defs (F := Ideal)) (onTc (τ := Cert.MixbSampleRefIdeal.τ) (Cert.MixbSampleRefIdeal.main (F := Ideal))) ⟨m', fun _ => 0, g'⟩ (fun r => ∀ c : Dev Cert.MixbSampleRefIdeal.nD,
          (∀ i : (⟨2, ![16896, 1024]⟩ : Shape).Idx, (Cert.On_mixb_sample_kept.fn (F := Ideal) (m ((c.tc : Thread Cert.MixbSampleIdeal.nD Cert.MixbSampleIdeal.τ).loc Cert.MixbSampleIdeal.main_arg0)) (m ((c.tc : Thread Cert.MixbSampleIdeal.nD Cert.MixbSampleIdeal.τ).loc Cert.MixbSampleIdeal.main_arg1)) (m ((c.tc : Thread Cert.MixbSampleIdeal.nD Cert.MixbSampleIdeal.τ).loc Cert.MixbSampleIdeal.main_arg2)) (m ((c.tc : Thread Cert.MixbSampleIdeal.nD Cert.MixbSampleIdeal.τ).loc Cert.MixbSampleIdeal.main_arg3))).1 i = 1#1 → r.2.mem ((c.tc : Thread Cert.MixbSampleRefIdeal.nD Cert.MixbSampleRefIdeal.τ).loc Cert.MixbSampleRefIdeal.main_v34) i = v0 c i)
          ∧ (∀ i : (⟨3, ![16, 8, 1024]⟩ : Shape).Idx, (Cert.On_mixb_sample_kept.fn (F := Ideal) (m ((c.tc : Thread Cert.MixbSampleIdeal.nD Cert.MixbSampleIdeal.τ).loc Cert.MixbSampleIdeal.main_arg0)) (m ((c.tc : Thread Cert.MixbSampleIdeal.nD Cert.MixbSampleIdeal.τ).loc Cert.MixbSampleIdeal.main_arg1)) (m ((c.tc : Thread Cert.MixbSampleIdeal.nD Cert.MixbSampleIdeal.τ).loc Cert.MixbSampleIdeal.main_arg2)) (m ((c.tc : Thread Cert.MixbSampleIdeal.nD Cert.MixbSampleIdeal.τ).loc Cert.MixbSampleIdeal.main_arg3))).2 i = 1#1 → r.2.mem ((c.tc : Thread Cert.MixbSampleRefIdeal.nD Cert.MixbSampleRefIdeal.τ).loc Cert.MixbSampleRefIdeal.main_v35) i = v1 c i)
          ∧ r.2.mem ((c.tc : Thread Cert.MixbSampleRefIdeal.nD Cert.MixbSampleRefIdeal.τ).loc Cert.MixbSampleRefIdeal.main_arg0) = m' ((c.tc : Thread Cert.MixbSampleRefIdeal.nD Cert.MixbSampleRefIdeal.τ).loc Cert.MixbSampleRefIdeal.main_arg0)
          ∧ r.2.mem ((c.tc : Thread Cert.MixbSampleRefIdeal.nD Cert.MixbSampleRefIdeal.τ).loc Cert.MixbSampleRefIdeal.main_arg1) = m' ((c.tc : Thread Cert.MixbSampleRefIdeal.nD Cert.MixbSampleRefIdeal.τ).loc Cert.MixbSampleRefIdeal.main_arg1)
          ∧ r.2.mem ((c.tc : Thread Cert.MixbSampleRefIdeal.nD Cert.MixbSampleRefIdeal.τ).loc Cert.MixbSampleRefIdeal.main_arg2) = m' ((c.tc : Thread Cert.MixbSampleRefIdeal.nD Cert.MixbSampleRefIdeal.τ).loc Cert.MixbSampleRefIdeal.main_arg2)
          ∧ r.2.mem ((c.tc : Thread Cert.MixbSampleRefIdeal.nD Cert.MixbSampleRefIdeal.τ).loc Cert.MixbSampleRefIdeal.main_arg3) = m' ((c.tc : Thread Cert.MixbSampleRefIdeal.nD Cert.MixbSampleRefIdeal.τ).loc Cert.MixbSampleRefIdeal.main_arg3))

def preserves_MixcPrompt_MixcPromptIdeal : Prop :=
  True

def algebraic_MixcPromptIdeal_MixcPromptRefIdeal_on_mixc_prompt_written [hMixcPromptIdeal : Cert.MixcPromptIdeal.Facts] [hMixcPromptRefIdeal : Cert.MixcPromptRefIdeal.Facts] [hOn_mixc_prompt_written : Cert.On_mixc_prompt_written.Facts] : Prop :=
  ∀ (m : (ℓ : Loc Cert.MixcPromptIdeal.nD Cert.MixcPromptIdeal.τ Cert.MixcPromptIdeal.sig) → Buf (Elt Ideal) ℓ) (g : Dev Cert.MixcPromptIdeal.nD → PrngReg)
    (m' : (ℓ : Loc Cert.MixcPromptRefIdeal.nD Cert.MixcPromptRefIdeal.τ Cert.MixcPromptRefIdeal.sig) → Buf (Elt Ideal) ℓ) (g' : Dev Cert.MixcPromptRefIdeal.nD → PrngReg), Pre_MixcPromptIdeal m →
    (∀ c : Dev Cert.MixcPromptIdeal.nD,
      m' ((c.tc : Thread Cert.MixcPromptRefIdeal.nD Cert.MixcPromptRefIdeal.τ).loc Cert.MixcPromptRefIdeal.main_arg0) = m ((c.tc : Thread Cert.MixcPromptIdeal.nD Cert.MixcPromptIdeal.τ).loc Cert.MixcPromptIdeal.main_arg0)
      ∧ m' ((c.tc : Thread Cert.MixcPromptRefIdeal.nD Cert.MixcPromptRefIdeal.τ).loc Cert.MixcPromptRefIdeal.main_arg1) = m ((c.tc : Thread Cert.MixcPromptIdeal.nD Cert.MixcPromptIdeal.τ).loc Cert.MixcPromptIdeal.main_arg1)
      ∧ m' ((c.tc : Thread Cert.MixcPromptRefIdeal.nD Cert.MixcPromptRefIdeal.τ).loc Cert.MixcPromptRefIdeal.main_arg2) = m ((c.tc : Thread Cert.MixcPromptIdeal.nD Cert.MixcPromptIdeal.τ).loc Cert.MixcPromptIdeal.main_arg2)
      ∧ m' ((c.tc : Thread Cert.MixcPromptRefIdeal.nD Cert.MixcPromptRefIdeal.τ).loc Cert.MixcPromptRefIdeal.main_arg3) = m ((c.tc : Thread Cert.MixcPromptIdeal.nD Cert.MixcPromptIdeal.τ).loc Cert.MixcPromptIdeal.main_arg3)
      ∧ m' ((c.tc : Thread Cert.MixcPromptRefIdeal.nD Cert.MixcPromptRefIdeal.τ).loc Cert.MixcPromptRefIdeal.main_arg4) = m ((c.tc : Thread Cert.MixcPromptIdeal.nD Cert.MixcPromptIdeal.τ).loc Cert.MixcPromptIdeal.main_arg4)) →
    ∃ (v0 : (c : Dev Cert.MixcPromptIdeal.nD) → Buf (Elt Ideal) ((c.tc : Thread Cert.MixcPromptIdeal.nD Cert.MixcPromptIdeal.τ).loc Cert.MixcPromptIdeal.main_v3_0)) (v1 : (c : Dev Cert.MixcPromptIdeal.nD) → Buf (Elt Ideal) ((c.tc : Thread Cert.MixcPromptIdeal.nD Cert.MixcPromptIdeal.τ).loc Cert.MixcPromptIdeal.main_v3_1)),
      θ_run (Cert.MixcPromptIdeal.defs (F := Ideal)) (onTc (τ := Cert.MixcPromptIdeal.τ) (Cert.MixcPromptIdeal.main (F := Ideal))) ⟨m, fun _ => 0, g⟩ (fun r => ∀ c : Dev Cert.MixcPromptIdeal.nD,
          (∀ i : (⟨2, ![16896, 1024]⟩ : Shape).Idx, (Cert.On_mixc_prompt_written.fn (F := Ideal) (m ((c.tc : Thread Cert.MixcPromptIdeal.nD Cert.MixcPromptIdeal.τ).loc Cert.MixcPromptIdeal.main_arg0)) (m ((c.tc : Thread Cert.MixcPromptIdeal.nD Cert.MixcPromptIdeal.τ).loc Cert.MixcPromptIdeal.main_arg1)) (m ((c.tc : Thread Cert.MixcPromptIdeal.nD Cert.MixcPromptIdeal.τ).loc Cert.MixcPromptIdeal.main_arg2)) (m ((c.tc : Thread Cert.MixcPromptIdeal.nD Cert.MixcPromptIdeal.τ).loc Cert.MixcPromptIdeal.main_arg3)) (m ((c.tc : Thread Cert.MixcPromptIdeal.nD Cert.MixcPromptIdeal.τ).loc Cert.MixcPromptIdeal.main_arg4))).1 i = 1#1 → r.2.mem ((c.tc : Thread Cert.MixcPromptIdeal.nD Cert.MixcPromptIdeal.τ).loc Cert.MixcPromptIdeal.main_v3_0) i = v0 c i)
          ∧ (∀ i : (⟨3, ![8, 32, 1024]⟩ : Shape).Idx, (Cert.On_mixc_prompt_written.fn (F := Ideal) (m ((c.tc : Thread Cert.MixcPromptIdeal.nD Cert.MixcPromptIdeal.τ).loc Cert.MixcPromptIdeal.main_arg0)) (m ((c.tc : Thread Cert.MixcPromptIdeal.nD Cert.MixcPromptIdeal.τ).loc Cert.MixcPromptIdeal.main_arg1)) (m ((c.tc : Thread Cert.MixcPromptIdeal.nD Cert.MixcPromptIdeal.τ).loc Cert.MixcPromptIdeal.main_arg2)) (m ((c.tc : Thread Cert.MixcPromptIdeal.nD Cert.MixcPromptIdeal.τ).loc Cert.MixcPromptIdeal.main_arg3)) (m ((c.tc : Thread Cert.MixcPromptIdeal.nD Cert.MixcPromptIdeal.τ).loc Cert.MixcPromptIdeal.main_arg4))).2 i = 1#1 → r.2.mem ((c.tc : Thread Cert.MixcPromptIdeal.nD Cert.MixcPromptIdeal.τ).loc Cert.MixcPromptIdeal.main_v3_1) i = v1 c i)
          ∧ r.2.mem ((c.tc : Thread Cert.MixcPromptIdeal.nD Cert.MixcPromptIdeal.τ).loc Cert.MixcPromptIdeal.main_arg0) = m ((c.tc : Thread Cert.MixcPromptIdeal.nD Cert.MixcPromptIdeal.τ).loc Cert.MixcPromptIdeal.main_arg0)
          ∧ r.2.mem ((c.tc : Thread Cert.MixcPromptIdeal.nD Cert.MixcPromptIdeal.τ).loc Cert.MixcPromptIdeal.main_arg1) = m ((c.tc : Thread Cert.MixcPromptIdeal.nD Cert.MixcPromptIdeal.τ).loc Cert.MixcPromptIdeal.main_arg1)
          ∧ r.2.mem ((c.tc : Thread Cert.MixcPromptIdeal.nD Cert.MixcPromptIdeal.τ).loc Cert.MixcPromptIdeal.main_arg2) = m ((c.tc : Thread Cert.MixcPromptIdeal.nD Cert.MixcPromptIdeal.τ).loc Cert.MixcPromptIdeal.main_arg2)
          ∧ r.2.mem ((c.tc : Thread Cert.MixcPromptIdeal.nD Cert.MixcPromptIdeal.τ).loc Cert.MixcPromptIdeal.main_arg3) = m ((c.tc : Thread Cert.MixcPromptIdeal.nD Cert.MixcPromptIdeal.τ).loc Cert.MixcPromptIdeal.main_arg3)
          ∧ r.2.mem ((c.tc : Thread Cert.MixcPromptIdeal.nD Cert.MixcPromptIdeal.τ).loc Cert.MixcPromptIdeal.main_arg4) = m ((c.tc : Thread Cert.MixcPromptIdeal.nD Cert.MixcPromptIdeal.τ).loc Cert.MixcPromptIdeal.main_arg4))
      ∧ θ_run (Cert.MixcPromptRefIdeal.defs (F := Ideal)) (onTc (τ := Cert.MixcPromptRefIdeal.τ) (Cert.MixcPromptRefIdeal.main (F := Ideal))) ⟨m', fun _ => 0, g'⟩ (fun r => ∀ c : Dev Cert.MixcPromptRefIdeal.nD,
          (∀ i : (⟨2, ![16896, 1024]⟩ : Shape).Idx, (Cert.On_mixc_prompt_written.fn (F := Ideal) (m ((c.tc : Thread Cert.MixcPromptIdeal.nD Cert.MixcPromptIdeal.τ).loc Cert.MixcPromptIdeal.main_arg0)) (m ((c.tc : Thread Cert.MixcPromptIdeal.nD Cert.MixcPromptIdeal.τ).loc Cert.MixcPromptIdeal.main_arg1)) (m ((c.tc : Thread Cert.MixcPromptIdeal.nD Cert.MixcPromptIdeal.τ).loc Cert.MixcPromptIdeal.main_arg2)) (m ((c.tc : Thread Cert.MixcPromptIdeal.nD Cert.MixcPromptIdeal.τ).loc Cert.MixcPromptIdeal.main_arg3)) (m ((c.tc : Thread Cert.MixcPromptIdeal.nD Cert.MixcPromptIdeal.τ).loc Cert.MixcPromptIdeal.main_arg4))).1 i = 1#1 → r.2.mem ((c.tc : Thread Cert.MixcPromptRefIdeal.nD Cert.MixcPromptRefIdeal.τ).loc Cert.MixcPromptRefIdeal.main_v262) i = v0 c i)
          ∧ (∀ i : (⟨3, ![8, 32, 1024]⟩ : Shape).Idx, (Cert.On_mixc_prompt_written.fn (F := Ideal) (m ((c.tc : Thread Cert.MixcPromptIdeal.nD Cert.MixcPromptIdeal.τ).loc Cert.MixcPromptIdeal.main_arg0)) (m ((c.tc : Thread Cert.MixcPromptIdeal.nD Cert.MixcPromptIdeal.τ).loc Cert.MixcPromptIdeal.main_arg1)) (m ((c.tc : Thread Cert.MixcPromptIdeal.nD Cert.MixcPromptIdeal.τ).loc Cert.MixcPromptIdeal.main_arg2)) (m ((c.tc : Thread Cert.MixcPromptIdeal.nD Cert.MixcPromptIdeal.τ).loc Cert.MixcPromptIdeal.main_arg3)) (m ((c.tc : Thread Cert.MixcPromptIdeal.nD Cert.MixcPromptIdeal.τ).loc Cert.MixcPromptIdeal.main_arg4))).2 i = 1#1 → r.2.mem ((c.tc : Thread Cert.MixcPromptRefIdeal.nD Cert.MixcPromptRefIdeal.τ).loc Cert.MixcPromptRefIdeal.main_v263) i = v1 c i)
          ∧ r.2.mem ((c.tc : Thread Cert.MixcPromptRefIdeal.nD Cert.MixcPromptRefIdeal.τ).loc Cert.MixcPromptRefIdeal.main_arg0) = m' ((c.tc : Thread Cert.MixcPromptRefIdeal.nD Cert.MixcPromptRefIdeal.τ).loc Cert.MixcPromptRefIdeal.main_arg0)
          ∧ r.2.mem ((c.tc : Thread Cert.MixcPromptRefIdeal.nD Cert.MixcPromptRefIdeal.τ).loc Cert.MixcPromptRefIdeal.main_arg1) = m' ((c.tc : Thread Cert.MixcPromptRefIdeal.nD Cert.MixcPromptRefIdeal.τ).loc Cert.MixcPromptRefIdeal.main_arg1)
          ∧ r.2.mem ((c.tc : Thread Cert.MixcPromptRefIdeal.nD Cert.MixcPromptRefIdeal.τ).loc Cert.MixcPromptRefIdeal.main_arg2) = m' ((c.tc : Thread Cert.MixcPromptRefIdeal.nD Cert.MixcPromptRefIdeal.τ).loc Cert.MixcPromptRefIdeal.main_arg2)
          ∧ r.2.mem ((c.tc : Thread Cert.MixcPromptRefIdeal.nD Cert.MixcPromptRefIdeal.τ).loc Cert.MixcPromptRefIdeal.main_arg3) = m' ((c.tc : Thread Cert.MixcPromptRefIdeal.nD Cert.MixcPromptRefIdeal.τ).loc Cert.MixcPromptRefIdeal.main_arg3)
          ∧ r.2.mem ((c.tc : Thread Cert.MixcPromptRefIdeal.nD Cert.MixcPromptRefIdeal.τ).loc Cert.MixcPromptRefIdeal.main_arg4) = m' ((c.tc : Thread Cert.MixcPromptRefIdeal.nD Cert.MixcPromptRefIdeal.τ).loc Cert.MixcPromptRefIdeal.main_arg4))

def preserves_MixcSample_MixcSampleIdeal : Prop :=
  True

def algebraic_MixcSampleIdeal_MixcSampleRefIdeal_on_mixc_sample_kept [hMixcSampleIdeal : Cert.MixcSampleIdeal.Facts] [hMixcSampleRefIdeal : Cert.MixcSampleRefIdeal.Facts] [hOn_mixc_sample_kept : Cert.On_mixc_sample_kept.Facts] : Prop :=
  ∀ (m : (ℓ : Loc Cert.MixcSampleIdeal.nD Cert.MixcSampleIdeal.τ Cert.MixcSampleIdeal.sig) → Buf (Elt Ideal) ℓ) (g : Dev Cert.MixcSampleIdeal.nD → PrngReg)
    (m' : (ℓ : Loc Cert.MixcSampleRefIdeal.nD Cert.MixcSampleRefIdeal.τ Cert.MixcSampleRefIdeal.sig) → Buf (Elt Ideal) ℓ) (g' : Dev Cert.MixcSampleRefIdeal.nD → PrngReg), Pre_MixcSampleIdeal m →
    (∀ c : Dev Cert.MixcSampleIdeal.nD,
      m' ((c.tc : Thread Cert.MixcSampleRefIdeal.nD Cert.MixcSampleRefIdeal.τ).loc Cert.MixcSampleRefIdeal.main_arg0) = m ((c.tc : Thread Cert.MixcSampleIdeal.nD Cert.MixcSampleIdeal.τ).loc Cert.MixcSampleIdeal.main_arg0)
      ∧ m' ((c.tc : Thread Cert.MixcSampleRefIdeal.nD Cert.MixcSampleRefIdeal.τ).loc Cert.MixcSampleRefIdeal.main_arg1) = m ((c.tc : Thread Cert.MixcSampleIdeal.nD Cert.MixcSampleIdeal.τ).loc Cert.MixcSampleIdeal.main_arg1)
      ∧ m' ((c.tc : Thread Cert.MixcSampleRefIdeal.nD Cert.MixcSampleRefIdeal.τ).loc Cert.MixcSampleRefIdeal.main_arg2) = m ((c.tc : Thread Cert.MixcSampleIdeal.nD Cert.MixcSampleIdeal.τ).loc Cert.MixcSampleIdeal.main_arg2)
      ∧ m' ((c.tc : Thread Cert.MixcSampleRefIdeal.nD Cert.MixcSampleRefIdeal.τ).loc Cert.MixcSampleRefIdeal.main_arg3) = m ((c.tc : Thread Cert.MixcSampleIdeal.nD Cert.MixcSampleIdeal.τ).loc Cert.MixcSampleIdeal.main_arg3)
      ∧ m' ((c.tc : Thread Cert.MixcSampleRefIdeal.nD Cert.MixcSampleRefIdeal.τ).loc Cert.MixcSampleRefIdeal.main_arg4) = m ((c.tc : Thread Cert.MixcSampleIdeal.nD Cert.MixcSampleIdeal.τ).loc Cert.MixcSampleIdeal.main_arg4)
      ∧ m' ((c.tc : Thread Cert.MixcSampleRefIdeal.nD Cert.MixcSampleRefIdeal.τ).loc Cert.MixcSampleRefIdeal.main_arg5) = m ((c.tc : Thread Cert.MixcSampleIdeal.nD Cert.MixcSampleIdeal.τ).loc Cert.MixcSampleIdeal.main_arg5)
      ∧ m' ((c.tc : Thread Cert.MixcSampleRefIdeal.nD Cert.MixcSampleRefIdeal.τ).loc Cert.MixcSampleRefIdeal.main_arg6) = m ((c.tc : Thread Cert.MixcSampleIdeal.nD Cert.MixcSampleIdeal.τ).loc Cert.MixcSampleIdeal.main_arg6)) →
    ∃ (v0 : (c : Dev Cert.MixcSampleIdeal.nD) → Buf (Elt Ideal) ((c.tc : Thread Cert.MixcSampleIdeal.nD Cert.MixcSampleIdeal.τ).loc Cert.MixcSampleIdeal.main_v4_0)) (v1 : (c : Dev Cert.MixcSampleIdeal.nD) → Buf (Elt Ideal) ((c.tc : Thread Cert.MixcSampleIdeal.nD Cert.MixcSampleIdeal.τ).loc Cert.MixcSampleIdeal.main_v4_1)),
      θ_run (Cert.MixcSampleIdeal.defs (F := Ideal)) (onTc (τ := Cert.MixcSampleIdeal.τ) (Cert.MixcSampleIdeal.main (F := Ideal))) ⟨m, fun _ => 0, g⟩ (fun r => ∀ c : Dev Cert.MixcSampleIdeal.nD,
          (∀ i : (⟨2, ![16896, 1024]⟩ : Shape).Idx, (Cert.On_mixc_sample_kept.fn (F := Ideal) (m ((c.tc : Thread Cert.MixcSampleIdeal.nD Cert.MixcSampleIdeal.τ).loc Cert.MixcSampleIdeal.main_arg0)) (m ((c.tc : Thread Cert.MixcSampleIdeal.nD Cert.MixcSampleIdeal.τ).loc Cert.MixcSampleIdeal.main_arg1)) (m ((c.tc : Thread Cert.MixcSampleIdeal.nD Cert.MixcSampleIdeal.τ).loc Cert.MixcSampleIdeal.main_arg2)) (m ((c.tc : Thread Cert.MixcSampleIdeal.nD Cert.MixcSampleIdeal.τ).loc Cert.MixcSampleIdeal.main_arg3)) (m ((c.tc : Thread Cert.MixcSampleIdeal.nD Cert.MixcSampleIdeal.τ).loc Cert.MixcSampleIdeal.main_arg4)) (m ((c.tc : Thread Cert.MixcSampleIdeal.nD Cert.MixcSampleIdeal.τ).loc Cert.MixcSampleIdeal.main_arg5)) (m ((c.tc : Thread Cert.MixcSampleIdeal.nD Cert.MixcSampleIdeal.τ).loc Cert.MixcSampleIdeal.main_arg6))).1 i = 1#1 → r.2.mem ((c.tc : Thread Cert.MixcSampleIdeal.nD Cert.MixcSampleIdeal.τ).loc Cert.MixcSampleIdeal.main_v4_0) i = v0 c i)
          ∧ (∀ i : (⟨3, ![16, 32, 1024]⟩ : Shape).Idx, (Cert.On_mixc_sample_kept.fn (F := Ideal) (m ((c.tc : Thread Cert.MixcSampleIdeal.nD Cert.MixcSampleIdeal.τ).loc Cert.MixcSampleIdeal.main_arg0)) (m ((c.tc : Thread Cert.MixcSampleIdeal.nD Cert.MixcSampleIdeal.τ).loc Cert.MixcSampleIdeal.main_arg1)) (m ((c.tc : Thread Cert.MixcSampleIdeal.nD Cert.MixcSampleIdeal.τ).loc Cert.MixcSampleIdeal.main_arg2)) (m ((c.tc : Thread Cert.MixcSampleIdeal.nD Cert.MixcSampleIdeal.τ).loc Cert.MixcSampleIdeal.main_arg3)) (m ((c.tc : Thread Cert.MixcSampleIdeal.nD Cert.MixcSampleIdeal.τ).loc Cert.MixcSampleIdeal.main_arg4)) (m ((c.tc : Thread Cert.MixcSampleIdeal.nD Cert.MixcSampleIdeal.τ).loc Cert.MixcSampleIdeal.main_arg5)) (m ((c.tc : Thread Cert.MixcSampleIdeal.nD Cert.MixcSampleIdeal.τ).loc Cert.MixcSampleIdeal.main_arg6))).2 i = 1#1 → r.2.mem ((c.tc : Thread Cert.MixcSampleIdeal.nD Cert.MixcSampleIdeal.τ).loc Cert.MixcSampleIdeal.main_v4_1) i = v1 c i)
          ∧ r.2.mem ((c.tc : Thread Cert.MixcSampleIdeal.nD Cert.MixcSampleIdeal.τ).loc Cert.MixcSampleIdeal.main_arg0) = m ((c.tc : Thread Cert.MixcSampleIdeal.nD Cert.MixcSampleIdeal.τ).loc Cert.MixcSampleIdeal.main_arg0)
          ∧ r.2.mem ((c.tc : Thread Cert.MixcSampleIdeal.nD Cert.MixcSampleIdeal.τ).loc Cert.MixcSampleIdeal.main_arg1) = m ((c.tc : Thread Cert.MixcSampleIdeal.nD Cert.MixcSampleIdeal.τ).loc Cert.MixcSampleIdeal.main_arg1)
          ∧ r.2.mem ((c.tc : Thread Cert.MixcSampleIdeal.nD Cert.MixcSampleIdeal.τ).loc Cert.MixcSampleIdeal.main_arg2) = m ((c.tc : Thread Cert.MixcSampleIdeal.nD Cert.MixcSampleIdeal.τ).loc Cert.MixcSampleIdeal.main_arg2)
          ∧ r.2.mem ((c.tc : Thread Cert.MixcSampleIdeal.nD Cert.MixcSampleIdeal.τ).loc Cert.MixcSampleIdeal.main_arg3) = m ((c.tc : Thread Cert.MixcSampleIdeal.nD Cert.MixcSampleIdeal.τ).loc Cert.MixcSampleIdeal.main_arg3)
          ∧ r.2.mem ((c.tc : Thread Cert.MixcSampleIdeal.nD Cert.MixcSampleIdeal.τ).loc Cert.MixcSampleIdeal.main_arg4) = m ((c.tc : Thread Cert.MixcSampleIdeal.nD Cert.MixcSampleIdeal.τ).loc Cert.MixcSampleIdeal.main_arg4)
          ∧ r.2.mem ((c.tc : Thread Cert.MixcSampleIdeal.nD Cert.MixcSampleIdeal.τ).loc Cert.MixcSampleIdeal.main_arg5) = m ((c.tc : Thread Cert.MixcSampleIdeal.nD Cert.MixcSampleIdeal.τ).loc Cert.MixcSampleIdeal.main_arg5)
          ∧ r.2.mem ((c.tc : Thread Cert.MixcSampleIdeal.nD Cert.MixcSampleIdeal.τ).loc Cert.MixcSampleIdeal.main_arg6) = m ((c.tc : Thread Cert.MixcSampleIdeal.nD Cert.MixcSampleIdeal.τ).loc Cert.MixcSampleIdeal.main_arg6))
      ∧ θ_run (Cert.MixcSampleRefIdeal.defs (F := Ideal)) (onTc (τ := Cert.MixcSampleRefIdeal.τ) (Cert.MixcSampleRefIdeal.main (F := Ideal))) ⟨m', fun _ => 0, g'⟩ (fun r => ∀ c : Dev Cert.MixcSampleRefIdeal.nD,
          (∀ i : (⟨2, ![16896, 1024]⟩ : Shape).Idx, (Cert.On_mixc_sample_kept.fn (F := Ideal) (m ((c.tc : Thread Cert.MixcSampleIdeal.nD Cert.MixcSampleIdeal.τ).loc Cert.MixcSampleIdeal.main_arg0)) (m ((c.tc : Thread Cert.MixcSampleIdeal.nD Cert.MixcSampleIdeal.τ).loc Cert.MixcSampleIdeal.main_arg1)) (m ((c.tc : Thread Cert.MixcSampleIdeal.nD Cert.MixcSampleIdeal.τ).loc Cert.MixcSampleIdeal.main_arg2)) (m ((c.tc : Thread Cert.MixcSampleIdeal.nD Cert.MixcSampleIdeal.τ).loc Cert.MixcSampleIdeal.main_arg3)) (m ((c.tc : Thread Cert.MixcSampleIdeal.nD Cert.MixcSampleIdeal.τ).loc Cert.MixcSampleIdeal.main_arg4)) (m ((c.tc : Thread Cert.MixcSampleIdeal.nD Cert.MixcSampleIdeal.τ).loc Cert.MixcSampleIdeal.main_arg5)) (m ((c.tc : Thread Cert.MixcSampleIdeal.nD Cert.MixcSampleIdeal.τ).loc Cert.MixcSampleIdeal.main_arg6))).1 i = 1#1 → r.2.mem ((c.tc : Thread Cert.MixcSampleRefIdeal.nD Cert.MixcSampleRefIdeal.τ).loc Cert.MixcSampleRefIdeal.main_v262) i = v0 c i)
          ∧ (∀ i : (⟨3, ![16, 32, 1024]⟩ : Shape).Idx, (Cert.On_mixc_sample_kept.fn (F := Ideal) (m ((c.tc : Thread Cert.MixcSampleIdeal.nD Cert.MixcSampleIdeal.τ).loc Cert.MixcSampleIdeal.main_arg0)) (m ((c.tc : Thread Cert.MixcSampleIdeal.nD Cert.MixcSampleIdeal.τ).loc Cert.MixcSampleIdeal.main_arg1)) (m ((c.tc : Thread Cert.MixcSampleIdeal.nD Cert.MixcSampleIdeal.τ).loc Cert.MixcSampleIdeal.main_arg2)) (m ((c.tc : Thread Cert.MixcSampleIdeal.nD Cert.MixcSampleIdeal.τ).loc Cert.MixcSampleIdeal.main_arg3)) (m ((c.tc : Thread Cert.MixcSampleIdeal.nD Cert.MixcSampleIdeal.τ).loc Cert.MixcSampleIdeal.main_arg4)) (m ((c.tc : Thread Cert.MixcSampleIdeal.nD Cert.MixcSampleIdeal.τ).loc Cert.MixcSampleIdeal.main_arg5)) (m ((c.tc : Thread Cert.MixcSampleIdeal.nD Cert.MixcSampleIdeal.τ).loc Cert.MixcSampleIdeal.main_arg6))).2 i = 1#1 → r.2.mem ((c.tc : Thread Cert.MixcSampleRefIdeal.nD Cert.MixcSampleRefIdeal.τ).loc Cert.MixcSampleRefIdeal.main_v263) i = v1 c i)
          ∧ r.2.mem ((c.tc : Thread Cert.MixcSampleRefIdeal.nD Cert.MixcSampleRefIdeal.τ).loc Cert.MixcSampleRefIdeal.main_arg0) = m' ((c.tc : Thread Cert.MixcSampleRefIdeal.nD Cert.MixcSampleRefIdeal.τ).loc Cert.MixcSampleRefIdeal.main_arg0)
          ∧ r.2.mem ((c.tc : Thread Cert.MixcSampleRefIdeal.nD Cert.MixcSampleRefIdeal.τ).loc Cert.MixcSampleRefIdeal.main_arg1) = m' ((c.tc : Thread Cert.MixcSampleRefIdeal.nD Cert.MixcSampleRefIdeal.τ).loc Cert.MixcSampleRefIdeal.main_arg1)
          ∧ r.2.mem ((c.tc : Thread Cert.MixcSampleRefIdeal.nD Cert.MixcSampleRefIdeal.τ).loc Cert.MixcSampleRefIdeal.main_arg2) = m' ((c.tc : Thread Cert.MixcSampleRefIdeal.nD Cert.MixcSampleRefIdeal.τ).loc Cert.MixcSampleRefIdeal.main_arg2)
          ∧ r.2.mem ((c.tc : Thread Cert.MixcSampleRefIdeal.nD Cert.MixcSampleRefIdeal.τ).loc Cert.MixcSampleRefIdeal.main_arg3) = m' ((c.tc : Thread Cert.MixcSampleRefIdeal.nD Cert.MixcSampleRefIdeal.τ).loc Cert.MixcSampleRefIdeal.main_arg3)
          ∧ r.2.mem ((c.tc : Thread Cert.MixcSampleRefIdeal.nD Cert.MixcSampleRefIdeal.τ).loc Cert.MixcSampleRefIdeal.main_arg4) = m' ((c.tc : Thread Cert.MixcSampleRefIdeal.nD Cert.MixcSampleRefIdeal.τ).loc Cert.MixcSampleRefIdeal.main_arg4)
          ∧ r.2.mem ((c.tc : Thread Cert.MixcSampleRefIdeal.nD Cert.MixcSampleRefIdeal.τ).loc Cert.MixcSampleRefIdeal.main_arg5) = m' ((c.tc : Thread Cert.MixcSampleRefIdeal.nD Cert.MixcSampleRefIdeal.τ).loc Cert.MixcSampleRefIdeal.main_arg5)
          ∧ r.2.mem ((c.tc : Thread Cert.MixcSampleRefIdeal.nD Cert.MixcSampleRefIdeal.τ).loc Cert.MixcSampleRefIdeal.main_arg6) = m' ((c.tc : Thread Cert.MixcSampleRefIdeal.nD Cert.MixcSampleRefIdeal.τ).loc Cert.MixcSampleRefIdeal.main_arg6))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInprojKv : Cert.InprojKv.Facts) (hInprojKvIdeal : Cert.InprojKvIdeal.Facts) (hInprojKvRefIdeal : Cert.InprojKvRefIdeal.Facts) (hInprojRest : Cert.InprojRest.Facts) (hInprojRestIdeal : Cert.InprojRestIdeal.Facts) (hInprojRestRefIdeal : Cert.InprojRestRefIdeal.Facts) (hOutproj : Cert.Outproj.Facts) (hOutprojIdeal : Cert.OutprojIdeal.Facts) (hOutprojRefIdeal : Cert.OutprojRefIdeal.Facts) (hNormH : Cert.NormH.Facts) (hNormHIdeal : Cert.NormHIdeal.Facts) (hNormHRefIdeal : Cert.NormHRefIdeal.Facts) (hNormPrompt : Cert.NormPrompt.Facts) (hNormPromptIdeal : Cert.NormPromptIdeal.Facts) (hNormPromptRefIdeal : Cert.NormPromptRefIdeal.Facts) (hNormSample : Cert.NormSample.Facts) (hNormSampleIdeal : Cert.NormSampleIdeal.Facts) (hNormSampleRefIdeal : Cert.NormSampleRefIdeal.Facts) (hMixbPrompt : Cert.MixbPrompt.Facts) (hMixbPromptIdeal : Cert.MixbPromptIdeal.Facts) (hMixbPromptRefIdeal : Cert.MixbPromptRefIdeal.Facts) (hMixbSample : Cert.MixbSample.Facts) (hMixbSampleIdeal : Cert.MixbSampleIdeal.Facts) (hMixbSampleRefIdeal : Cert.MixbSampleRefIdeal.Facts) (hMixcPrompt : Cert.MixcPrompt.Facts) (hMixcPromptIdeal : Cert.MixcPromptIdeal.Facts) (hMixcPromptRefIdeal : Cert.MixcPromptRefIdeal.Facts) (hMixcSample : Cert.MixcSample.Facts) (hMixcSampleIdeal : Cert.MixcSampleIdeal.Facts) (hMixcSampleRefIdeal : Cert.MixcSampleRefIdeal.Facts) (hPre_finite_scores : Cert.Pre_finite_scores.Facts) (hOn_prompt_rows : Cert.On_prompt_rows.Facts) (hOn_mixb_prompt_written : Cert.On_mixb_prompt_written.Facts) (hOn_mixb_sample_kept : Cert.On_mixb_sample_kept.Facts) (hOn_mixc_prompt_written : Cert.On_mixc_prompt_written.Facts) (hOn_mixc_sample_kept : Cert.On_mixc_sample_kept.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_InprojKv (hInprojKv := hInprojKv)
    ∧ quiescent_InprojKvIdeal (hInprojKvIdeal := hInprojKvIdeal)
    ∧ quiescent_InprojKvRefIdeal (hInprojKvRefIdeal := hInprojKvRefIdeal)
    ∧ quiescent_InprojRest (hInprojRest := hInprojRest)
    ∧ quiescent_InprojRestIdeal (hInprojRestIdeal := hInprojRestIdeal)
    ∧ quiescent_InprojRestRefIdeal (hInprojRestRefIdeal := hInprojRestRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_NormH (hNormH := hNormH)
    ∧ quiescent_NormHIdeal (hNormHIdeal := hNormHIdeal)
    ∧ quiescent_NormHRefIdeal (hNormHRefIdeal := hNormHRefIdeal)
    ∧ quiescent_NormPrompt (hNormPrompt := hNormPrompt)
    ∧ quiescent_NormPromptIdeal (hNormPromptIdeal := hNormPromptIdeal)
    ∧ quiescent_NormPromptRefIdeal (hNormPromptRefIdeal := hNormPromptRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_MixbPrompt (hMixbPrompt := hMixbPrompt)
    ∧ quiescent_MixbPromptIdeal (hMixbPromptIdeal := hMixbPromptIdeal)
    ∧ quiescent_MixbPromptRefIdeal (hMixbPromptRefIdeal := hMixbPromptRefIdeal)
    ∧ quiescent_MixbSample (hMixbSample := hMixbSample)
    ∧ quiescent_MixbSampleIdeal (hMixbSampleIdeal := hMixbSampleIdeal)
    ∧ quiescent_MixbSampleRefIdeal (hMixbSampleRefIdeal := hMixbSampleRefIdeal)
    ∧ quiescent_MixcPrompt (hMixcPrompt := hMixcPrompt)
    ∧ quiescent_MixcPromptIdeal (hMixcPromptIdeal := hMixcPromptIdeal)
    ∧ quiescent_MixcPromptRefIdeal (hMixcPromptRefIdeal := hMixcPromptRefIdeal)
    ∧ quiescent_MixcSample (hMixcSample := hMixcSample)
    ∧ quiescent_MixcSampleIdeal (hMixcSampleIdeal := hMixcSampleIdeal)
    ∧ quiescent_MixcSampleRefIdeal (hMixcSampleRefIdeal := hMixcSampleRefIdeal)
    ∧ preserves_Attn_AttnIdeal
    ∧ algebraic_AttnIdeal_AttnRefIdeal_on_prompt_rows_pre_finite_scores (hAttnIdeal := hAttnIdeal) (hAttnRefIdeal := hAttnRefIdeal) (hPre_finite_scores := hPre_finite_scores) (hOn_prompt_rows := hOn_prompt_rows)
    ∧ preserves_Ffn_FfnIdeal
    ∧ algebraic_FfnIdeal_FfnRefIdeal (hFfnIdeal := hFfnIdeal) (hFfnRefIdeal := hFfnRefIdeal)
    ∧ preserves_InprojKv_InprojKvIdeal
    ∧ algebraic_InprojKvIdeal_InprojKvRefIdeal (hInprojKvIdeal := hInprojKvIdeal) (hInprojKvRefIdeal := hInprojKvRefIdeal)
    ∧ preserves_InprojRest_InprojRestIdeal
    ∧ algebraic_InprojRestIdeal_InprojRestRefIdeal (hInprojRestIdeal := hInprojRestIdeal) (hInprojRestRefIdeal := hInprojRestRefIdeal)
    ∧ preserves_Outproj_OutprojIdeal
    ∧ algebraic_OutprojIdeal_OutprojRefIdeal (hOutprojIdeal := hOutprojIdeal) (hOutprojRefIdeal := hOutprojRefIdeal)
    ∧ preserves_NormH_NormHIdeal
    ∧ algebraic_NormHIdeal_NormHRefIdeal (hNormHIdeal := hNormHIdeal) (hNormHRefIdeal := hNormHRefIdeal)
    ∧ preserves_NormPrompt_NormPromptIdeal
    ∧ algebraic_NormPromptIdeal_NormPromptRefIdeal (hNormPromptIdeal := hNormPromptIdeal) (hNormPromptRefIdeal := hNormPromptRefIdeal)
    ∧ preserves_NormSample_NormSampleIdeal
    ∧ algebraic_NormSampleIdeal_NormSampleRefIdeal (hNormSampleIdeal := hNormSampleIdeal) (hNormSampleRefIdeal := hNormSampleRefIdeal)
    ∧ preserves_MixbPrompt_MixbPromptIdeal
    ∧ algebraic_MixbPromptIdeal_MixbPromptRefIdeal_on_mixb_prompt_written (hMixbPromptIdeal := hMixbPromptIdeal) (hMixbPromptRefIdeal := hMixbPromptRefIdeal) (hOn_mixb_prompt_written := hOn_mixb_prompt_written)
    ∧ preserves_MixbSample_MixbSampleIdeal
    ∧ algebraic_MixbSampleIdeal_MixbSampleRefIdeal_on_mixb_sample_kept (hMixbSampleIdeal := hMixbSampleIdeal) (hMixbSampleRefIdeal := hMixbSampleRefIdeal) (hOn_mixb_sample_kept := hOn_mixb_sample_kept)
    ∧ preserves_MixcPrompt_MixcPromptIdeal
    ∧ algebraic_MixcPromptIdeal_MixcPromptRefIdeal_on_mixc_prompt_written (hMixcPromptIdeal := hMixcPromptIdeal) (hMixcPromptRefIdeal := hMixcPromptRefIdeal) (hOn_mixc_prompt_written := hOn_mixc_prompt_written)
    ∧ preserves_MixcSample_MixcSampleIdeal
    ∧ algebraic_MixcSampleIdeal_MixcSampleRefIdeal_on_mixc_sample_kept (hMixcSampleIdeal := hMixcSampleIdeal) (hMixcSampleRefIdeal := hMixcSampleRefIdeal) (hOn_mixc_sample_kept := hOn_mixc_sample_kept)
-- ==== On_mixb_prompt_written.lean ====
abbrev S16896x7168 : Shape := ⟨2, ![16896, 7168]⟩
abbrev S3x1024 : Shape := ⟨2, ![3, 1024]⟩
abbrev S16896x1024 : Shape := ⟨2, ![16896, 1024]⟩
abbrev S_ : Shape := ⟨0, ![]⟩
abbrev S8x8x1024 : Shape := ⟨3, ![8, 8, 1024]⟩

class Facts : Prop where
  bcast_S_S16896x1024 : S_.BroadcastsInDim S16896x1024 (![] : Fin 0 → Fin S16896x1024.rank)
  bcast_S_S8x8x1024 : S_.BroadcastsInDim S8x8x1024 (![] : Fin 0 → Fin S8x8x1024.rank)

variable [Facts]

def fn {F : FTy → Type} [FloatOps F] (main_arg0 : FVec F S16896x7168 .bf16) (main_arg1 : FVec F S3x1024 .f32) : IVec S16896x1024 1 × IVec S8x8x1024 1 :=
  let main_v0 : IVec S16896x1024 32 := iotaInDim S16896x1024 32 0
  let main_c : IVec S_ 32 := constantI S_ 32 16384#32
  let main_v1 : IVec S16896x1024 32 := broadcastInDim S16896x1024 ![] bcast_S_S16896x1024 main_c
  let main_v2 : IVec S16896x1024 1 := cmpi .slt main_v0 main_v1
  let main_v3 : IVec S8x8x1024 32 := iotaInDim S8x8x1024 32 1
  let main_c_0 : IVec S_ 32 := constantI S_ 32 6#32
  let main_v4 : IVec S8x8x1024 32 := broadcastInDim S8x8x1024 ![] bcast_S_S8x8x1024 main_c_0
  let main_v5 : IVec S8x8x1024 1 := cmpi .sge main_v3 main_v4
  (main_v2, main_v5)
-- ==== On_mixb_sample_kept.lean ====
abbrev S16896x7168 : Shape := ⟨2, ![16896, 7168]⟩
abbrev S16x2x1024 : Shape := ⟨3, ![16, 2, 1024]⟩
abbrev S3x1024 : Shape := ⟨2, ![3, 1024]⟩
abbrev S16896x1024 : Shape := ⟨2, ![16896, 1024]⟩
abbrev S_ : Shape := ⟨0, ![]⟩
abbrev S16x8x1024 : Shape := ⟨3, ![16, 8, 1024]⟩

class Facts : Prop where
  bcast_S_S16896x1024 : S_.BroadcastsInDim S16896x1024 (![] : Fin 0 → Fin S16896x1024.rank)
  bcast_S_S16x8x1024 : S_.BroadcastsInDim S16x8x1024 (![] : Fin 0 → Fin S16x8x1024.rank)

variable [Facts]

def fn {F : FTy → Type} [FloatOps F] (main_arg0 : FVec F S16896x7168 .bf16) (main_arg1 : FVec F S16x2x1024 .f32) (main_arg2 : FVec F S3x1024 .f32) (main_arg3 : FVec F S16896x1024 .bf16) : IVec S16896x1024 1 × IVec S16x8x1024 1 :=
  let main_v0 : IVec S16896x1024 32 := iotaInDim S16896x1024 32 0
  let main_c : IVec S_ 32 := constantI S_ 32 16896#32
  let main_v1 : IVec S16896x1024 32 := broadcastInDim S16896x1024 ![] bcast_S_S16896x1024 main_c
  let main_v2 : IVec S16896x1024 1 := cmpi .slt main_v0 main_v1
  let main_v3 : IVec S16x8x1024 32 := iotaInDim S16x8x1024 32 1
  let main_c_0 : IVec S_ 32 := constantI S_ 32 6#32
  let main_v4 : IVec S16x8x1024 32 := broadcastInDim S16x8x1024 ![] bcast_S_S16x8x1024 main_c_0
  let main_v5 : IVec S16x8x1024 1 := cmpi .sge main_v3 main_v4
  (main_v2, main_v5)
-- ==== On_mixc_prompt_written.lean ====
abbrev S16896x7168 : Shape := ⟨2, ![16896, 7168]⟩
abbrev S31x1024 : Shape := ⟨2, ![31, 1024]⟩
abbrev S1024 : Shape := ⟨1, ![1024]⟩
abbrev S16896x1024 : Shape := ⟨2, ![16896, 1024]⟩
abbrev S_ : Shape := ⟨0, ![]⟩
abbrev S8x32x1024 : Shape := ⟨3, ![8, 32, 1024]⟩

class Facts : Prop where
  bcast_S_S16896x1024 : S_.BroadcastsInDim S16896x1024 (![] : Fin 0 → Fin S16896x1024.rank)
  bcast_S_S8x32x1024 : S_.BroadcastsInDim S8x32x1024 (![] : Fin 0 → Fin S8x32x1024.rank)

variable [Facts]

def fn {F : FTy → Type} [FloatOps F] (main_arg0 : FVec F S16896x7168 .bf16) (main_arg1 : FVec F S31x1024 .f32) (main_arg2 : FVec F S1024 .f32) (main_arg3 : FVec F S1024 .f32) (main_arg4 : FVec F S1024 .f32) : IVec S16896x1024 1 × IVec S8x32x1024 1 :=
  let main_v0 : IVec S16896x1024 32 := iotaInDim S16896x1024 32 0
  let main_c : IVec S_ 32 := constantI S_ 32 16384#32
  let main_v1 : IVec S16896x1024 32 := broadcastInDim S16896x1024 ![] bcast_S_S16896x1024 main_c
  let main_v2 : IVec S16896x1024 1 := cmpi .slt main_v0 main_v1
  let main_v3 : IVec S8x32x1024 32 := iotaInDim S8x32x1024 32 1
  let main_c_0 : IVec S_ 32 := constantI S_ 32 2#32
  let main_v4 : IVec S8x32x1024 32 := broadcastInDim S8x32x1024 ![] bcast_S_S8x32x1024 main_c_0
  let main_v5 : IVec S8x32x1024 1 := cmpi .sge main_v3 main_v4
  (main_v2, main_v5)
-- ==== On_mixc_sample_kept.lean ====
abbrev S16896x7168 : Shape := ⟨2, ![16896, 7168]⟩
abbrev S16x30x1024 : Shape := ⟨3, ![16, 30, 1024]⟩
abbrev S31x1024 : Shape := ⟨2, ![31, 1024]⟩
abbrev S1024 : Shape := ⟨1, ![1024]⟩
abbrev S16896x1024 : Shape := ⟨2, ![16896, 1024]⟩
abbrev S_ : Shape := ⟨0, ![]⟩
abbrev S16x32x1024 : Shape := ⟨3, ![16, 32, 1024]⟩

class Facts : Prop where
  bcast_S_S16896x1024 : S_.BroadcastsInDim S16896x1024 (![] : Fin 0 → Fin S16896x1024.rank)
  bcast_S_S16x32x1024 : S_.BroadcastsInDim S16x32x1024 (![] : Fin 0 → Fin S16x32x1024.rank)

variable [Facts]

def fn {F : FTy → Type} [FloatOps F] (main_arg0 : FVec F S16896x7168 .bf16) (main_arg1 : FVec F S16x30x1024 .f32) (main_arg2 : FVec F S31x1024 .f32) (main_arg3 : FVec F S1024 .f32) (main_arg4 : FVec F S1024 .f32) (main_arg5 : FVec F S1024 .f32) (main_arg6 : FVec F S16896x1024 .bf16) : IVec S16896x1024 1 × IVec S16x32x1024 1 :=
  let main_v0 : IVec S16896x1024 32 := iotaInDim S16896x1024 32 0
  let main_c : IVec S_ 32 := constantI S_ 32 16896#32
  let main_v1 : IVec S16896x1024 32 := broadcastInDim S16896x1024 ![] bcast_S_S16896x1024 main_c
  let main_v2 : IVec S16896x1024 1 := cmpi .slt main_v0 main_v1
  let main_v3 : IVec S16x32x1024 32 := iotaInDim S16x32x1024 32 1
  let main_c_0 : IVec S_ 32 := constantI S_ 32 2#32
  let main_v4 : IVec S16x32x1024 32 := broadcastInDim S16x32x1024 ![] bcast_S_S16x32x1024 main_c_0
  let main_v5 : IVec S16x32x1024 1 := cmpi .sge main_v3 main_v4
  (main_v2, main_v5)
-- ==== On_prompt_rows.lean ====
abbrev S16896x7168 : Shape := ⟨2, ![16896, 7168]⟩
abbrev S16896x4096 : Shape := ⟨2, ![16896, 4096]⟩
abbrev S16x513 : Shape := ⟨2, ![16, 513]⟩
abbrev S16896x2048 : Shape := ⟨2, ![16896, 2048]⟩
abbrev S_ : Shape := ⟨0, ![]⟩

class Facts : Prop where
  bcast_S_S16896x2048 : S_.BroadcastsInDim S16896x2048 (![] : Fin 0 → Fin S16896x2048.rank)

variable [Facts]

def fn {F : FTy → Type} [FloatOps F] (main_arg0 : FVec F S16896x7168 .bf16) (main_arg1 : FVec F S16896x4096 .bf16) (main_arg2 : FVec F S16x513 .f32) : IVec S16896x2048 1 :=
  let main_v0 : IVec S16896x2048 32 := iotaInDim S16896x2048 32 0
  let main_c : IVec S_ 32 := constantI S_ 32 16384#32
  let main_v1 : IVec S16896x2048 32 := broadcastInDim S16896x2048 ![] bcast_S_S16896x2048 main_c
  let main_v2 : IVec S16896x2048 1 := cmpi .slt main_v0 main_v1
  main_v2
-- ==== Pre_finite_scores.lean ====
abbrev S16896x7168 : Shape := ⟨2, ![16896, 7168]⟩
abbrev S16896x4096 : Shape := ⟨2, ![16896, 4096]⟩
abbrev S16x513 : Shape := ⟨2, ![16, 513]⟩
abbrev S16896x2048 : Shape := ⟨2, ![16896, 2048]⟩
abbrev S_ : Shape := ⟨0, ![]⟩

class Facts : Prop where
  slices_S16896x7168_S16896x2048_0_0 : S16896x7168.Slices ![0, 0] S16896x2048
  bitsLt_bf16_f32 : FTy.bits .bf16 < FTy.bits .f32
  bcast_S_S16896x2048 : S_.BroadcastsInDim S16896x2048 (![] : Fin 0 → Fin S16896x2048.rank)
  slices_S16896x4096_S16896x2048_0_0 : S16896x4096.Slices ![0, 0] S16896x2048
  bcast_S_S16x513 : S_.BroadcastsInDim S16x513 (![] : Fin 0 → Fin S16x513.rank)

variable [Facts]

def fn {F : FTy → Type} [FloatOps F] (main_arg0 : FVec F S16896x7168 .bf16) (main_arg1 : FVec F S16896x4096 .bf16) (main_arg2 : FVec F S16x513 .f32) : IVec S16896x2048 1 × IVec S16896x2048 1 × IVec S16x513 1 :=
  let main_v0 : FVec F S16896x2048 .bf16 := (extractStridedSlice S16896x2048 ![0, 0] · slices_S16896x7168_S16896x2048_0_0) main_arg0
  let main_v1 : FVec F S16896x2048 .f32 := (extf .f32 · bitsLt_bf16_f32) main_v0
  let main_v2 : FVec F S16896x2048 .f32 := Host.absf main_v1
  let main_cst : FVec F S_ .f32 := constant S_ .f32 0x7F800000#32
  let main_v3 : FVec F S16896x2048 .f32 := broadcastInDim S16896x2048 ![] bcast_S_S16896x2048 main_cst
  let main_v4 : IVec S16896x2048 1 := cmpf .olt main_v2 main_v3
  let main_v5 : FVec F S16896x2048 .bf16 := (extractStridedSlice S16896x2048 ![0, 0] · slices_S16896x4096_S16896x2048_0_0) main_arg1
  let main_v6 : FVec F S16896x2048 .f32 := (extf .f32 · bitsLt_bf16_f32) main_v5
  let main_v7 : FVec F S16896x2048 .f32 := Host.absf main_v6
  let main_cst_0 : FVec F S_ .f32 := constant S_ .f32 0x7F800000#32
  let main_v8 : FVec F S16896x2048 .f32 := broadcastInDim S16896x2048 ![] bcast_S_S16896x2048 main_cst_0
  let main_v9 : IVec S16896x2048 1 := cmpf .olt main_v7 main_v8
  let main_v10 : FVec F S16x513 .f32 := Host.absf main_arg2
  let main_cst_1 : FVec F S_ .f32 := constant S_ .f32 0x7F800000#32
  let main_v11 : FVec F S16x513 .f32 := broadcastInDim S16x513 ![] bcast_S_S16x513 main_cst_1
  let main_v12 : IVec S16x513 1 := cmpf .olt main_v10 main_v11
  (main_v4, main_v9, main_v12)
-- ==== Attn.lean ====
abbrev S16896x7168 : Shape := ⟨2, ![16896, 7168]⟩
abbrev S16896x4096 : Shape := ⟨2, ![16896, 4096]⟩
abbrev S16x513 : Shape := ⟨2, ![16, 513]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S128x640x1 : Shape := ⟨3, ![128, 640, 1]⟩
abbrev S16x128x640 : Shape := ⟨3, ![16, 128, 640]⟩
abbrev S1x128x640 : Shape := ⟨3, ![1, 128, 640]⟩
abbrev S16896x2048 : Shape := ⟨2, ![16896, 2048]⟩
abbrev S128x2048 : Shape := ⟨2, ![128, 2048]⟩
abbrev S128x128 : Shape := ⟨2, ![128, 128]⟩
abbrev S640x128 : Shape := ⟨2, ![640, 128]⟩

abbrev nBuf : Space → Nat
  | .hbm => 89
  | .vmem => 25
  | .smem => 0
  | _ => 0

abbrev bufTy : (tb : Table) → Fin (tcTables nBuf tb) → BufTy
  | .hbm, ⟨0, _⟩ => ⟨S16896x7168, .bf16⟩
  | .hbm, ⟨1, _⟩ => ⟨S16896x4096, .bf16⟩
  | .hbm, ⟨2, _⟩ => ⟨S16x513, .f32⟩
  | .hbm, ⟨3, _⟩ => ⟨S128, .i32⟩
  | .hbm, ⟨4, _⟩ => ⟨S128x1, .i32⟩
  | .hbm, ⟨5, _⟩ => ⟨S640, .i32⟩
  | .hbm, ⟨6, _⟩ => ⟨S1x640, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x640, .i32⟩
  | .hbm, ⟨11, _⟩ => ⟨S128x640, .i32⟩
  | .hbm, ⟨12, _⟩ => ⟨S128x640, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S128x640, .i32⟩
  | .hbm, ⟨17, _⟩ => ⟨S128x640, .i32⟩
  | .hbm, ⟨18, _⟩ => ⟨S_, .i32⟩
  | .hbm, ⟨19, _⟩ => ⟨S128x640, .i32⟩
  | .hbm, ⟨20, _⟩ => ⟨S128x640, .i32⟩
  | .hbm, ⟨21, _⟩ => ⟨S_, .i32⟩
  | .hbm, ⟨22, _⟩ => ⟨S128x640, .i32⟩
  | .hbm, ⟨23, _⟩ => ⟨S128x640, .i32⟩
  | .hbm, ⟨24, _⟩ => ⟨S_, .i32⟩
  | .hbm, ⟨25, _⟩ => ⟨S128x640, .i32⟩
  | .hbm, ⟨26, _⟩ => ⟨S128x640, .i1⟩
  | .hbm, ⟨27, _⟩ => ⟨S_, .i32⟩
  | .hbm, ⟨28, _⟩ => ⟨S128x640, .i32⟩
  | .hbm, ⟨29, _⟩ => ⟨S128x640, .i32⟩
  | .hbm, ⟨30, _⟩ => ⟨S128x640, .i32⟩
  | .hbm, ⟨31, _⟩ => ⟨S128x640x1, .i32⟩
  | .hbm, ⟨32, _⟩ => ⟨S16x128x640, .f32⟩
  | .hbm, ⟨33, _⟩ => ⟨S_, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S128x1, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i1⟩
  | .hbm, ⟨46, _⟩ => ⟨S128x1, .i1⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S128x1, .i32⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S_, .i32⟩
  | .hbm, ⟨55, _⟩ => ⟨S_, .i32⟩
  | .hbm, ⟨56, _⟩ => ⟨S1x640, .i32⟩
  | .hbm, ⟨57, _⟩ => ⟨S1x640, .i32⟩
  | .hbm, ⟨58, _⟩ => ⟨S1x640, .i32⟩
  | .hbm, ⟨59, _⟩ => ⟨S_, .i32⟩
  | .hbm, ⟨60, _⟩ => ⟨S1x640, .i32⟩
  | .hbm, ⟨61, _⟩ => ⟨S1x640, .i1⟩
  | .hbm, ⟨62, _⟩ => ⟨S1x640, .i32⟩
  | .hbm, ⟨63, _⟩ => ⟨S1x640, .i32⟩
  | .hbm, ⟨64, _⟩ => ⟨S_, .i32⟩
  | .hbm, ⟨65, _⟩ => ⟨S1x640, .i32⟩
  | .hbm, ⟨66, _⟩ => ⟨S1x640, .i1⟩
  | .hbm, ⟨67, _⟩ => ⟨S1x640, .i1⟩
  | .hbm, ⟨68, _⟩ => ⟨S_, .i32⟩
  | .hbm, ⟨69, _⟩ => ⟨S1x640, .i32⟩
  | .hbm, ⟨70, _⟩ => ⟨S1x640, .i32⟩
  | .hbm, ⟨71, _⟩ => ⟨S1x640, .i32⟩
  | .hbm, ⟨72, _⟩ => ⟨S128x640, .i32⟩
  | .hbm, ⟨73, _⟩ => ⟨S128x640, .i32⟩
  | .hbm, ⟨74, _⟩ => ⟨S128x640, .i1⟩
  | .hbm, ⟨75, _⟩ => ⟨S_, .i32⟩
  | .hbm, ⟨76, _⟩ => ⟨S128x1, .i32⟩
  | .hbm, ⟨77, _⟩ => ⟨S128x1, .i32⟩
  | .hbm, ⟨78, _⟩ => ⟨S128x640, .i32⟩
  | .hbm, ⟨79, _⟩ => ⟨S128x640, .i32⟩
  | .hbm, ⟨80, _⟩ => ⟨S128x640, .i1⟩
  | .hbm, ⟨81, _⟩ => ⟨S128x640, .i1⟩
  | .hbm, ⟨82, _⟩ => ⟨S1x128x640, .i1⟩
  | .hbm, ⟨83, _⟩ => ⟨S_, .f32⟩
  | .hbm, ⟨84, _⟩ => ⟨S_, .f32⟩
  | .hbm, ⟨85, _⟩ => ⟨S16x128x640, .i1⟩
  | .hbm, ⟨86, _⟩ => ⟨S16x128x640, .f32⟩
  | .hbm, ⟨87, _⟩ => ⟨S16x128x640, .f32⟩
  | .hbm, ⟨88, _⟩ => ⟨S16896x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S16x128x640, .f32⟩
  | .local _ .vmem, ⟨23, _⟩ => ⟨S128x2048, .bf16⟩
  | .local _ .vmem, ⟨24, _⟩ => ⟨S128x2048, .bf16⟩
  | _, _ => ⟨S16896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v19 : Ref sig .tc := ⟨.hbm, 50, rfl⟩
abbrev main_c_6 : Ref sig .tc := ⟨.hbm, 51, rfl⟩
abbrev main_v20 : Ref sig .tc := ⟨.hbm, 52, rfl⟩
abbrev main_v21 : Ref sig .tc := ⟨.hbm, 53, rfl⟩
abbrev main_c_7 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_c_8 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v33 : Ref sig .tc := ⟨.hbm, 87, rfl⟩
abbrev main_v34 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c0_i32_5 : BitVec 32 := 0#32
  let v19 : BitVec 32 := Scalar.addi v18 c0_i32_5
  let v20 : BitVec 32 := Scalar.maxsi v19 v17
  let c0_i32_6 : BitVec 32 := 0#32
  let c0_i32_7 : BitVec 32 := 0#32
  ![v20.toNat, c0_i32_6.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c1_i32_5 : BitVec 32 := 1#32
  let v19 : BitVec 32 := Scalar.addi v18 c1_i32_5
  let v20 : BitVec 32 := Scalar.maxsi v19 v17
  let c0_i32_6 : BitVec 32 := 0#32
  let c0_i32_7 : BitVec 32 := 0#32
  ![v20.toNat, c0_i32_6.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c2_i32 : BitVec 32 := 2#32
  let v19 : BitVec 32 := Scalar.addi v18 c2_i32
  let v20 : BitVec 32 := Scalar.maxsi v19 v17
  let c0_i32_5 : BitVec 32 := 0#32
  let c0_i32_6 : BitVec 32 := 0#32
  ![v20.toNat, c0_i32_5.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c3_i32 : BitVec 32 := 3#32
  let v19 : BitVec 32 := Scalar.addi v18 c3_i32
  let v20 : BitVec 32 := Scalar.maxsi v19 v17
  let c0_i32_5 : BitVec 32 := 0#32
  let c0_i32_6 : BitVec 32 := 0#32
  ![v20.toNat, c0_i32_5.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c4_i32_5 : BitVec 32 := 4#32
  let v19 : BitVec 32 := Scalar.addi v18 c4_i32_5
  let v20 : BitVec 32 := Scalar.maxsi v19 v17
  let c0_i32_6 : BitVec 32 := 0#32
  let c0_i32_7 : BitVec 32 := 0#32
  ![v20.toNat, c0_i32_6.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c0_i32_5 : BitVec 32 := 0#32
  let v19 : BitVec 32 := Scalar.addi v18 c0_i32_5
  let v20 : BitVec 32 := Scalar.maxsi v19 v17
  let c1_i32_6 : BitVec 32 := 1#32
  let c0_i32_7 : BitVec 32 := 0#32
  ![v20.toNat, c1_i32_6.toNat]

def cc0_transform_7 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c1_i32_5 : BitVec 32 := 1#32
  let v19 : BitVec 32 := Scalar.addi v18 c1_i32_5
  let v20 : BitVec 32 := Scalar.maxsi v19 v17
  let c1_i32_6 : BitVec 32 := 1#32
  let c0_i32_7 : BitVec 32 := 0#32
  ![v20.toNat, c1_i32_6.toNat]

def cc0_transform_8 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c2_i32 : BitVec 32 := 2#32
  let v19 : BitVec 32 := Scalar.addi v18 c2_i32
  let v20 : BitVec 32 := Scalar.maxsi v19 v17
  let c1_i32_5 : BitVec 32 := 1#32
  let c0_i32_6 : BitVec 32 := 0#32
  ![v20.toNat, c1_i32_5.toNat]

def cc0_transform_9 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c3_i32 : BitVec 32 := 3#32
  let v19 : BitVec 32 := Scalar.addi v18 c3_i32
  let v20 : BitVec 32 := Scalar.maxsi v19 v17
  let c1_i32_5 : BitVec 32 := 1#32
  let c0_i32_6 : BitVec 32 := 0#32
  ![v20.toNat, c1_i32_5.toNat]

def cc0_transform_10 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c4_i32 : BitVec 32 := 4#32
  let v18 : BitVec 32 := Scalar.subi arg0 c4_i32
  let c4_i32_5 : BitVec 32 := 4#32
  let v19 : BitVec 32 := Scalar.addi v18 c4_i32_5
  let v20 : BitVec 32 := Scalar.maxsi v19 v17
  let c1_i32_6 : BitVec 32 := 1#32
  let c0_i32_7 : BitVec 32 := 0#32
  ![v20.toNat, c1_i32_6.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x128x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S16896x7168 : Shape := ⟨2, ![16896, 7168]⟩
abbrev S16896x4096 : Shape := ⟨2, ![16896, 4096]⟩
abbrev S16x513 : Shape := ⟨2, ![16, 513]⟩
abbrev S16896x2048 : Shape := ⟨2, ![16896, 2048]⟩
abbrev S16384x2048 : Shape := ⟨2, ![16384, 2048]⟩
abbrev S8x32x64x16x128 : Shape := ⟨5, ![8, 32, 64, 16, 128]⟩
abbrev S_ : Shape := ⟨0, ![]⟩
abbrev S8x40x64x16x128 : Shape := ⟨5, ![8, 40, 64, 16, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S8x32x9x64x16x128 : Shape := ⟨6, ![8, 32, 9, 64, 16, 128]⟩
abbrev S8x32x576x16x128 : Shape := ⟨5, ![8, 32, 576, 16, 128]⟩
abbrev S576 : Shape := ⟨1, ![576]⟩
abbrev S1x576 : Shape := ⟨2, ![1, 576]⟩
abbrev S32x576 : Shape := ⟨2, ![32, 576]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S16x64x576 : Shape := ⟨3, ![16, 64, 576]⟩
abbrev S8x32x16x64x576 : Shape := ⟨5, ![8, 32, 16, 64, 576]⟩
abbrev S1x1x16x64x576 : Shape := ⟨5, ![1, 1, 16, 64, 576]⟩
abbrev S1x32x1x1x576 : Shape := ⟨5, ![1, 32, 1, 1, 576]⟩
abbrev S8x32x16x64 : Shape := ⟨4, ![8, 32, 16, 64]⟩
abbrev S8x32x16x64x1 : Shape := ⟨5, ![8, 32, 16, 64, 1]⟩
abbrev S8x32x16x128x64 : Shape := ⟨5, ![8, 32, 16, 128, 64]⟩

abbrev nBuf : Space → Nat
  | .hbm => 128
  | .vmem => 0
  | .smem => 0
  | _ => 0

abbrev bufTy : (tb : Table) → Fin (tcTables nBuf tb) → BufTy
  | .hbm, ⟨0, _⟩ => ⟨S16896x7168, .bf16⟩
  | .hbm, ⟨1, _⟩ => ⟨S16896x4096, .bf16⟩
  | .hbm, ⟨2, _⟩ => ⟨S16x513, .f32⟩
  | .hbm, ⟨3, _⟩ => ⟨S16896x2048, .bf16⟩
  | .hbm, ⟨4, _⟩ => ⟨S16896x2048, .f32⟩
  | .hbm, ⟨5, _⟩ => ⟨S16384x2048, .f32⟩
  | .hbm, ⟨6, _⟩ => ⟨S8x32x64x16x128, .f32⟩
  | .hbm, ⟨7, _⟩ => ⟨S16896x2048, .bf16⟩
  | .hbm, ⟨8, _⟩ => ⟨S16896x2048, .f32⟩
  | .hbm, ⟨9, _⟩ => ⟨S16384x2048, .f32⟩
  | .hbm, ⟨10, _⟩ => ⟨S8x32x64x16x128, .f32⟩
  | .hbm, ⟨11, _⟩ => ⟨S16896x2048, .bf16⟩
  | .hbm, ⟨12, _⟩ => ⟨S16896x2048, .f32⟩
  | .hbm, ⟨13, _⟩ => ⟨S16384x2048, .f32⟩
  | .hbm, ⟨14, _⟩ => ⟨S8x32x64x16x128, .f32⟩
  | .hbm, ⟨15, _⟩ => ⟨S_, .i32⟩
  | .hbm, ⟨16, _⟩ => ⟨S_, .f32⟩
  | .hbm, ⟨17, _⟩ => ⟨S8x40x64x16x128, .f32⟩
  | .hbm, ⟨18, _⟩ => ⟨S_, .i32⟩
  | .hbm, ⟨19, _⟩ => ⟨S_, .f32⟩
  | .hbm, ⟨20, _⟩ => ⟨S8x40x64x16x128, .f32⟩
  | .hbm, ⟨21, _⟩ => ⟨S32, .i32⟩
  | .hbm, ⟨22, _⟩ => ⟨S32x1, .i32⟩
  | .hbm, ⟨23, _⟩ => ⟨S9, .i32⟩
  | .hbm, ⟨24, _⟩ => ⟨S1x9, .i32⟩
  | .hbm, ⟨25, _⟩ => ⟨S32x9, .i32⟩
  | .hbm, ⟨26, _⟩ => ⟨S32x9, .i32⟩
  | .hbm, ⟨27, _⟩ => ⟨S32x9, .i32⟩
  | .hbm, ⟨28, _⟩ => ⟨S_, .i32⟩
  | .hbm, ⟨29, _⟩ => ⟨S32x9, .i32⟩
  | .hbm, ⟨30, _⟩ => ⟨S32x9, .i1⟩
  | .hbm, ⟨31, _⟩ => ⟨S_, .i32⟩
  | .hbm, ⟨32, _⟩ => ⟨S32x9, .i32⟩
  | .hbm, ⟨33, _⟩ => ⟨S32x9, .i32⟩
  | .hbm, ⟨34, _⟩ => ⟨S32x9, .i32⟩
  | .hbm, ⟨35, _⟩ => ⟨S32x9x1, .i32⟩
  | .hbm, ⟨36, _⟩ => ⟨S8x32x9x64x16x128, .f32⟩
  | .hbm, ⟨37, _⟩ => ⟨S8x32x576x16x128, .f32⟩
  | .hbm, ⟨38, _⟩ => ⟨S_, .i32⟩
  | .hbm, ⟨39, _⟩ => ⟨S32x9, .i32⟩
  | .hbm, ⟨40, _⟩ => ⟨S32x9, .i1⟩
  | .hbm, ⟨41, _⟩ => ⟨S_, .i32⟩
  | .hbm, ⟨42, _⟩ => ⟨S32x9, .i32⟩
  | .hbm, ⟨43, _⟩ => ⟨S32x9, .i32⟩
  | .hbm, ⟨44, _⟩ => ⟨S32x9, .i32⟩
  | .hbm, ⟨45, _⟩ => ⟨S32x9x1, .i32⟩
  | .hbm, ⟨46, _⟩ => ⟨S8x32x9x64x16x128, .f32⟩
  | .hbm, ⟨47, _⟩ => ⟨S8x32x576x16x128, .f32⟩
  | .hbm, ⟨48, _⟩ => ⟨S32, .i32⟩
  | .hbm, ⟨49, _⟩ => ⟨S32x1, .i32⟩
  | .hbm, ⟨50, _⟩ => ⟨S_, .i32⟩
  | .hbm, ⟨51, _⟩ => ⟨S32x1, .i32⟩
  | .hbm, ⟨52, _⟩ => ⟨S32x1, .i32⟩
  | .hbm, ⟨53, _⟩ => ⟨S_, .i32⟩
  | .hbm, ⟨54, _⟩ => ⟨S32x1, .i32⟩
  | .hbm, ⟨55, _⟩ => ⟨S32x1, .i32⟩
  | .hbm, ⟨56, _⟩ => ⟨S576, .i32⟩
  | .hbm, ⟨57, _⟩ => ⟨S1x576, .i32⟩
  | .hbm, ⟨58, _⟩ => ⟨S32x576, .i32⟩
  | .hbm, ⟨59, _⟩ => ⟨S32x576, .i32⟩
  | .hbm, ⟨60, _⟩ => ⟨S32x576, .i32⟩
  | .hbm, ⟨61, _⟩ => ⟨S_, .i32⟩
  | .hbm, ⟨62, _⟩ => ⟨S32x576, .i32⟩
  | .hbm, ⟨63, _⟩ => ⟨S32x576, .i1⟩
  | .hbm, ⟨64, _⟩ => ⟨S64, .i32⟩
  | .hbm, ⟨65, _⟩ => ⟨S64x1, .i32⟩
  | .hbm, ⟨66, _⟩ => ⟨S_, .i32⟩
  | .hbm, ⟨67, _⟩ => ⟨S64x1, .i32⟩
  | .hbm, ⟨68, _⟩ => ⟨S64x1, .i32⟩
  | .hbm, ⟨69, _⟩ => ⟨S576, .i32⟩
  | .hbm, ⟨70, _⟩ => ⟨S1x576, .i32⟩
  | .hbm, ⟨71, _⟩ => ⟨S64x576, .i32⟩
  | .hbm, ⟨72, _⟩ => ⟨S64x576, .i32⟩
  | .hbm, ⟨73, _⟩ => ⟨S64x576, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S64x576, .i32⟩
  | .hbm, ⟨78, _⟩ => ⟨S64x576, .i32⟩
  | .hbm, ⟨79, _⟩ => ⟨S_, .i32⟩
  | .hbm, ⟨80, _⟩ => ⟨S64x576, .i32⟩
  | .hbm, ⟨81, _⟩ => ⟨S64x576, .i32⟩
  | .hbm, ⟨82, _⟩ => ⟨S_, .i32⟩
  | .hbm, ⟨83, _⟩ => ⟨S64x576, .i32⟩
  | .hbm, ⟨84, _⟩ => ⟨S64x576, .i32⟩
  | .hbm, ⟨85, _⟩ => ⟨S_, .i32⟩
  | .hbm, ⟨86, _⟩ => ⟨S64x576, .i32⟩
  | .hbm, ⟨87, _⟩ => ⟨S64x576, .i1⟩
  | .hbm, ⟨88, _⟩ => ⟨S_, .i32⟩
  | .hbm, ⟨89, _⟩ => ⟨S64x576, .i32⟩
  | .hbm, ⟨90, _⟩ => ⟨S64x576, .i32⟩
  | .hbm, ⟨91, _⟩ => ⟨S64x576, .i32⟩
  | .hbm, ⟨92, _⟩ => ⟨S64x576x1, .i32⟩
  | .hbm, ⟨93, _⟩ => ⟨S16x64x576, .f32⟩
  | .hbm, ⟨94, _⟩ => ⟨S8x32x16x64x576, .f32⟩
  | .hbm, ⟨95, _⟩ => ⟨S_, .f32⟩
  | .hbm, ⟨96, _⟩ => ⟨S8x32x16x64x576, .f32⟩
  | .hbm, ⟨97, _⟩ => ⟨S8x32x16x64x576, .f32⟩
  | .hbm, ⟨98, _⟩ => ⟨S1x1x16x64x576, .f32⟩
  | .hbm, ⟨99, _⟩ => ⟨S8x32x16x64x576, .f32⟩
  | .hbm, ⟨100, _⟩ => ⟨S8x32x16x64x576, .f32⟩
  | .hbm, ⟨101, _⟩ => ⟨S1x32x1x1x576, .i1⟩
  | .hbm, ⟨102, _⟩ => ⟨S_, .f32⟩
  | .hbm, ⟨103, _⟩ => ⟨S_, .f32⟩
  | .hbm, ⟨104, _⟩ => ⟨S8x32x16x64x576, .i1⟩
  | .hbm, ⟨105, _⟩ => ⟨S8x32x16x64x576, .f32⟩
  | .hbm, ⟨106, _⟩ => ⟨S8x32x16x64x576, .f32⟩
  | .hbm, ⟨107, _⟩ => ⟨S_, .f32⟩
  | .hbm, ⟨108, _⟩ => ⟨S8x32x16x64, .f32⟩
  | .hbm, ⟨109, _⟩ => ⟨S_, .f32⟩
  | .hbm, ⟨110, _⟩ => ⟨S8x32x16x64, .f32⟩
  | .hbm, ⟨111, _⟩ => ⟨S8x32x16x64, .f32⟩
  | .hbm, ⟨112, _⟩ => ⟨S8x32x16x64x1, .f32⟩
  | .hbm, ⟨113, _⟩ => ⟨S8x32x16x64x576, .f32⟩
  | .hbm, ⟨114, _⟩ => ⟨S8x32x16x64x576, .f32⟩
  | .hbm, ⟨115, _⟩ => ⟨S8x32x16x64x576, .f32⟩
  | .hbm, ⟨116, _⟩ => ⟨S_, .f32⟩
  | .hbm, ⟨117, _⟩ => ⟨S8x32x16x64, .f32⟩
  | .hbm, ⟨118, _⟩ => ⟨S8x32x16x64x1, .f32⟩
  | .hbm, ⟨119, _⟩ => ⟨S8x32x16x64x576, .f32⟩
  | .hbm, ⟨120, _⟩ => ⟨S8x32x16x64x576, .f32⟩
  | .hbm, ⟨121, _⟩ => ⟨S8x32x16x128x64, .f32⟩
  | .hbm, ⟨122, _⟩ => ⟨S8x32x64x16x128, .f32⟩
  | .hbm, ⟨123, _⟩ => ⟨S16384x2048, .f32⟩
  | .hbm, ⟨124, _⟩ => ⟨S_, .i32⟩
  | .hbm, ⟨125, _⟩ => ⟨S_, .f32⟩
  | .hbm, ⟨126, _⟩ => ⟨S16896x2048, .f32⟩
  | .hbm, ⟨127, _⟩ => ⟨S16896x2048, .bf16⟩
  | _, _ => ⟨S16896x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_9 : Ref sig .tc := ⟨.hbm, 74, rfl⟩
abbrev main_c_10 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_18 : Ref sig .tc := ⟨.hbm, 124, rfl⟩
abbrev main_call4_v0 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]
-- ==== Ffn.lean ====
abbrev S16896x4096 : Shape := ⟨2, ![16896, 4096]⟩
abbrev S4096x11008 : Shape := ⟨2, ![4096, 11008]⟩
abbrev S11008x4096 : Shape := ⟨2, ![11008, 4096]⟩
abbrev S4096x43x256 : Shape := ⟨3, ![4096, 43, 256]⟩
abbrev S4096x43x512 : Shape := ⟨3, ![4096, 43, 512]⟩
abbrev S43x4096x512 : Shape := ⟨3, ![43, 4096, 512]⟩
abbrev S512x4096 : Shape := ⟨2, ![512, 4096]⟩
abbrev S1x4096x512 : Shape := ⟨3, ![1, 4096, 512]⟩
abbrev S256x4096 : Shape := ⟨2, ![256, 4096]⟩
abbrev S4096x512 : Shape := ⟨2, ![4096, 512]⟩
abbrev S512x512 : Shape := ⟨2, ![512, 512]⟩
abbrev S512x256 : Shape := ⟨2, ![512, 256]⟩

abbrev nBuf : Space → Nat
  | .hbm => 12
  | .vmem => 9
  | .smem => 0
  | _ => 0

abbrev bufTy : (tb : Table) → Fin (tcTables nBuf tb) → BufTy
  | .hbm, ⟨0, _⟩ => ⟨S16896x4096, .bf16⟩
  | .hbm, ⟨1, _⟩ => ⟨S16896x4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x43x256, .f32⟩
  | .hbm, ⟨6, _⟩ => ⟨S4096x43x256, .f32⟩
  | .hbm, ⟨7, _⟩ => ⟨S4096x43x512, .f32⟩
  | .hbm, ⟨8, _⟩ => ⟨S43x4096x512, .f32⟩
  | .hbm, ⟨9, _⟩ => ⟨S43x4096x512, .bf16⟩
  | .hbm, ⟨10, _⟩ => ⟨S11008x4096, .bf16⟩
  | .hbm, ⟨11, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .f32⟩
  | .local _ .vmem, ⟨3, _⟩ => ⟨S1x4096x512, .bf16⟩
  | .local _ .vmem, ⟨4, _⟩ => ⟨S1x4096x512, .bf16⟩
  | .local _ .vmem, ⟨5, _⟩ => ⟨S256x4096, .bf16⟩
  | .local _ .vmem, ⟨6, _⟩ => ⟨S256x4096, .bf16⟩
  | .local _ .vmem, ⟨7, _⟩ => ⟨S512x4096, .f32⟩
  | .local _ .vmem, ⟨8, _⟩ => ⟨S512x4096, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![33, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S16896x4096 : Shape := ⟨2, ![16896, 4096]⟩
abbrev S4096x11008 : Shape := ⟨2, ![4096, 11008]⟩
abbrev S11008x4096 : Shape := ⟨2, ![11008, 4096]⟩
abbrev S16896x11008 : Shape := ⟨2, ![16896, 11008]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S16896x4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S16896x4096, .f32⟩
  | .hbm, ⟨6, _⟩ => ⟨S16896x11008, .f32⟩
  | .hbm, ⟨7, _⟩ => ⟨S16896x11008, .f32⟩
  | .hbm, ⟨8, _⟩ => ⟨S16896x11008, .f32⟩
  | .hbm, ⟨9, _⟩ => ⟨S_, .f32⟩
  | .hbm, ⟨10, _⟩ => ⟨S16896x11008, .f32⟩
  | .hbm, ⟨11, _⟩ => ⟨S16896x11008, .f32⟩
  | .hbm, ⟨12, _⟩ => ⟨S_, .f32⟩
  | .hbm, ⟨13, _⟩ => ⟨S16896x11008, .f32⟩
  | .hbm, ⟨14, _⟩ => ⟨S16896x11008, .f32⟩
  | .hbm, ⟨15, _⟩ => ⟨S16896x11008, .f32⟩
  | .hbm, ⟨16, _⟩ => ⟨S16896x11008, .f32⟩
  | .hbm, ⟨17, _⟩ => ⟨S16896x11008, .f32⟩
  | .hbm, ⟨18, _⟩ => ⟨S16896x4096, .f32⟩
  | .hbm, ⟨19, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== InprojKv.lean ====
abbrev S16896x4096 : Shape := ⟨2, ![16896, 4096]⟩
abbrev S4096x11264 : Shape := ⟨2, ![4096, 11264]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16896x4096, .bf16⟩
  | .hbm, ⟨1, _⟩ => ⟨S4096x11264, .f32⟩
  | .hbm, ⟨2, _⟩ => ⟨S4096x11264, .bf16⟩
  | .hbm, ⟨3, _⟩ => ⟨S16896x4096, .bf16⟩
  | .hbm, ⟨4, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojKvRefIdeal.lean ====
abbrev S16896x4096 : Shape := ⟨2, ![16896, 4096]⟩
abbrev S4096x11264 : Shape := ⟨2, ![4096, 11264]⟩
abbrev S16896x11264 : Shape := ⟨2, ![16896, 11264]⟩

abbrev nBuf : Space → Nat
  | .hbm => 6
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x11264, .f32⟩
  | .hbm, ⟨2, _⟩ => ⟨S16896x4096, .f32⟩
  | .hbm, ⟨3, _⟩ => ⟨S16896x11264, .f32⟩
  | .hbm, ⟨4, _⟩ => ⟨S16896x4096, .f32⟩
  | .hbm, ⟨5, _⟩ => ⟨S16896x4096, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InprojRest.lean ====
abbrev S16896x4096 : Shape := ⟨2, ![16896, 4096]⟩
abbrev S4096x11264 : Shape := ⟨2, ![4096, 11264]⟩
abbrev S16896x7168 : Shape := ⟨2, ![16896, 7168]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x11264, .f32⟩
  | .hbm, ⟨2, _⟩ => ⟨S4096x11264, .bf16⟩
  | .hbm, ⟨3, _⟩ => ⟨S16896x7168, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c4_i32 : BitVec 32 := 4#32
  let v1 : BitVec 32 := Scalar.addi arg0 c4_i32
  let v2 : BitVec 32 := Scalar.select v0 arg0 v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojRestRefIdeal.lean ====
abbrev S16896x4096 : Shape := ⟨2, ![16896, 4096]⟩
abbrev S4096x11264 : Shape := ⟨2, ![4096, 11264]⟩
abbrev S16896x11264 : Shape := ⟨2, ![16896, 11264]⟩
abbrev S16896x2048 : Shape := ⟨2, ![16896, 2048]⟩
abbrev S16896x5120 : Shape := ⟨2, ![16896, 5120]⟩
abbrev S16896x7168 : Shape := ⟨2, ![16896, 7168]⟩

abbrev nBuf : Space → Nat
  | .hbm => 8
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x11264, .f32⟩
  | .hbm, ⟨2, _⟩ => ⟨S16896x4096, .f32⟩
  | .hbm, ⟨3, _⟩ => ⟨S16896x11264, .f32⟩
  | .hbm, ⟨4, _⟩ => ⟨S16896x2048, .f32⟩
  | .hbm, ⟨5, _⟩ => ⟨S16896x5120, .f32⟩
  | .hbm, ⟨6, _⟩ => ⟨S16896x7168, .f32⟩
  | .hbm, ⟨7, _⟩ => ⟨S16896x7168, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Outproj.lean ====
abbrev S16896x2048 : Shape := ⟨2, ![16896, 2048]⟩
abbrev S16896x1024 : Shape := ⟨2, ![16896, 1024]⟩
abbrev S4096x4096 : Shape := ⟨2, ![4096, 4096]⟩
abbrev S16896x4096 : Shape := ⟨2, ![16896, 4096]⟩
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16896x2048, .bf16⟩
  | .hbm, ⟨1, _⟩ => ⟨S16896x1024, .bf16⟩
  | .hbm, ⟨2, _⟩ => ⟨S16896x1024, .bf16⟩
  | .hbm, ⟨3, _⟩ => ⟨S4096x4096, .f32⟩
  | .hbm, ⟨4, _⟩ => ⟨S16896x4096, .f32⟩
  | .hbm, ⟨5, _⟩ => ⟨S4096x4096, .bf16⟩
  | .hbm, ⟨6, _⟩ => ⟨S16896x4096, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutprojRefIdeal.lean ====
abbrev S16896x2048 : Shape := ⟨2, ![16896, 2048]⟩
abbrev S16896x1024 : Shape := ⟨2, ![16896, 1024]⟩
abbrev S4096x4096 : Shape := ⟨2, ![4096, 4096]⟩
abbrev S16896x4096 : Shape := ⟨2, ![16896, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x1024, .bf16⟩
  | .hbm, ⟨2, _⟩ => ⟨S16896x1024, .bf16⟩
  | .hbm, ⟨3, _⟩ => ⟨S4096x4096, .f32⟩
  | .hbm, ⟨4, _⟩ => ⟨S16896x4096, .f32⟩
  | .hbm, ⟨5, _⟩ => ⟨S16896x4096, .bf16⟩
  | .hbm, ⟨6, _⟩ => ⟨S16896x4096, .f32⟩
  | .hbm, ⟨7, _⟩ => ⟨S16896x4096, .f32⟩
  | .hbm, ⟨8, _⟩ => ⟨S16896x4096, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== NormH.lean ====
abbrev S16896x4096 : Shape := ⟨2, ![16896, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormHRefIdeal.lean ====
abbrev S16896x4096 : Shape := ⟨2, ![16896, 4096]⟩
abbrev S4096 : Shape := ⟨1, ![4096]⟩
abbrev S_ : Shape := ⟨0, ![]⟩
abbrev S16896 : Shape := ⟨1, ![16896]⟩
abbrev S16896x1 : Shape := ⟨2, ![16896, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16896x4096, .f32⟩
  | .hbm, ⟨3, _⟩ => ⟨S_, .f32⟩
  | .hbm, ⟨4, _⟩ => ⟨S16896, .f32⟩
  | .hbm, ⟨5, _⟩ => ⟨S16896x1, .f32⟩
  | .hbm, ⟨6, _⟩ => ⟨S_, .f32⟩
  | .hbm, ⟨7, _⟩ => ⟨S16896x1, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S16896x1, .f32⟩
  | .hbm, ⟨13, _⟩ => ⟨S16896x4096, .f32⟩
  | .hbm, ⟨14, _⟩ => ⟨S16896x4096, .f32⟩
  | .hbm, ⟨15, _⟩ => ⟨S1x4096, .f32⟩
  | .hbm, ⟨16, _⟩ => ⟨S16896x4096, .f32⟩
  | .hbm, ⟨17, _⟩ => ⟨S16896x4096, .f32⟩
  | .hbm, ⟨18, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormPrompt.lean ====
abbrev S16896x4096 : Shape := ⟨2, ![16896, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPromptRefIdeal.lean ====
abbrev S16896x4096 : Shape := ⟨2, ![16896, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormSample.lean ====
abbrev S16896x4096 : Shape := ⟨2, ![16896, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S512x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSampleRefIdeal.lean ====
abbrev S16896x4096 : Shape := ⟨2, ![16896, 4096]⟩
abbrev S4096 : Shape := ⟨1, ![4096]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S512x4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixbPrompt.lean ====
abbrev S16896x7168 : Shape := ⟨2, ![16896, 7168]⟩
abbrev S3x1024 : Shape := ⟨2, ![3, 1024]⟩
abbrev S16896x1024 : Shape := ⟨2, ![16896, 1024]⟩
abbrev S8x8x1024 : Shape := ⟨3, ![8, 8, 1024]⟩
abbrev S256x1024 : Shape := ⟨2, ![256, 1024]⟩
abbrev S16x1024 : Shape := ⟨2, ![16, 1024]⟩
abbrev S1x8x1024 : Shape := ⟨3, ![1, 8, 1024]⟩
abbrev S264x1024 : Shape := ⟨2, ![264, 1024]⟩
abbrev S8x1024 : Shape := ⟨2, ![8, 1024]⟩
abbrev S32x1024 : Shape := ⟨2, ![32, 1024]⟩
abbrev S1x1024 : Shape := ⟨2, ![1, 1024]⟩

abbrev nBuf : Space → Nat
  | .hbm => 4
  | .vmem => 16
  | .smem => 0
  | _ => 0

abbrev bufTy : (tb : Table) → Fin (tcTables nBuf tb) → BufTy
  | .hbm, ⟨0, _⟩ => ⟨S16896x7168, .bf16⟩
  | .hbm, ⟨1, _⟩ => ⟨S3x1024, .f32⟩
  | .hbm, ⟨2, _⟩ => ⟨S16896x1024, .bf16⟩
  | .hbm, ⟨3, _⟩ => ⟨S8x8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S256x1024, .bf16⟩
  | .local _ .vmem, ⟨12, _⟩ => ⟨S256x1024, .bf16⟩
  | .local _ .vmem, ⟨13, _⟩ => ⟨S1x8x1024, .f32⟩
  | .local _ .vmem, ⟨14, _⟩ => ⟨S1x8x1024, .f32⟩
  | .local _ .vmem, ⟨15, _⟩ => ⟨S264x1024, .f32⟩
  | _, _ => ⟨S16896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixbPromptRefIdeal.lean ====
abbrev S16896x7168 : Shape := ⟨2, ![16896, 7168]⟩
abbrev S3x1024 : Shape := ⟨2, ![3, 1024]⟩
abbrev S16384x7168 : Shape := ⟨2, ![16384, 7168]⟩
abbrev S8x2048x7168 : Shape := ⟨3, ![8, 2048, 7168]⟩
abbrev S_ : Shape := ⟨0, ![]⟩
abbrev S8x2x1024 : Shape := ⟨3, ![8, 2, 1024]⟩
abbrev S8x2048x3072 : Shape := ⟨3, ![8, 2048, 3072]⟩
abbrev S8x2048x1024 : Shape := ⟨3, ![8, 2048, 1024]⟩
abbrev S8x2050x1024 : Shape := ⟨3, ![8, 2050, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩
abbrev S16896x1024 : Shape := ⟨2, ![16896, 1024]⟩
abbrev S8x8x1024 : Shape := ⟨3, ![8, 8, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16896x7168, .bf16⟩
  | .hbm, ⟨1, _⟩ => ⟨S3x1024, .f32⟩
  | .hbm, ⟨2, _⟩ => ⟨S16384x7168, .bf16⟩
  | .hbm, ⟨3, _⟩ => ⟨S16384x7168, .f32⟩
  | .hbm, ⟨4, _⟩ => ⟨S8x2048x7168, .f32⟩
  | .hbm, ⟨5, _⟩ => ⟨S_, .f32⟩
  | .hbm, ⟨6, _⟩ => ⟨S8x2x1024, .f32⟩
  | .hbm, ⟨7, _⟩ => ⟨S8x2048x3072, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2050x1024, .f32⟩
  | .hbm, ⟨13, _⟩ => ⟨S8x2048x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2x1024, .f32⟩
  | .hbm, ⟨34, _⟩ => ⟨S8x2048x1024, .f32⟩
  | .hbm, ⟨35, _⟩ => ⟨S16384x1024, .f32⟩
  | .hbm, ⟨36, _⟩ => ⟨S_, .i32⟩
  | .hbm, ⟨37, _⟩ => ⟨S_, .f32⟩
  | .hbm, ⟨38, _⟩ => ⟨S16896x1024, .f32⟩
  | .hbm, ⟨39, _⟩ => ⟨S16896x1024, .bf16⟩
  | .hbm, ⟨40, _⟩ => ⟨S_, .i32⟩
  | .hbm, ⟨41, _⟩ => ⟨S_, .f32⟩
  | .hbm, ⟨42, _⟩ => ⟨S8x8x1024, .f32⟩
  | _, _ => ⟨S16896x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_c : Ref sig .tc := ⟨.hbm, 36, rfl⟩
abbrev main_call0_v0 : Ref sig .tc := ⟨.hbm, 37, rfl⟩
abbrev main_v33 : Ref sig .tc := ⟨.hbm, 38, rfl⟩
abbrev main_v34 : Ref sig .tc := ⟨.hbm, 39, rfl⟩
abbrev main_c_0 : Ref sig .tc := ⟨.hbm, 40, rfl⟩
abbrev main_call1_v0 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== MixbSample.lean ====
abbrev S16896x7168 : Shape := ⟨2, ![16896, 7168]⟩
abbrev S16x2x1024 : Shape := ⟨3, ![16, 2, 1024]⟩
abbrev S3x1024 : Shape := ⟨2, ![3, 1024]⟩
abbrev S16896x1024 : Shape := ⟨2, ![16896, 1024]⟩
abbrev S_ : Shape := ⟨0, ![]⟩
abbrev S16x8x1024 : Shape := ⟨3, ![16, 8, 1024]⟩
abbrev S32x1024 : Shape := ⟨2, ![32, 1024]⟩
abbrev S1x8x1024 : Shape := ⟨3, ![1, 8, 1024]⟩
abbrev S40x1024 : Shape := ⟨2, ![40, 1024]⟩
abbrev S8x1024 : Shape := ⟨2, ![8, 1024]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16896x7168, .bf16⟩
  | .hbm, ⟨1, _⟩ => ⟨S16x2x1024, .f32⟩
  | .hbm, ⟨2, _⟩ => ⟨S3x1024, .f32⟩
  | .hbm, ⟨3, _⟩ => ⟨S16896x1024, .bf16⟩
  | .hbm, ⟨4, _⟩ => ⟨S_, .i32⟩
  | .hbm, ⟨5, _⟩ => ⟨S_, .f32⟩
  | .hbm, ⟨6, _⟩ => ⟨S16x8x1024, .f32⟩
  | .hbm, ⟨7, _⟩ => ⟨S16896x1024, .bf16⟩
  | .hbm, ⟨8, _⟩ => ⟨S16x8x1024, .f32⟩
  | .local _ .vmem, ⟨0, _⟩ => ⟨S32x1024, .bf16⟩
  | .local _ .vmem, ⟨1, _⟩ => ⟨S32x1024, .bf16⟩
  | .local _ .vmem, ⟨2, _⟩ => ⟨S32x1024, .bf16⟩
  | .local _ .vmem, ⟨3, _⟩ => ⟨S32x1024, .bf16⟩
  | .local _ .vmem, ⟨4, _⟩ => ⟨S32x1024, .bf16⟩
  | .local _ .vmem, ⟨5, _⟩ => ⟨S32x1024, .bf16⟩
  | .local _ .vmem, ⟨6, _⟩ => ⟨S1x8x1024, .f32⟩
  | .local _ .vmem, ⟨7, _⟩ => ⟨S1x8x1024, .f32⟩
  | .local _ .vmem, ⟨8, _⟩ => ⟨S3x1024, .f32⟩
  | .local _ .vmem, ⟨9, _⟩ => ⟨S32x1024, .bf16⟩
  | .local _ .vmem, ⟨10, _⟩ => ⟨S32x1024, .bf16⟩
  | .local _ .vmem, ⟨11, _⟩ => ⟨S1x8x1024, .f32⟩
  | .local _ .vmem, ⟨12, _⟩ => ⟨S1x8x1024, .f32⟩
  | .local _ .vmem, ⟨13, _⟩ => ⟨S40x1024, .f32⟩
  | _, _ => ⟨S16896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c512_i32 : BitVec 32 := 512#32
  let v0 : BitVec 32 := Scalar.addi arg0 c512_i32
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c512_i32 : BitVec 32 := 512#32
  let v0 : BitVec 32 := Scalar.addi arg0 c512_i32
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c512_i32 : BitVec 32 := 512#32
  let v0 : BitVec 32 := Scalar.addi arg0 c512_i32
  let c4_i32 : BitVec 32 := 4#32
  let c0_i32 : BitVec 32 := 0#32
  ![v0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c512_i32 : BitVec 32 := 512#32
  let v0 : BitVec 32 := Scalar.addi arg0 c512_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixbSampleRefIdeal.lean ====
abbrev S16896x7168 : Shape := ⟨2, ![16896, 7168]⟩
abbrev S16x2x1024 : Shape := ⟨3, ![16, 2, 1024]⟩
abbrev S3x1024 : Shape := ⟨2, ![3, 1024]⟩
abbrev S16896x1024 : Shape := ⟨2, ![16896, 1024]⟩
abbrev S512x7168 : Shape := ⟨2, ![512, 7168]⟩
abbrev S16x32x7168 : Shape := ⟨3, ![16, 32, 7168]⟩
abbrev S16x32x3072 : Shape := ⟨3, ![16, 32, 3072]⟩
abbrev S16x32x1024 : Shape := ⟨3, ![16, 32, 1024]⟩
abbrev S16x34x1024 : Shape := ⟨3, ![16, 34, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩
abbrev S512x1024 : Shape := ⟨2, ![512, 1024]⟩
abbrev S_ : Shape := ⟨0, ![]⟩
abbrev S16x8x1024 : Shape := ⟨3, ![16, 8, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16896x7168, .bf16⟩
  | .hbm, ⟨1, _⟩ => ⟨S16x2x1024, .f32⟩
  | .hbm, ⟨2, _⟩ => ⟨S3x1024, .f32⟩
  | .hbm, ⟨3, _⟩ => ⟨S16896x1024, .bf16⟩
  | .hbm, ⟨4, _⟩ => ⟨S512x7168, .bf16⟩
  | .hbm, ⟨5, _⟩ => ⟨S512x7168, .f32⟩
  | .hbm, ⟨6, _⟩ => ⟨S16x32x7168, .f32⟩
  | .hbm, ⟨7, _⟩ => ⟨S16x32x3072, .f32⟩
  | .hbm, ⟨8, _⟩ => ⟨S16x32x1024, .f32⟩
  | .hbm, ⟨9, _⟩ => ⟨S16x32x1024, .f32⟩
  | .hbm, ⟨10, _⟩ => ⟨S16x32x1024, .f32⟩
  | .hbm, ⟨11, _⟩ => ⟨S16x32x1024, .f32⟩
  | .hbm, ⟨12, _⟩ => ⟨S16x34x1024, .f32⟩
  | .hbm, ⟨13, _⟩ => ⟨S16x32x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S16x32x1024, .f32⟩
  | .hbm, ⟨18, _⟩ => ⟨S16x32x1024, .f32⟩
  | .hbm, ⟨19, _⟩ => ⟨S16x32x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S16x32x1024, .f32⟩
  | .hbm, ⟨24, _⟩ => ⟨S16x32x1024, .f32⟩
  | .hbm, ⟨25, _⟩ => ⟨S16x32x1024, .f32⟩
  | .hbm, ⟨26, _⟩ => ⟨S16x32x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S16x32x1024, .f32⟩
  | .hbm, ⟨31, _⟩ => ⟨S16x32x1024, .f32⟩
  | .hbm, ⟨32, _⟩ => ⟨S16x32x1024, .f32⟩
  | .hbm, ⟨33, _⟩ => ⟨S16x2x1024, .f32⟩
  | .hbm, ⟨34, _⟩ => ⟨S16x32x1024, .f32⟩
  | .hbm, ⟨35, _⟩ => ⟨S16384x1024, .bf16⟩
  | .hbm, ⟨36, _⟩ => ⟨S512x1024, .f32⟩
  | .hbm, ⟨37, _⟩ => ⟨S512x1024, .bf16⟩
  | .hbm, ⟨38, _⟩ => ⟨S16896x1024, .bf16⟩
  | .hbm, ⟨39, _⟩ => ⟨S_, .i32⟩
  | .hbm, ⟨40, _⟩ => ⟨S_, .f32⟩
  | .hbm, ⟨41, _⟩ => ⟨S16x8x1024, .f32⟩
  | _, _ => ⟨S16896x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_c : Ref sig .tc := ⟨.hbm, 39, rfl⟩
abbrev main_call0_v0 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== MixcPrompt.lean ====
abbrev S16896x7168 : Shape := ⟨2, ![16896, 7168]⟩
abbrev S31x1024 : Shape := ⟨2, ![31, 1024]⟩
abbrev S1024 : Shape := ⟨1, ![1024]⟩
abbrev S1x1024 : Shape := ⟨2, ![1, 1024]⟩
abbrev S16896x1024 : Shape := ⟨2, ![16896, 1024]⟩
abbrev S8x32x1024 : Shape := ⟨3, ![8, 32, 1024]⟩
abbrev S256x1024 : Shape := ⟨2, ![256, 1024]⟩
abbrev S32x1024 : Shape := ⟨2, ![32, 1024]⟩
abbrev S1x32x1024 : Shape := ⟨3, ![1, 32, 1024]⟩
abbrev S288x1024 : Shape := ⟨2, ![288, 1024]⟩
abbrev S32 : Shape := ⟨1, ![32]⟩
abbrev S32x1 : Shape := ⟨2, ![32, 1]⟩

abbrev nBuf : Space → Nat
  | .hbm => 10
  | .vmem => 17
  | .smem => 0
  | _ => 0

abbrev bufTy : (tb : Table) → Fin (tcTables nBuf tb) → BufTy
  | .hbm, ⟨0, _⟩ => ⟨S16896x7168, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16896x1024, .bf16⟩
  | .hbm, ⟨9, _⟩ => ⟨S8x32x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S1x32x1024, .f32⟩
  | .local _ .vmem, ⟨15, _⟩ => ⟨S1x32x1024, .f32⟩
  | .local _ .vmem, ⟨16, _⟩ => ⟨S288x1024, .f32⟩
  | _, _ => ⟨S16896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixcPromptRefIdeal.lean ====
abbrev S16896x7168 : Shape := ⟨2, ![16896, 7168]⟩
abbrev S31x1024 : Shape := ⟨2, ![31, 1024]⟩
abbrev S1024 : Shape := ⟨1, ![1024]⟩
abbrev S16384x7168 : Shape := ⟨2, ![16384, 7168]⟩
abbrev S8x2048x7168 : Shape := ⟨3, ![8, 2048, 7168]⟩
abbrev S_ : Shape := ⟨0, ![]⟩
abbrev S8x30x1024 : Shape := ⟨3, ![8, 30, 1024]⟩
abbrev S8x2048x2048 : Shape := ⟨3, ![8, 2048, 2048]⟩
abbrev S8x2048x1024 : Shape := ⟨3, ![8, 2048, 1024]⟩
abbrev S8x2078x1024 : Shape := ⟨3, ![8, 2078, 1024]⟩
abbrev S1x1024 : Shape := ⟨2, ![1, 1024]⟩
abbrev S1x1x1024 : Shape := ⟨3, ![1, 1, 1024]⟩
abbrev S8x2048 : Shape := ⟨2, ![8, 2048]⟩
abbrev S8x2048x1 : Shape := ⟨3, ![8, 2048, 1]⟩
abbrev S16384x1024 : Shape := ⟨2, ![16384, 1024]⟩
abbrev S16896x1024 : Shape := ⟨2, ![16896, 1024]⟩
abbrev S8x32x1024 : Shape := ⟨3, ![8, 32, 1024]⟩

abbrev nBuf : Space → Nat
  | .hbm => 289
  | .vmem => 0
  | .smem => 0
  | _ => 0

abbrev hbmTy0_0 (i : Nat) : BufTy := match i % 128 with
  | 0 => ⟨S16896x7168, .bf16⟩
  | 1 => ⟨S31x1024, .f32⟩
  | 2 => ⟨S1024, .f32⟩
  | 3 => ⟨S1024, .f32⟩
  | 4 => ⟨S1024, .f32⟩
  | 5 => ⟨S16384x7168, .bf16⟩
  | 6 => ⟨S16384x7168, .f32⟩
  | 7 => ⟨S8x2048x7168, .f32⟩
  | 8 => ⟨S_, .f32⟩
  | 9 => ⟨S8x30x1024, .f32⟩
  | 10 => ⟨S8x2048x2048, .f32⟩
  | 11 => ⟨S8x2048x1024, .f32⟩
  | 12 => ⟨S8x2048x1024, .f32⟩
  | 13 => ⟨S8x2048x1024, .f32⟩
  | 14 => ⟨S8x2048x1024, .f32⟩
  | 15 => ⟨S_, .f32⟩
  | 16 => ⟨S8x2048x1024, .f32⟩
  | 17 => ⟨S8x2048x1024, .f32⟩
  | 18 => ⟨S_, .f32⟩
  | 19 => ⟨S8x2048x1024, .f32⟩
  | 20 => ⟨S8x2048x1024, .f32⟩
  | 21 => ⟨S8x2048x1024, .f32⟩
  | 22 => ⟨S8x2078x1024, .f32⟩
  | 23 => ⟨S8x2048x1024, .f32⟩
  | 24 => ⟨S1x1024, .f32⟩
  | 25 => ⟨S1024, .f32⟩
  | 26 => ⟨S1x1x1024, .f32⟩
  | 27 => ⟨S8x2048x1024, .f32⟩
  | 28 => ⟨S8x2048x1024, .f32⟩
  | 29 => ⟨S8x2048x1024, .f32⟩
  | 30 => ⟨S1x1024, .f32⟩
  | 31 => ⟨S1024, .f32⟩
  | 32 => ⟨S1x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S1x1024, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S1x1024, .f32⟩
  | 59 => ⟨S1024, .f32⟩
  | 60 => ⟨S1x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S1x1024, .f32⟩
  | 66 => ⟨S1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S1x1024, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S1x1024, .f32⟩
  | 80 => ⟨S1024, .f32⟩
  | 81 => ⟨S1x1x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S1x1024, .f32⟩
  | 87 => ⟨S1024, .f32⟩
  | 88 => ⟨S1x1x1024, .f32⟩
  | 89 => ⟨S8x2048x1024, .f32⟩
  | 90 => ⟨S8x2048x1024, .f32⟩
  | 91 => ⟨S8x2048x1024, .f32⟩
  | 92 => ⟨S8x2048x1024, .f32⟩
  | 93 => ⟨S1x1024, .f32⟩
  | 94 => ⟨S1024, .f32⟩
  | 95 => ⟨S1x1x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S1x1024, .f32⟩
  | 101 => ⟨S1024, .f32⟩
  | 102 => ⟨S1x1x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S1x1024, .f32⟩
  | 108 => ⟨S1024, .f32⟩
  | 109 => ⟨S1x1x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S1x1024, .f32⟩
  | 115 => ⟨S1024, .f32⟩
  | 116 => ⟨S1x1x1024, .f32⟩
  | 117 => ⟨S8x2048x1024, .f32⟩
  | 118 => ⟨S8x2048x1024, .f32⟩
  | 119 => ⟨S8x2048x1024, .f32⟩
  | 120 => ⟨S8x2048x1024, .f32⟩
  | 121 => ⟨S1x1024, .f32⟩
  | 122 => ⟨S1024, .f32⟩
  | 123 => ⟨S1x1x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S16896x7168, .bf16⟩

abbrev hbmTy0_1 (i : Nat) : BufTy := match i % 128 with
  | 0 => ⟨S1x1024, .f32⟩
  | 1 => ⟨S1024, .f32⟩
  | 2 => ⟨S1x1x1024, .f32⟩
  | 3 => ⟨S8x2048x1024, .f32⟩
  | 4 => ⟨S8x2048x1024, .f32⟩
  | 5 => ⟨S8x2048x1024, .f32⟩
  | 6 => ⟨S8x2048x1024, .f32⟩
  | 7 => ⟨S1x1024, .f32⟩
  | 8 => ⟨S1024, .f32⟩
  | 9 => ⟨S1x1x1024, .f32⟩
  | 10 => ⟨S8x2048x1024, .f32⟩
  | 11 => ⟨S8x2048x1024, .f32⟩
  | 12 => ⟨S8x2048x1024, .f32⟩
  | 13 => ⟨S8x2048x1024, .f32⟩
  | 14 => ⟨S1x1024, .f32⟩
  | 15 => ⟨S1024, .f32⟩
  | 16 => ⟨S1x1x1024, .f32⟩
  | 17 => ⟨S8x2048x1024, .f32⟩
  | 18 => ⟨S8x2048x1024, .f32⟩
  | 19 => ⟨S8x2048x1024, .f32⟩
  | 20 => ⟨S8x2048x1024, .f32⟩
  | 21 => ⟨S1x1024, .f32⟩
  | 22 => ⟨S1024, .f32⟩
  | 23 => ⟨S1x1x1024, .f32⟩
  | 24 => ⟨S8x2048x1024, .f32⟩
  | 25 => ⟨S8x2048x1024, .f32⟩
  | 26 => ⟨S8x2048x1024, .f32⟩
  | 27 => ⟨S8x2048x1024, .f32⟩
  | 28 => ⟨S1x1024, .f32⟩
  | 29 => ⟨S1024, .f32⟩
  | 30 => ⟨S1x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S1x1024, .f32⟩
  | 36 => ⟨S1024, .f32⟩
  | 37 => ⟨S1x1x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S1x1024, .f32⟩
  | 43 => ⟨S1024, .f32⟩
  | 44 => ⟨S1x1x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S1x1024, .f32⟩
  | 50 => ⟨S1024, .f32⟩
  | 51 => ⟨S1x1x1024, .f32⟩
  | 52 => ⟨S8x2048x1024, .f32⟩
  | 53 => ⟨S8x2048x1024, .f32⟩
  | 54 => ⟨S8x2048x1024, .f32⟩
  | 55 => ⟨S8x2048x1024, .f32⟩
  | 56 => ⟨S1x1024, .f32⟩
  | 57 => ⟨S1024, .f32⟩
  | 58 => ⟨S1x1x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S1x1024, .f32⟩
  | 64 => ⟨S1024, .f32⟩
  | 65 => ⟨S1x1x1024, .f32⟩
  | 66 => ⟨S8x2048x1024, .f32⟩
  | 67 => ⟨S8x2048x1024, .f32⟩
  | 68 => ⟨S8x2048x1024, .f32⟩
  | 69 => ⟨S8x2048x1024, .f32⟩
  | 70 => ⟨S1x1024, .f32⟩
  | 71 => ⟨S1024, .f32⟩
  | 72 => ⟨S1x1x1024, .f32⟩
  | 73 => ⟨S8x2048x1024, .f32⟩
  | 74 => ⟨S8x2048x1024, .f32⟩
  | 75 => ⟨S8x2048x1024, .f32⟩
  | 76 => ⟨S8x2048x1024, .f32⟩
  | 77 => ⟨S1x1024, .f32⟩
  | 78 => ⟨S1024, .f32⟩
  | 79 => ⟨S1x1x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S1x1024, .f32⟩
  | 85 => ⟨S1024, .f32⟩
  | 86 => ⟨S1x1x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S1x1024, .f32⟩
  | 92 => ⟨S1024, .f32⟩
  | 93 => ⟨S1x1x1024, .f32⟩
  | 94 => ⟨S8x2048x1024, .f32⟩
  | 95 => ⟨S8x2048x1024, .f32⟩
  | 96 => ⟨S8x2048x1024, .f32⟩
  | 97 => ⟨S8x2048x1024, .f32⟩
  | 98 => ⟨S1x1024, .f32⟩
  | 99 => ⟨S1024, .f32⟩
  | 100 => ⟨S1x1x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S1x1024, .f32⟩
  | 106 => ⟨S1024, .f32⟩
  | 107 => ⟨S1x1x1024, .f32⟩
  | 108 => ⟨S8x2048x1024, .f32⟩
  | 109 => ⟨S8x2048x1024, .f32⟩
  | 110 => ⟨S8x2048x1024, .f32⟩
  | 111 => ⟨S8x30x1024, .f32⟩
  | 112 => ⟨S1x1x1024, .f32⟩
  | 113 => ⟨S8x2048x1024, .f32⟩
  | 114 => ⟨S8x2048x1024, .f32⟩
  | 115 => ⟨S_, .f32⟩
  | 116 => ⟨S8x2048, .f32⟩
  | 117 => ⟨S8x2048x1, .f32⟩
  | 118 => ⟨S_, .f32⟩
  | 119 => ⟨S8x2048x1, .f32⟩
  | 120 => ⟨S8x2048x1, .f32⟩
  | 121 => ⟨S8x2048x1024, .f32⟩
  | 122 => ⟨S8x2048x1024, .f32⟩
  | 123 => ⟨S8x2048x1024, .f32⟩
  | 124 => ⟨S_, .f32⟩
  | 125 => ⟨S8x2048, .f32⟩
  | 126 => ⟨S8x2048x1, .f32⟩
  | 127 => ⟨S_, .f32⟩
  | _ => ⟨S16896x7168, .bf16⟩

abbrev hbmTy0_2 (i : Nat) : BufTy := match i % 128 with
  | 0 => ⟨S8x2048x1, .f32⟩
  | 1 => ⟨S8x2048x1, .f32⟩
  | 2 => ⟨S8x2048x1024, .f32⟩
  | 3 => ⟨S8x2048x1024, .f32⟩
  | 4 => ⟨S_, .f32⟩
  | 5 => ⟨S8x2048x1, .f32⟩
  | 6 => ⟨S8x2048x1, .f32⟩
  | 7 => ⟨S8x2048x1, .f32⟩
  | 8 => ⟨S8x2048x1024, .f32⟩
  | 9 => ⟨S8x2048x1024, .f32⟩
  | 10 => ⟨S1x1x1024, .f32⟩
  | 11 => ⟨S8x2048x1024, .f32⟩
  | 12 => ⟨S8x2048x1024, .f32⟩
  | 13 => ⟨S1x1x1024, .f32⟩
  | 14 => ⟨S8x2048x1024, .f32⟩
  | 15 => ⟨S8x2048x1024, .f32⟩
  | 16 => ⟨S8x2048x1024, .f32⟩
  | 17 => ⟨S8x2048x1024, .f32⟩
  | 18 => ⟨S_, .f32⟩
  | 19 => ⟨S8x2048x1024, .f32⟩
  | 20 => ⟨S8x2048x1024, .f32⟩
  | 21 => ⟨S_, .f32⟩
  | 22 => ⟨S8x2048x1024, .f32⟩
  | 23 => ⟨S8x2048x1024, .f32⟩
  | 24 => ⟨S8x2048x1024, .f32⟩
  | 25 => ⟨S16384x1024, .f32⟩
  | 26 => ⟨S_, .i32⟩
  | 27 => ⟨S_, .f32⟩
  | 28 => ⟨S16896x1024, .f32⟩
  | 29 => ⟨S16896x1024, .bf16⟩
  | 30 => ⟨S_, .i32⟩
  | 31 => ⟨S_, .f32⟩
  | 32 => ⟨S8x32x1024, .f32⟩
  | _ => ⟨S16896x7168, .bf16⟩

abbrev hbmTy (i : Nat) : BufTy := match i / 128 with
  | 0 => hbmTy0_0 i
  | 1 => hbmTy0_1 i
  | 2 => hbmTy0_2 i
  | _ => ⟨S16896x7168, .bf16⟩

abbrev bufTy : (tb : Table) → Fin (tcTables nBuf tb) → BufTy
  | .hbm, ⟨i, _⟩ => hbmTy i
  | _, _ => ⟨S16896x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_cst_2 : Ref sig .tc := ⟨.hbm, 243, rfl⟩
abbrev main_v235 : Ref sig .tc := ⟨.hbm, 244, rfl⟩
abbrev main_v236 : Ref sig .tc := ⟨.hbm, 245, rfl⟩
abbrev main_cst_3 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_cst_4 : Ref sig .tc := ⟨.hbm, 252, rfl⟩
abbrev main_v242 : Ref sig .tc := ⟨.hbm, 253, rfl⟩
abbrev main_v243 : Ref sig .tc := ⟨.hbm, 254, rfl⟩
abbrev main_cst_5 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_cst_6 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v259 : Ref sig .tc := ⟨.hbm, 280, rfl⟩
abbrev main_v260 : Ref sig .tc := ⟨.hbm, 281, rfl⟩
abbrev main_c : Ref sig .tc := ⟨.hbm, 282, rfl⟩
abbrev main_call1_v0 : Ref sig .tc := ⟨.hbm, 283, rfl⟩
abbrev main_v261 : Ref sig .tc := ⟨.hbm, 284, rfl⟩
abbrev main_v262 : Ref sig .tc := ⟨.hbm, 285, rfl⟩
abbrev main_c_7 : Ref sig .tc := ⟨.hbm, 286, rfl⟩
abbrev main_call2_v0 : Ref sig .tc := ⟨.hbm, 287, rfl⟩
abbrev main_v263 : Ref sig .tc := ⟨.hbm, 288, rfl⟩

abbrev nD : Nat := 1
abbrev τ : Topo := Topo.v7x

variable {F : FTy → Type} [FloatOps F]
-- ==== MixcSample.lean ====
abbrev S16896x7168 : Shape := ⟨2, ![16896, 7168]⟩
abbrev S16x30x1024 : Shape := ⟨3, ![16, 30, 1024]⟩
abbrev S31x1024 : Shape := ⟨2, ![31, 1024]⟩
abbrev S1024 : Shape := ⟨1, ![1024]⟩
abbrev S16896x1024 : Shape := ⟨2, ![16896, 1024]⟩
abbrev S_ : Shape := ⟨0, ![]⟩
abbrev S16x32x1024 : Shape := ⟨3, ![16, 32, 1024]⟩
abbrev S1x1024 : Shape := ⟨2, ![1, 1024]⟩
abbrev S32x1024 : Shape := ⟨2, ![32, 1024]⟩
abbrev S1x32x1024 : Shape := ⟨3, ![1, 32, 1024]⟩
abbrev S64x1024 : Shape := ⟨2, ![64, 1024]⟩
abbrev S32 : Shape := ⟨1, ![32]⟩
abbrev S32x1 : Shape := ⟨2, ![32, 1]⟩

abbrev nBuf : Space → Nat
  | .hbm => 15
  | .vmem => 15
  | .smem => 0
  | _ => 0

abbrev bufTy : (tb : Table) → Fin (tcTables nBuf tb) → BufTy
  | .hbm, ⟨0, _⟩ => ⟨S16896x7168, .bf16⟩
  | .hbm, ⟨1, _⟩ => ⟨S16x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S16896x1024, .bf16⟩
  | .hbm, ⟨7, _⟩ => ⟨S_, .i32⟩
  | .hbm, ⟨8, _⟩ => ⟨S_, .f32⟩
  | .hbm, ⟨9, _⟩ => ⟨S16x32x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16896x1024, .bf16⟩
  | .hbm, ⟨14, _⟩ => ⟨S16x32x1024, .f32⟩
  | .local _ .vmem, ⟨0, _⟩ => ⟨S32x1024, .bf16⟩
  | .local _ .vmem, ⟨1, _⟩ => ⟨S32x1024, .bf16⟩
  | .local _ .vmem, ⟨2, _⟩ => ⟨S32x1024, .bf16⟩
  | .local _ .vmem, ⟨3, _⟩ => ⟨S32x1024, .bf16⟩
  | .local _ .vmem, ⟨4, _⟩ => ⟨S1x32x1024, .f32⟩
  | .local _ .vmem, ⟨5, _⟩ => ⟨S1x32x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S32x1024, .bf16⟩
  | .local _ .vmem, ⟨11, _⟩ => ⟨S32x1024, .bf16⟩
  | .local _ .vmem, ⟨12, _⟩ => ⟨S1x32x1024, .f32⟩
  | .local _ .vmem, ⟨13, _⟩ => ⟨S1x32x1024, .f32⟩
  | .local _ .vmem, ⟨14, _⟩ => ⟨S64x1024, .f32⟩
  | _, _ => ⟨S16896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c512_i32 : BitVec 32 := 512#32
  let v0 : BitVec 32 := Scalar.addi arg0 c512_i32
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c512_i32 : BitVec 32 := 512#32
  let v0 : BitVec 32 := Scalar.addi arg0 c512_i32
  let c6_i32 : BitVec 32 := 6#32
  let c0_i32 : BitVec 32 := 0#32
  ![v0.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c512_i32 : BitVec 32 := 512#32
  let v0 : BitVec 32 := Scalar.addi arg0 c512_i32
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixcSampleRefIdeal.lean ====
abbrev S16896x7168 : Shape := ⟨2, ![16896, 7168]⟩
abbrev S16x30x1024 : Shape := ⟨3, ![16, 30, 1024]⟩
abbrev S31x1024 : Shape := ⟨2, ![31, 1024]⟩
abbrev S1024 : Shape := ⟨1, ![1024]⟩
abbrev S16896x1024 : Shape := ⟨2, ![16896, 1024]⟩
abbrev S512x7168 : Shape := ⟨2, ![512, 7168]⟩
abbrev S16x32x7168 : Shape := ⟨3, ![16, 32, 7168]⟩
abbrev S16x32x2048 : Shape := ⟨3, ![16, 32, 2048]⟩
abbrev S16x32x1024 : Shape := ⟨3, ![16, 32, 1024]⟩
abbrev S_ : Shape := ⟨0, ![]⟩
abbrev S16x62x1024 : Shape := ⟨3, ![16, 62, 1024]⟩
abbrev S1x1024 : Shape := ⟨2, ![1, 1024]⟩
abbrev S1x1x1024 : Shape := ⟨3, ![1, 1, 1024]⟩
abbrev S16x32 : Shape := ⟨2, ![16, 32]⟩
abbrev S16x32x1 : Shape := ⟨3, ![16, 32, 1]⟩
abbrev S16384x1024 : Shape := ⟨2, ![16384, 1024]⟩
abbrev S512x1024 : Shape := ⟨2, ![512, 1024]⟩

abbrev nBuf : Space → Nat
  | .hbm => 288
  | .vmem => 0
  | .smem => 0
  | _ => 0

abbrev hbmTy0_0 (i : Nat) : BufTy := match i % 128 with
  | 0 => ⟨S16896x7168, .bf16⟩
  | 1 => ⟨S16x30x1024, .f32⟩
  | 2 => ⟨S31x1024, .f32⟩
  | 3 => ⟨S1024, .f32⟩
  | 4 => ⟨S1024, .f32⟩
  | 5 => ⟨S1024, .f32⟩
  | 6 => ⟨S16896x1024, .bf16⟩
  | 7 => ⟨S512x7168, .bf16⟩
  | 8 => ⟨S512x7168, .f32⟩
  | 9 => ⟨S16x32x7168, .f32⟩
  | 10 => ⟨S16x32x2048, .f32⟩
  | 11 => ⟨S16x32x1024, .f32⟩
  | 12 => ⟨S16x32x1024, .f32⟩
  | 13 => ⟨S16x32x1024, .f32⟩
  | 14 => ⟨S16x32x1024, .f32⟩
  | 15 => ⟨S_, .f32⟩
  | 16 => ⟨S16x32x1024, .f32⟩
  | 17 => ⟨S16x32x1024, .f32⟩
  | 18 => ⟨S_, .f32⟩
  | 19 => ⟨S16x32x1024, .f32⟩
  | 20 => ⟨S16x32x1024, .f32⟩
  | 21 => ⟨S16x32x1024, .f32⟩
  | 22 => ⟨S16x62x1024, .f32⟩
  | 23 => ⟨S16x32x1024, .f32⟩
  | 24 => ⟨S1x1024, .f32⟩
  | 25 => ⟨S1024, .f32⟩
  | 26 => ⟨S1x1x1024, .f32⟩
  | 27 => ⟨S16x32x1024, .f32⟩
  | 28 => ⟨S16x32x1024, .f32⟩
  | 29 => ⟨S16x32x1024, .f32⟩
  | 30 => ⟨S1x1024, .f32⟩
  | 31 => ⟨S1024, .f32⟩
  | 32 => ⟨S1x1x1024, .f32⟩
  | 33 => ⟨S16x32x1024, .f32⟩
  | 34 => ⟨S16x32x1024, .f32⟩
  | 35 => ⟨S16x32x1024, .f32⟩
  | 36 => ⟨S16x32x1024, .f32⟩
  | 37 => ⟨S1x1024, .f32⟩
  | 38 => ⟨S1024, .f32⟩
  | 39 => ⟨S1x1x1024, .f32⟩
  | 40 => ⟨S16x32x1024, .f32⟩
  | 41 => ⟨S16x32x1024, .f32⟩
  | 42 => ⟨S16x32x1024, .f32⟩
  | 43 => ⟨S16x32x1024, .f32⟩
  | 44 => ⟨S1x1024, .f32⟩
  | 45 => ⟨S1024, .f32⟩
  | 46 => ⟨S1x1x1024, .f32⟩
  | 47 => ⟨S16x32x1024, .f32⟩
  | 48 => ⟨S16x32x1024, .f32⟩
  | 49 => ⟨S16x32x1024, .f32⟩
  | 50 => ⟨S16x32x1024, .f32⟩
  | 51 => ⟨S1x1024, .f32⟩
  | 52 => ⟨S1024, .f32⟩
  | 53 => ⟨S1x1x1024, .f32⟩
  | 54 => ⟨S16x32x1024, .f32⟩
  | 55 => ⟨S16x32x1024, .f32⟩
  | 56 => ⟨S16x32x1024, .f32⟩
  | 57 => ⟨S16x32x1024, .f32⟩
  | 58 => ⟨S1x1024, .f32⟩
  | 59 => ⟨S1024, .f32⟩
  | 60 => ⟨S1x1x1024, .f32⟩
  | 61 => ⟨S16x32x1024, .f32⟩
  | 62 => ⟨S16x32x1024, .f32⟩
  | 63 => ⟨S16x32x1024, .f32⟩
  | 64 => ⟨S16x32x1024, .f32⟩
  | 65 => ⟨S1x1024, .f32⟩
  | 66 => ⟨S1024, .f32⟩
  | 67 => ⟨S1x1x1024, .f32⟩
  | 68 => ⟨S16x32x1024, .f32⟩
  | 69 => ⟨S16x32x1024, .f32⟩
  | 70 => ⟨S16x32x1024, .f32⟩
  | 71 => ⟨S16x32x1024, .f32⟩
  | 72 => ⟨S1x1024, .f32⟩
  | 73 => ⟨S1024, .f32⟩
  | 74 => ⟨S1x1x1024, .f32⟩
  | 75 => ⟨S16x32x1024, .f32⟩
  | 76 => ⟨S16x32x1024, .f32⟩
  | 77 => ⟨S16x32x1024, .f32⟩
  | 78 => ⟨S16x32x1024, .f32⟩
  | 79 => ⟨S1x1024, .f32⟩
  | 80 => ⟨S1024, .f32⟩
  | 81 => ⟨S1x1x1024, .f32⟩
  | 82 => ⟨S16x32x1024, .f32⟩
  | 83 => ⟨S16x32x1024, .f32⟩
  | 84 => ⟨S16x32x1024, .f32⟩
  | 85 => ⟨S16x32x1024, .f32⟩
  | 86 => ⟨S1x1024, .f32⟩
  | 87 => ⟨S1024, .f32⟩
  | 88 => ⟨S1x1x1024, .f32⟩
  | 89 => ⟨S16x32x1024, .f32⟩
  | 90 => ⟨S16x32x1024, .f32⟩
  | 91 => ⟨S16x32x1024, .f32⟩
  | 92 => ⟨S16x32x1024, .f32⟩
  | 93 => ⟨S1x1024, .f32⟩
  | 94 => ⟨S1024, .f32⟩
  | 95 => ⟨S1x1x1024, .f32⟩
  | 96 => ⟨S16x32x1024, .f32⟩
  | 97 => ⟨S16x32x1024, .f32⟩
  | 98 => ⟨S16x32x1024, .f32⟩
  | 99 => ⟨S16x32x1024, .f32⟩
  | 100 => ⟨S1x1024, .f32⟩
  | 101 => ⟨S1024, .f32⟩
  | 102 => ⟨S1x1x1024, .f32⟩
  | 103 => ⟨S16x32x1024, .f32⟩
  | 104 => ⟨S16x32x1024, .f32⟩
  | 105 => ⟨S16x32x1024, .f32⟩
  | 106 => ⟨S16x32x1024, .f32⟩
  | 107 => ⟨S1x1024, .f32⟩
  | 108 => ⟨S1024, .f32⟩
  | 109 => ⟨S1x1x1024, .f32⟩
  | 110 => ⟨S16x32x1024, .f32⟩
  | 111 => ⟨S16x32x1024, .f32⟩
  | 112 => ⟨S16x32x1024, .f32⟩
  | 113 => ⟨S16x32x1024, .f32⟩
  | 114 => ⟨S1x1024, .f32⟩
  | 115 => ⟨S1024, .f32⟩
  | 116 => ⟨S1x1x1024, .f32⟩
  | 117 => ⟨S16x32x1024, .f32⟩
  | 118 => ⟨S16x32x1024, .f32⟩
  | 119 => ⟨S16x32x1024, .f32⟩
  | 120 => ⟨S16x32x1024, .f32⟩
  | 121 => ⟨S1x1024, .f32⟩
  | 122 => ⟨S1024, .f32⟩
  | 123 => ⟨S1x1x1024, .f32⟩
  | 124 => ⟨S16x32x1024, .f32⟩
  | 125 => ⟨S16x32x1024, .f32⟩
  | 126 => ⟨S16x32x1024, .f32⟩
  | 127 => ⟨S16x32x1024, .f32⟩
  | _ => ⟨S16896x7168, .bf16⟩

abbrev hbmTy0_1 (i : Nat) : BufTy := match i % 128 with
  | 0 => ⟨S1x1024, .f32⟩
  | 1 => ⟨S1024, .f32⟩
  | 2 => ⟨S1x1x1024, .f32⟩
  | 3 => ⟨S16x32x1024, .f32⟩
  | 4 => ⟨S16x32x1024, .f32⟩
  | 5 => ⟨S16x32x1024, .f32⟩
  | 6 => ⟨S16x32x1024, .f32⟩
  | 7 => ⟨S1x1024, .f32⟩
  | 8 => ⟨S1024, .f32⟩
  | 9 => ⟨S1x1x1024, .f32⟩
  | 10 => ⟨S16x32x1024, .f32⟩
  | 11 => ⟨S16x32x1024, .f32⟩
  | 12 => ⟨S16x32x1024, .f32⟩
  | 13 => ⟨S16x32x1024, .f32⟩
  | 14 => ⟨S1x1024, .f32⟩
  | 15 => ⟨S1024, .f32⟩
  | 16 => ⟨S1x1x1024, .f32⟩
  | 17 => ⟨S16x32x1024, .f32⟩
  | 18 => ⟨S16x32x1024, .f32⟩
  | 19 => ⟨S16x32x1024, .f32⟩
  | 20 => ⟨S16x32x1024, .f32⟩
  | 21 => ⟨S1x1024, .f32⟩
  | 22 => ⟨S1024, .f32⟩
  | 23 => ⟨S1x1x1024, .f32⟩
  | 24 => ⟨S16x32x1024, .f32⟩
  | 25 => ⟨S16x32x1024, .f32⟩
  | 26 => ⟨S16x32x1024, .f32⟩
  | 27 => ⟨S16x32x1024, .f32⟩
  | 28 => ⟨S1x1024, .f32⟩
  | 29 => ⟨S1024, .f32⟩
  | 30 => ⟨S1x1x1024, .f32⟩
  | 31 => ⟨S16x32x1024, .f32⟩
  | 32 => ⟨S16x32x1024, .f32⟩
  | 33 => ⟨S16x32x1024, .f32⟩
  | 34 => ⟨S16x32x1024, .f32⟩
  | 35 => ⟨S1x1024, .f32⟩
  | 36 => ⟨S1024, .f32⟩
  | 37 => ⟨S1x1x1024, .f32⟩
  | 38 => ⟨S16x32x1024, .f32⟩
  | 39 => ⟨S16x32x1024, .f32⟩
  | 40 => ⟨S16x32x1024, .f32⟩
  | 41 => ⟨S16x32x1024, .f32⟩
  | 42 => ⟨S1x1024, .f32⟩
  | 43 => ⟨S1024, .f32⟩
  | 44 => ⟨S1x1x1024, .f32⟩
  | 45 => ⟨S16x32x1024, .f32⟩
  | 46 => ⟨S16x32x1024, .f32⟩
  | 47 => ⟨S16x32x1024, .f32⟩
  | 48 => ⟨S16x32x1024, .f32⟩
  | 49 => ⟨S1x1024, .f32⟩
  | 50 => ⟨S1024, .f32⟩
  | 51 => ⟨S1x1x1024, .f32⟩
  | 52 => ⟨S16x32x1024, .f32⟩
  | 53 => ⟨S16x32x1024, .f32⟩
  | 54 => ⟨S16x32x1024, .f32⟩
  | 55 => ⟨S16x32x1024, .f32⟩
  | 56 => ⟨S1x1024, .f32⟩
  | 57 => ⟨S1024, .f32⟩
  | 58 => ⟨S1x1x1024, .f32⟩
  | 59 => ⟨S16x32x1024, .f32⟩
  | 60 => ⟨S16x32x1024, .f32⟩
  | 61 => ⟨S16x32x1024, .f32⟩
  | 62 => ⟨S16x32x1024, .f32⟩
  | 63 => ⟨S1x1024, .f32⟩
  | 64 => ⟨S1024, .f32⟩
  | 65 => ⟨S1x1x1024, .f32⟩
  | 66 => ⟨S16x32x1024, .f32⟩
  | 67 => ⟨S16x32x1024, .f32⟩
  | 68 => ⟨S16x32x1024, .f32⟩
  | 69 => ⟨S16x32x1024, .f32⟩
  | 70 => ⟨S1x1024, .f32⟩
  | 71 => ⟨S1024, .f32⟩
  | 72 => ⟨S1x1x1024, .f32⟩
  | 73 => ⟨S16x32x1024, .f32⟩
  | 74 => ⟨S16x32x1024, .f32⟩
  | 75 => ⟨S16x32x1024, .f32⟩
  | 76 => ⟨S16x32x1024, .f32⟩
  | 77 => ⟨S1x1024, .f32⟩
  | 78 => ⟨S1024, .f32⟩
  | 79 => ⟨S1x1x1024, .f32⟩
  | 80 => ⟨S16x32x1024, .f32⟩
  | 81 => ⟨S16x32x1024, .f32⟩
  | 82 => ⟨S16x32x1024, .f32⟩
  | 83 => ⟨S16x32x1024, .f32⟩
  | 84 => ⟨S1x1024, .f32⟩
  | 85 => ⟨S1024, .f32⟩
  | 86 => ⟨S1x1x1024, .f32⟩
  | 87 => ⟨S16x32x1024, .f32⟩
  | 88 => ⟨S16x32x1024, .f32⟩
  | 89 => ⟨S16x32x1024, .f32⟩
  | 90 => ⟨S16x32x1024, .f32⟩
  | 91 => ⟨S1x1024, .f32⟩
  | 92 => ⟨S1024, .f32⟩
  | 93 => ⟨S1x1x1024, .f32⟩
  | 94 => ⟨S16x32x1024, .f32⟩
  | 95 => ⟨S16x32x1024, .f32⟩
  | 96 => ⟨S16x32x1024, .f32⟩
  | 97 => ⟨S16x32x1024, .f32⟩
  | 98 => ⟨S1x1024, .f32⟩
  | 99 => ⟨S1024, .f32⟩
  | 100 => ⟨S1x1x1024, .f32⟩
  | 101 => ⟨S16x32x1024, .f32⟩
  | 102 => ⟨S16x32x1024, .f32⟩
  | 103 => ⟨S16x32x1024, .f32⟩
  | 104 => ⟨S16x32x1024, .f32⟩
  | 105 => ⟨S1x1024, .f32⟩
  | 106 => ⟨S1024, .f32⟩
  | 107 => ⟨S1x1x1024, .f32⟩
  | 108 => ⟨S16x32x1024, .f32⟩
  | 109 => ⟨S16x32x1024, .f32⟩
  | 110 => ⟨S16x32x1024, .f32⟩
  | 111 => ⟨S16x30x1024, .f32⟩
  | 112 => ⟨S1x1x1024, .f32⟩
  | 113 => ⟨S16x32x1024, .f32⟩
  | 114 => ⟨S16x32x1024, .f32⟩
  | 115 => ⟨S_, .f32⟩
  | 116 => ⟨S16x32, .f32⟩
  | 117 => ⟨S16x32x1, .f32⟩
  | 118 => ⟨S_, .f32⟩
  | 119 => ⟨S16x32x1, .f32⟩
  | 120 => ⟨S16x32x1, .f32⟩
  | 121 => ⟨S16x32x1024, .f32⟩
  | 122 => ⟨S16x32x1024, .f32⟩
  | 123 => ⟨S16x32x1024, .f32⟩
  | 124 => ⟨S_, .f32⟩
  | 125 => ⟨S16x32, .f32⟩
  | 126 => ⟨S16x32x1, .f32⟩
  | 127 => ⟨S_, .f32⟩
  | _ => ⟨S16896x7168, .bf16⟩

abbrev hbmTy0_2 (i : Nat) : BufTy := match i % 128 with
  | 0 => ⟨S16x32x1, .f32⟩
  | 1 => ⟨S16x32x1, .f32⟩
  | 2 => ⟨S16x32x1024, .f32⟩
  | 3 => ⟨S16x32x1024, .f32⟩
  | 4 => ⟨S_, .f32⟩
  | 5 => ⟨S16x32x1, .f32⟩
  | 6 => ⟨S16x32x1, .f32⟩
  | 7 => ⟨S16x32x1, .f32⟩
  | 8 => ⟨S16x32x1024, .f32⟩
  | 9 => ⟨S16x32x1024, .f32⟩
  | 10 => ⟨S1x1x1024, .f32⟩
  | 11 => ⟨S16x32x1024, .f32⟩
  | 12 => ⟨S16x32x1024, .f32⟩
  | 13 => ⟨S1x1x1024, .f32⟩
  | 14 => ⟨S16x32x1024, .f32⟩
  | 15 => ⟨S16x32x1024, .f32⟩
  | 16 => ⟨S16x32x1024, .f32⟩
  | 17 => ⟨S16x32x1024, .f32⟩
  | 18 => ⟨S_, .f32⟩
  | 19 => ⟨S16x32x1024, .f32⟩
  | 20 => ⟨S16x32x1024, .f32⟩
  | 21 => ⟨S_, .f32⟩
  | 22 => ⟨S16x32x1024, .f32⟩
  | 23 => ⟨S16x32x1024, .f32⟩
  | 24 => ⟨S16x32x1024, .f32⟩
  | 25 => ⟨S16384x1024, .bf16⟩
  | 26 => ⟨S512x1024, .f32⟩
  | 27 => ⟨S512x1024, .bf16⟩
  | 28 => ⟨S16896x1024, .bf16⟩
  | 29 => ⟨S_, .i32⟩
  | 30 => ⟨S_, .f32⟩
  | 31 => ⟨S16x32x1024, .f32⟩
  | _ => ⟨S16896x7168, .bf16⟩

abbrev hbmTy (i : Nat) : BufTy := match i / 128 with
  | 0 => hbmTy0_0 i
  | 1 => hbmTy0_1 i
  | 2 => hbmTy0_2 i
  | _ => ⟨S16896x7168, .bf16⟩

abbrev bufTy : (tb : Table) → Fin (tcTables nBuf tb) → BufTy
  | .hbm, ⟨i, _⟩ => hbmTy i
  | _, _ => ⟨S16896x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_1 : Ref sig .tc := ⟨.hbm, 243, rfl⟩
abbrev main_v234 : Ref sig .tc := ⟨.hbm, 244, rfl⟩
abbrev main_v235 : Ref sig .tc := ⟨.hbm, 245, rfl⟩
abbrev main_cst_2 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_cst_3 : Ref sig .tc := ⟨.hbm, 252, rfl⟩
abbrev main_v241 : Ref sig .tc := ⟨.hbm, 253, rfl⟩
abbrev main_v242 : Ref sig .tc := ⟨.hbm, 254, rfl⟩
abbrev main_cst_4 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_cst_5 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_c : Ref sig .tc := ⟨.hbm, 285, rfl⟩
abbrev main_call1_v0 : Ref sig .tc := ⟨.hbm, 286, rfl⟩
abbrev main_v263 : Ref sig .tc := ⟨.hbm, 287, rfl⟩

abbrev nD : Nat := 1
abbrev τ : Topo := Topo.v7x

variable {F : FTy → Type} [FloatOps F]
-- ==== Proof.FfnBlock.lean ====
/-
  What one grid point of the feed-forward kernel adds into its output block, entry by entry over the extended reals,
  and what the blocks it reads hold: the gate and up columns that the host interleaved, and the down matrix's rows.
-/
module

public import proofs.«01_k».proof.Proof.Gen.FfnIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Block

open Cert.FfnIdeal Cert.FfnIdeal.Gen

/-- One hidden activation: gate · logistic gate · up. -/
def gated (g u : EReal) : EReal := g * Ideal.logistic g * u

/-- What one grid point adds at one entry of its block: the sum over its 256 hidden columns of the gated activation
    times the down matrix's entry. The gate's column stands in the first half of the interleaved block, the up's in
    the second. -/
def part (h : Vec Ideal S512x4096 .bf16) (w : Vec Ideal S1x4096x512 .bf16) (d : Vec Ideal S256x4096 .bf16)
    (j : S512x4096.Idx) : EReal :=
  ∑ k : Fin 256, gated (∑ a : Fin 4096, h (ix2 (j 0) a) * w (ix3 0 a ⟨k.val, by omega⟩))
    (∑ a : Fin 4096, h (ix2 (j 0) a) * w (ix3 0 a ⟨256 + k.val, by omega⟩)) * d (ix2 k (j 1))

/-- One entry of what a grid point leaves: the entry it found plus the point's part. -/
theorem pay (h : Vec Ideal S512x4096 .bf16) (w : Vec Ideal S1x4096x512 .bf16) (acc : Vec Ideal S512x4096 .f32)
    (d : Vec Ideal S256x4096 .bf16) (j : S512x4096.Idx) :
    k0_pay1 h w acc d j = acc j + part h w d j := by
  pointwise [k0_pay1, part, gated]

/-- The blocks each grid point reads: point t works on row block t / 43 and hidden block t mod 43. -/
theorem idx : ∀ t : Fin cfg0.N, win0_0.index t = ![t.val / 43, 0] ∧ win0_1.index t = ![t.val / 43, 0] ∧
    win0_2.index t = ![t.val % 43, 0, 0] ∧ win0_3.index t = ![t.val % 43, 0] :=
  (by decide +kernel : ∀ t : Fin grid0.N, _)

variable (m : (ℓ : Loc nD τ sig) → Buf (Elt Ideal) ℓ)

/-- The block of rows of the left factor. -/
theorem iblk_h (c : Dev nD) (t : Fin cfg0.N) (r : Fin 512) (a : Fin 4096) (hr : 512 * (t.val / 43) + r.val < 16896) :
    iblk m c 0 t (ix2 r a) = m ((c : Thread nD τ).loc main_arg0) (ix2 ⟨512 * (t.val / 43) + r.val, hr⟩ a) := by
  blk_point [iblk, V, idx t]

/-- The block of rows of the array the result is added to. -/
theorem iblk_x (c : Dev nD) (t : Fin cfg0.N) (r : Fin 512) (a : Fin 4096) (hr : 512 * (t.val / 43) + r.val < 16896) :
    iblk m c 1 t (ix2 r a) = m ((c : Thread nD τ).loc main_arg1) (ix2 ⟨512 * (t.val / 43) + r.val, hr⟩ a) := by
  blk_point [iblk, V, idx t]

/-- Where an entry of the interleaved weights' block stands in the array. -/
theorem emb_w (t : Fin cfg0.N) (a : Fin 4096) (l : Fin 512) :
    (((View.whole main_v4).slice (win0_2.rect t)).emb (ix3 0 a l))
      = ix3 ⟨t.val % 43, Nat.mod_lt _ (by decide)⟩ a l := by
  blk_ext [idx t]

/-- The block of rows of the down matrix. -/
theorem iblk_d (c : Dev nD) (t : Fin cfg0.N) (r : Fin 256) (a : Fin 4096) (hr : t.val % 43 * 256 + r.val < 11008) :
    iblk m c 3 t (ix2 r a) = m ((c : Thread nD τ).loc main_arg4) (ix2 ⟨t.val % 43 * 256 + r.val, hr⟩ a) := by
  blk_simp [iblk]
  entry_read
  pointwise
  blk_point [idx t]

/-- The interleaved block's first half: columns of the gate matrix. -/
theorem iblk_g (c : Dev nD) (t : Fin cfg0.N) (a : Fin 4096) (k : Fin 256) (hr : t.val % 43 * 256 + k.val < 11008) :
    iblk m c 2 t (ix3 0 a ⟨k.val, by omega⟩)
      = m ((c : Thread nD τ).loc main_arg2) (ix2 a ⟨t.val % 43 * 256 + k.val, hr⟩) := by
  blk_simp [iblk]
  entry_read
  rw [emb_w]
  pointwise

/-- The interleaved block's second half: columns of the up matrix. -/
theorem iblk_u (c : Dev nD) (t : Fin cfg0.N) (a : Fin 4096) (k : Fin 256) (hr : t.val % 43 * 256 + k.val < 11008) :
    iblk m c 2 t (ix3 0 a ⟨256 + k.val, by omega⟩)
      = m ((c : Thread nD τ).loc main_arg3) (ix2 a ⟨t.val % 43 * 256 + k.val, hr⟩) := by
  blk_simp [iblk]
  entry_read
  rw [emb_w]
  pointwise

end Cert.FfnIdeal.Block
end
-- ==== Proof.FfnValue.lean ====
/-
  The feed-forward kernel's result: every row block is visited at 43 consecutive grid points, which add 43 partial
  products of 256 hidden columns each into it; together they are the one product over all 11008 hidden columns.
-/
module

public import proofs.«01_k».proof.Proof.FfnBlock
public import proofs.«01_k».proof.Proof.Gen.FfnRefIdeal.Run

@[expose] public section

set_option maxRecDepth 16384

noncomputable section

open Idealize.ShloMosaic Idealize.ShloMosaic.TcCoe Idealize.SL.Sem
open Idealize.ShloMosaic.Pipeline (Dat)

namespace Cert.FfnIdeal.Block

open Cert.FfnIdeal Cert.FfnIdeal.Gen Cert.FfnIdeal.Value

/-- The gated feed-forward layer with its residual, entry by entry:
    `x + ∑ k, gated (h · gate column k) (h · up column k) * down row k`. -/
def layer (h : FVec Ideal S16896x4096 .bf16) (x : FVec Ideal S16896x4096 .f32)
    (g u : FVec Ideal S4096x11008 .f32) (d : FVec Ideal S11008x4096 .f32) : FVec Ideal S16896x4096 .f32 := fun i =>
  x i + ∑ k : Fin 11008, gated (∑ a : Fin 4096, h (ix2 (i 0) a) * g (ix2 a k))
    (∑ a : Fin 4096, h (ix2 (i 0) a) * u (ix2 a k)) * d (ix2 k (i 1))

variable (m : (ℓ : Loc nD τ sig) → Buf (Elt Ideal) ℓ)

/-- The kernel's array is the layer of its five operands. -/
theorem kernel_eq (c : Dev nD) : G4 m c = layer (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  obtain ⟨r, a, rfl⟩ : ∃ (r : Fin 16896) (a : Fin 4096), i = ix2 r a := ⟨i 0, i 1, by idx_vars i⟩
  have hr := r.isLt
  have ha := a.isLt
  have hN : cfg0.N = 1419 := N_0
  have hrun : run4Of (ix2 r a) = r.val / 512 := by
    show 1 * (r.val / 512 - 0) + 1 * (a.val / 4096 - 0) = r.val / 512
    omega
  have hloc : loc4Of (ix2 r a) = ix2 ⟨r.val % 512, Nat.mod_lt _ (by decide)⟩ a := by
    funext b
    match b with
    | 0 => rfl
    | 1 => exact Fin.ext (Nat.mod_eq_of_lt ha)
  unfold G4
  rw [dif_pos (by rw [hrun, hN]; omega), hloc]
  rw [Pipeline.accAt_add_apply (reset4 m c) (step4 m c)
    (fun j => if h : 43 * run4Of (ix2 r a) < cfg0.N then (show FVec Ideal S512x4096 .f32 from iblk m c 1 ⟨_, h⟩) j else 0)
    (fun n j => if h : n < cfg0.N then part (iblk m c 0 ⟨n, h⟩) (iblk m c 2 ⟨n, h⟩) (iblk m c 3 ⟨n, h⟩) j else 0)
    (43 * run4Of (ix2 r a)) 42
    (fun h j => by rw [dif_pos h, dif_pos h]; exact pay ..)
    (fun n h acc j _ _ => by rw [dif_pos h]; exact pay ..) 42 le_rfl]
  have hb : 43 * run4Of (ix2 r a) < cfg0.N := by rw [hrun, hN]; omega
  rw [dif_pos hb, Finset.sum_range]
  unfold layer
  refine congrArg₂ (· + ·) ?_ ?_
  · refine (iblk_x m c _ _ _ ?_).trans ?_
    · simp only [hrun]; omega
    · exact congrArg (fun q => m ((c : Thread nD τ).loc main_arg1) (ix2 q a)) (Fin.ext (by simp only [hrun]; omega))
  · rw [Fin.sum_univ_tiles 43 256 rfl]
    refine Fin.sum_fin_congr fun s => ?_
    have hs := s.isLt
    have hp : 43 * run4Of (ix2 r a) + s.val < cfg0.N := by rw [hrun, hN]; omega
    rw [dif_pos hp]
    unfold part
    refine Fin.sum_fin_congr fun k => ?_
    have hsd : (43 * run4Of (ix2 r a) + s.val) % 43 = s.val := by omega
    have hrow : 512 * ((43 * run4Of (ix2 r a) + s.val) / 43) + r.val % 512 = r.val := by rw [hrun]; omega
    have hk : (43 * run4Of (ix2 r a) + s.val) % 43 * 256 + k.val < 11008 := by omega
    have ek : (⟨(43 * run4Of (ix2 r a) + s.val) % 43 * 256 + k.val, hk⟩ : Fin 11008) = ⟨s.val * 256 + k.val, by omega⟩ :=
      Fin.ext (by simp only [hsd])
    have er : (⟨512 * ((43 * run4Of (ix2 r a) + s.val) / 43) + r.val % 512, by omega⟩ : Fin 16896) = r :=
      Fin.ext hrow
    have eh : ∀ l : Fin 4096, iblk m c 0 ⟨_, hp⟩ (ix2 ⟨r.val % 512, Nat.mod_lt _ (by decide)⟩ l)
        = m ((c : Thread nD τ).loc main_arg0) (ix2 r l) := fun l =>
      (iblk_h m c ⟨_, hp⟩ ⟨r.val % 512, Nat.mod_lt _ (by decide)⟩ l (by simp only; omega)).trans
        (congrArg (fun q => m ((c : Thread nD τ).loc main_arg0) (ix2 q l)) er)
    have eg : ∀ l : Fin 4096, iblk m c 2 ⟨_, hp⟩ (ix3 0 l ⟨k.val, by omega⟩)
        = m ((c : Thread nD τ).loc main_arg2) (ix2 l ⟨s.val * 256 + k.val, by omega⟩) := fun l =>
      (iblk_g m c ⟨_, hp⟩ l k hk).trans (congrArg (fun q => m ((c : Thread nD τ).loc main_arg2) (ix2 l q)) ek)
    have eu : ∀ l : Fin 4096, iblk m c 2 ⟨_, hp⟩ (ix3 0 l ⟨256 + k.val, by omega⟩)
        = m ((c : Thread nD τ).loc main_arg3) (ix2 l ⟨s.val * 256 + k.val, by omega⟩) := fun l =>
      (iblk_u m c ⟨_, hp⟩ l k hk).trans (congrArg (fun q => m ((c : Thread nD τ).loc main_arg3) (ix2 l q)) ek)
    have ed : iblk m c 3 ⟨_, hp⟩ (ix2 k a)
        = m ((c : Thread nD τ).loc main_arg4) (ix2 ⟨s.val * 256 + k.val, by omega⟩ a) :=
      (iblk_d m c ⟨_, hp⟩ k a hk).trans (congrArg (fun q => m ((c : Thread nD τ).loc main_arg4) (ix2 q a)) ek)
    refine congrArg₂ (· * ·) (congrArg₂ gated ?_ ?_) ed
    · exact Finset.sum_congr rfl fun l _ => congrArg₂ (· * ·) (eh l) (eg l)
    · exact Finset.sum_congr rfl fun l _ => congrArg₂ (· * ·) (eh l) (eu l)

end Cert.FfnIdeal.Block

namespace Cert.FfnRefIdeal.Block

open Cert.FfnRefIdeal Cert.FfnRefIdeal.Gen

/-- The reference's array is the layer of its five operands. -/
theorem ref_eq (h : FVec Ideal S16896x4096 .bf16) (x : FVec Ideal S16896x4096 .f32)
    (g u : FVec Ideal S4096x11008 .f32) (d : FVec Ideal S11008x4096 .f32) :
    addf x (Host.dotGeneral dot_S16896x11008_S11008x4096_S16896x4096_1_0_0_1_n_n none (mulf (mulf (Host.dotGeneral dot_S16896x4096_S4096x11008_S16896x11008_1_0_0_1_n_n none (extf .f32 h bitsLt_bf16_f32) g) (Host.divf (broadcastInDim S16896x11008 ![] bcast_S_S16896x11008 (constant S_ .f32 0x3F800000#32)) (addf (broadcastInDim S16896x11008 ![] bcast_S_S16896x11008 (constant S_ .f32 0x3F800000#32)) (Host.exp (Host.negf (Host.dotGeneral dot_S16896x4096_S4096x11008_S16896x11008_1_0_0_1_n_n none (extf .f32 h bitsLt_bf16_f32) g)))))) (Host.dotGeneral dot_S16896x4096_S4096x11008_S16896x11008_1_0_0_1_n_n none (extf .f32 h bitsLt_bf16_f32) u)) d)
      = Cert.FfnIdeal.Block.layer h x g u d := by
  funext i
  pointwise [Cert.FfnIdeal.Block.layer, Cert.FfnIdeal.Block.gated]
  rfl

end Cert.FfnRefIdeal.Block

end
-- ==== Proof.Inproj.lean ====
/-
  The key and value columns of the input projection: every grid point leaves one block of the product, in two roundings,
  and the blocks tile both arrays.
-/
module

public import proofs.«01_k».proof.Proof.Gen.InprojKvIdeal.Value
public import proofs.«01_k».proof.Proof.Gen.InprojKvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojKvIdeal.Block

open Cert.InprojKvIdeal Cert.InprojKvIdeal.Gen

/-- The product's columns 2048 … 6143, entry by entry. -/
def prod (h : FVec Ideal S16896x4096 .bf16) (w : FVec Ideal S4096x11264 .f32) (r : Fin 16896) (a : Fin 4096) : EReal :=
  ∑ k : Fin 4096, h (ix2 r k) * w (ix2 k ⟨2048 + a.val, by omega⟩)

/-- One entry of the block of the product that a grid point computes. -/
theorem pay1 (h : Vec Ideal S512x4096 .bf16) (w : Vec Ideal S4096x1024 .bf16) (j : S512x1024.Idx) :
    k0_pay1 h w j = ∑ k : Fin 4096, h (ix2 (j 0) k) * w (ix2 k (j 1)) := by
  pointwise [k0_pay1]

/-- The same entry in the narrower format. -/
theorem pay2 (h : Vec Ideal S512x4096 .bf16) (w : Vec Ideal S4096x1024 .bf16) (j : S512x1024.Idx) :
    k0_pay2 h w j = ∑ k : Fin 4096, h (ix2 (j 0) k) * w (ix2 k (j 1)) := by
  pointwise [k0_pay2, k0_pay1]

/-- The blocks each grid point reads and writes: point t works on row block t mod 33 and column block t / 33. -/
theorem idx : ∀ t : Fin cfg0.N, win0_0.index t = ![t.val % 33, 0] ∧ win0_1.index t = ![0, t.val / 33 + 2] ∧
    win0_2.index t = ![t.val % 33, t.val / 33] ∧ win0_3.index t = ![t.val % 33, t.val / 33] :=
  (by decide +kernel : ∀ t : Fin grid0.N, _)

variable (m : (ℓ : Loc nD τ sig) → Buf (Elt Ideal) ℓ)

/-- The block of rows of the left factor. -/
theorem iblk_h (c : Dev nD) (t : Fin cfg0.N) (r : Fin 512) (a : Fin 4096) :
    iblk m c 0 t (ix2 r a) = m ((c : Thread nD τ).loc main_arg0)
      (ix2 ⟨t.val % 33 * 512 + r.val, by have := r.isLt; omega⟩ a) := by
  blk_point [iblk, V, idx t]

/-- The block of columns of the weights. -/
theorem iblk_w (c : Dev nD) (t : Fin cfg0.N) (k : Fin 4096) (a : Fin 1024) :
    iblk m c 1 t (ix2 k a) = m ((c : Thread nD τ).loc main_arg1)
      (ix2 k ⟨(t.val / 33 + 2) * 1024 + a.val, by have := a.isLt; have := t.isLt; have : cfg0.N = 132 := N_0; omega⟩) := by
  blk_simp [iblk]
  entry_read
  pointwise
  blk_point [idx t]

/-- The array of the first result. -/
theorem arr2 (c : Dev nD) : (dats m 0 c).arrAt 2 cfg0.N = fun i : S16896x4096.Idx =>
    prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  rw [pay2]
  unfold prod
  refine Finset.sum_congr (M := EReal) rfl fun k _ => congrArg₂ (fun u v : EReal => u * v) ((iblk_h m c t (y 0) k).trans ?_) ((iblk_w m c t k (y 1)).trans ?_)
  · blk_point [idx t]
  · blk_point [idx t]

/-- The array of the second result. -/
theorem arr3 (c : Dev nD) : (dats m 0 c).arrAt 3 cfg0.N = fun i : S16896x4096.Idx =>
    prod (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  frame_out
  rw [pay1]
  unfold prod
  refine Finset.sum_congr (M := EReal) rfl fun k _ => congrArg₂ (fun u v : EReal => u * v) ((iblk_h m c t (y 0) k).trans ?_) ((iblk_w m c t k (y 1)).trans ?_)
  · blk_point [idx t]
  · blk_point [idx t]

end Cert.InprojKvIdeal.Block

namespace Cert.InprojKvRefIdeal.Block

open Cert.InprojKvRefIdeal Cert.InprojKvRefIdeal.Gen
open Cert.InprojKvIdeal.Block (prod)

/-- The reference's slice of the whole product is the same sums. -/
theorem ref_f32 (h : FVec Ideal S16896x4096 .bf16) (w : FVec Ideal S4096x11264 .f32) :
    extractStridedSlice S16896x4096 ![0, 2048] (Host.dotGeneral dot_S16896x4096_S4096x11264_S16896x11264_1_0_0_1_n_n none
      (extf .f32 h bitsLt_bf16_f32) w) slices_S16896x11264_S16896x4096_0_2048
      = fun i : S16896x4096.Idx => prod h w (i 0) (i 1) := by
  funext i
  pointwise [prod]

/-- The same in the narrower format. -/
theorem ref_bf16 (h : FVec Ideal S16896x4096 .bf16) (w : FVec Ideal S4096x11264 .f32) :
    truncf .bf16 (extractStridedSlice S16896x4096 ![0, 2048] (Host.dotGeneral dot_S16896x4096_S4096x11264_S16896x11264_1_0_0_1_n_n none
      (extf .f32 h bitsLt_bf16_f32) w) slices_S16896x11264_S16896x4096_0_2048) bitsLt_bf16_f32
      = fun i : S16896x4096.Idx => prod h w (i 0) (i 1) := by
  funext i
  pointwise [prod]

end Cert.InprojKvRefIdeal.Block

end
-- ==== Proof.InprojRest.lean ====
/-
  The other columns of the input projection (the queries and the gated inputs of the two convolutions): every grid point
  leaves one block of the product, and the blocks tile the array.
-/
module

public import proofs.«01_k».proof.Proof.Gen.InprojRestIdeal.Value
public import proofs.«01_k».proof.Proof.Gen.InprojRestRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojRestIdeal.Block

open Cert.InprojRestIdeal Cert.InprojRestIdeal.Gen

/-- The column of the weights behind a column of the result: 0 … 2047 and 6144 … 11263. -/
def col (a : ℕ) : ℕ := if a < 2048 then a else a + 4096

theorem col_lt {a : ℕ} (h : a < 7168) : col a < 11264 := by
  unfold col
  split <;> omega

/-- One entry of the product. -/
def prod (h : FVec Ideal S16896x4096 .bf16) (w : FVec Ideal S4096x11264 .f32) (r : Fin 16896) (a : Fin 7168) : EReal :=
  ∑ k : Fin 4096, h (ix2 r k) * w (ix2 k ⟨col a.val, col_lt a.isLt⟩)

/-- One entry of the block of the product that a grid point computes. -/
theorem pay1 (h : Vec Ideal S512x4096 .bf16) (w : Vec Ideal S4096x1024 .bf16) (j : S512x1024.Idx) :
    k0_pay1 h w j = ∑ k : Fin 4096, h (ix2 (j 0) k) * w (ix2 k (j 1)) := by
  pointwise [k0_pay1]

/-- The blocks each grid point reads and writes: point t works on row block t mod 33 and column block t / 33 of the result. -/
theorem idx : ∀ t : Fin cfg0.N, win0_0.index t = ![t.val % 33, 0] ∧
    win0_1.index t = ![0, if t.val / 33 < 2 then t.val / 33 else t.val / 33 + 4] ∧
    win0_2.index t = ![t.val % 33, t.val / 33] :=
  (by decide +kernel : ∀ t : Fin grid0.N, _)

theorem wcol {t a : ℕ} (ha : a < 1024) :
    (if t / 33 < 2 then t / 33 else t / 33 + 4) * 1024 + a = col (t / 33 * 1024 + a) := by
  unfold col
  split <;> split <;> omega

variable (m : (ℓ : Loc nD τ sig) → Buf (Elt Ideal) ℓ)

/-- The block of rows of the left factor. -/
theorem iblk_h (c : Dev nD) (t : Fin cfg0.N) (r : Fin 512) (a : Fin 4096) :
    iblk m c 0 t (ix2 r a) = m ((c : Thread nD τ).loc main_arg0)
      (ix2 ⟨t.val % 33 * 512 + r.val, by have := r.isLt; omega⟩ a) := by
  blk_point [iblk, V, idx t]

/-- The block of columns of the weights. -/
theorem iblk_w (c : Dev nD) (t : Fin cfg0.N) (k : Fin 4096) (a : Fin 1024) :
    iblk m c 1 t (ix2 k a) = m ((c : Thread nD τ).loc main_arg1)
      (ix2 k ⟨col (t.val / 33 * 1024 + a.val), col_lt (by have := a.isLt; have := t.isLt; have : cfg0.N = 231 := N_0; omega)⟩) := by
  have hc := wcol (t := t.val) a.isLt
  blk_simp [iblk]
  entry_read
  pointwise
  blk_point [idx t]

/-- The array of the result. -/
theorem arr2 (c : Dev nD) : (dats m 0 c).arrAt 2 cfg0.N = fun i : S16896x7168.Idx =>
    prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  rw [pay1]
  unfold prod
  refine Finset.sum_congr (M := EReal) rfl fun k _ => congrArg₂ (fun u v : EReal => u * v) ((iblk_h m c t (y 0) k).trans ?_) ((iblk_w m c t k (y 1)).trans ?_)
  · blk_point [idx t]
  · blk_point [idx t]

end Cert.InprojRestIdeal.Block

namespace Cert.InprojRestRefIdeal.Block

open Cert.InprojRestRefIdeal Cert.InprojRestRefIdeal.Gen
open Cert.InprojRestIdeal.Block (prod col)

/-- The reference's two slices of the whole product, side by side, are the same sums. -/
theorem ref_eq (h : FVec Ideal S16896x4096 .bf16) (w : FVec Ideal S4096x11264 .f32) :
    truncf .bf16 (concatenate S16896x7168 1 [⟨S16896x2048, (extractStridedSlice S16896x2048 ![0, 0] (Host.dotGeneral dot_S16896x4096_S4096x11264_S16896x11264_1_0_0_1_n_n none (extf .f32 h bitsLt_bf16_f32) w) slices_S16896x11264_S16896x2048_0_0)⟩, ⟨S16896x5120, (extractStridedSlice S16896x5120 ![0, 6144] (Host.dotGeneral dot_S16896x4096_S4096x11264_S16896x11264_1_0_0_1_n_n none (extf .f32 h bitsLt_bf16_f32) w) slices_S16896x11264_S16896x5120_0_6144)⟩] concatenates_S16896x2048_S16896x5120_S16896x7168_d1) bitsLt_bf16_f32
      = fun i : S16896x7168.Idx => prod h w (i 0) (i 1) := by
  funext i
  pointwise [prod]
  by_cases hi : (i 1).val < 2048
  · refine (dif_pos hi).trans (Finset.sum_congr rfl fun k _ => ?_)
    have e : col (i 1).val = (i 1).val := if_pos hi
    simp only [e]
  · refine (dif_neg hi).trans (Finset.sum_congr rfl fun k _ => ?_)
    have e : col (i 1).val = 6144 + ((i 1).val - 2048) := (if_neg hi).trans (by omega)
    simp only [e]

end Cert.InprojRestRefIdeal.Block

end
-- ==== Proof.Outproj.lean ====
/-
  The output projection: every grid point leaves one block of the sum of the residual row and three products, and the
  blocks tile the array; the reference multiplies the three inputs side by side at once.
-/
module

public import proofs.«01_k».proof.Proof.Gen.OutprojIdeal.Value
public import proofs.«01_k».proof.Proof.Gen.OutprojRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutprojIdeal.Block

open Cert.OutprojIdeal Cert.OutprojIdeal.Gen

/-- One entry of the output: the residual entry plus the three inputs' products with their rows of the weights. -/
def out (a : FVec Ideal S16896x2048 .bf16) (b c : FVec Ideal S16896x1024 .bf16) (w : FVec Ideal S4096x4096 .f32)
    (x : FVec Ideal S16896x4096 .f32) (r : Fin 16896) (q : Fin 4096) : EReal :=
  x (ix2 r q) + ((∑ k : Fin 2048, a (ix2 r k) * w (ix2 ⟨k.val, by omega⟩ q))
    + (∑ k : Fin 1024, b (ix2 r k) * w (ix2 ⟨2048 + k.val, by omega⟩ q))
    + ∑ k : Fin 1024, c (ix2 r k) * w (ix2 ⟨3072 + k.val, by omega⟩ q))

/-- One entry of the block that a grid point computes. -/
theorem pay1 (v0 : Vec Ideal S512x2048 .bf16) (v1 : Vec Ideal S2048x1024 .bf16) (v4 : Vec Ideal S512x1024 .bf16)
    (v5 : Vec Ideal S1024x1024 .bf16) (v9 : Vec Ideal S512x1024 .bf16) (v10 : Vec Ideal S1024x1024 .bf16)
    (v14 : Vec Ideal S512x1024 .f32) (j : S512x1024.Idx) :
    k0_pay1 v0 v1 v4 v5 v9 v10 v14 j = v14 (ix2 (j 0) (j 1)) + ((∑ k : Fin 2048, v0 (ix2 (j 0) k) * v1 (ix2 k (j 1)))
      + (∑ k : Fin 1024, v4 (ix2 (j 0) k) * v5 (ix2 k (j 1))) + ∑ k : Fin 1024, v9 (ix2 (j 0) k) * v10 (ix2 k (j 1))) := by
  pointwise [k0_pay1]

/-- The blocks each grid point reads and writes: point t works on row block t mod 33 and column block t / 33. -/
theorem idx : ∀ t : Fin cfg0.N, win0_0.index t = ![t.val % 33, 0] ∧ win0_1.index t = ![t.val % 33, 0] ∧
    win0_2.index t = ![t.val % 33, 0] ∧ win0_3.index t = ![0, t.val / 33] ∧ win0_4.index t = ![2, t.val / 33] ∧
    win0_5.index t = ![3, t.val / 33] ∧ win0_6.index t = ![t.val % 33, t.val / 33] ∧
    win0_7.index t = ![t.val % 33, t.val / 33] :=
  (by decide +kernel : ∀ t : Fin grid0.N, _)

/-- The row of the arrays behind a row of a block. -/
def row (t : Fin cfg0.N) (r : Fin 512) : Fin 16896 := ⟨t.val % 33 * 512 + r.val, by have := r.isLt; omega⟩

/-- The column of the arrays behind a column of a block. -/
def colm (t : Fin cfg0.N) (q : Fin 1024) : Fin 4096 :=
  ⟨t.val / 33 * 1024 + q.val, by have := q.isLt; have := t.isLt; have : cfg0.N = 132 := N_0; omega⟩

variable (m : (ℓ : Loc nD τ sig) → Buf (Elt Ideal) ℓ)

/-- The rows of input 0 in its block. -/
theorem iblk_0 (c : Dev nD) (t : Fin cfg0.N) (r : Fin 512) (k : Fin 2048) :
    iblk m c 0 t (ix2 r k) = m ((c : Thread nD τ).loc main_arg0) (ix2 (row t r) k) := by
  blk_point [iblk, V, idx t, row]

/-- The rows of input 1 in its block. -/
theorem iblk_1 (c : Dev nD) (t : Fin cfg0.N) (r : Fin 512) (k : Fin 1024) :
    iblk m c 1 t (ix2 r k) = m ((c : Thread nD τ).loc main_arg1) (ix2 (row t r) k) := by
  blk_point [iblk, V, idx t, row]

/-- The rows of input 2 in its block. -/
theorem iblk_2 (c : Dev nD) (t : Fin cfg0.N) (r : Fin 512) (k : Fin 1024) :
    iblk m c 2 t (ix2 r k) = m ((c : Thread nD τ).loc main_arg2) (ix2 (row t r) k) := by
  blk_point [iblk, V, idx t, row]

/-- The weight rows that input 0 meets, in their block. -/
theorem iblk_3 (c : Dev nD) (t : Fin cfg0.N) (k : Fin 2048) (q : Fin 1024) :
    iblk m c 3 t (ix2 k q) = m ((c : Thread nD τ).loc main_arg3) (ix2 ⟨k.val, by omega⟩ (colm t q)) := by
  blk_simp [iblk]
  entry_read
  pointwise
  blk_point [idx t, colm]

/-- The weight rows that input 1 meets, in their block. -/
theorem iblk_4 (c : Dev nD) (t : Fin cfg0.N) (k : Fin 1024) (q : Fin 1024) :
    iblk m c 4 t (ix2 k q) = m ((c : Thread nD τ).loc main_arg3) (ix2 ⟨2048 + k.val, by omega⟩ (colm t q)) := by
  blk_simp [iblk]
  entry_read
  pointwise
  blk_point [idx t, colm]

/-- The weight rows that input 2 meets, in their block. -/
theorem iblk_5 (c : Dev nD) (t : Fin cfg0.N) (k : Fin 1024) (q : Fin 1024) :
    iblk m c 5 t (ix2 k q) = m ((c : Thread nD τ).loc main_arg3) (ix2 ⟨3072 + k.val, by omega⟩ (colm t q)) := by
  blk_simp [iblk]
  entry_read
  pointwise
  blk_point [idx t, colm]

/-- The residual's block. -/
theorem iblk_6 (c : Dev nD) (t : Fin cfg0.N) (r : Fin 512) (q : Fin 1024) :
    iblk m c 6 t (ix2 r q) = m ((c : Thread nD τ).loc main_arg4) (ix2 (row t r) (colm t q)) := by
  blk_point [iblk, V, idx t, row, colm]

/-- One entry of what a grid point computes, from the arguments. -/
theorem pt (c : Dev nD) (t : Fin cfg0.N) (r : Fin 512) (q : Fin 1024) :
    k0_pay1 (iblk m c 0 t) (iblk m c 3 t) (iblk m c 1 t) (iblk m c 4 t) (iblk m c 2 t) (iblk m c 5 t) (iblk m c 6 t) (ix2 r q)
      = out (m ((c : Thread nD τ).loc main_arg0)) (m ((c : Thread nD τ).loc main_arg1)) (m ((c : Thread nD τ).loc main_arg2))
        (m ((c : Thread nD τ).loc main_arg3)) (m ((c : Thread nD τ).loc main_arg4)) (row t r) (colm t q) := by
  rw [pay1]
  simp only [ix2_0, ix2_1]
  unfold out
  simp only [iblk_0, iblk_1, iblk_2, iblk_3, iblk_4, iblk_5, iblk_6]

/-- The output array, from the arguments. -/
def G (a : FVec Ideal S16896x2048 .bf16) (b c : FVec Ideal S16896x1024 .bf16) (w : FVec Ideal S4096x4096 .f32)
    (x : FVec Ideal S16896x4096 .f32) : FVec Ideal S16896x4096 .f32 := fun i => out a b c w x (i 0) (i 1)

/-- The array of the result. -/
theorem arr7 (c : Dev nD) : (dats m 0 c).arrAt 7 cfg0.N =
    G (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  blk_simp
  rw [after0_7]
  frame_out
  have e0 : ((View.whole main_v1).slice (win0_7.rect t)).emb y = ix2 (row t (y 0)) (colm t (y 1)) := by
    blk_ext [idx t, row, colm]
  have h := pt m c t (y 0) (y 1)
  rw [ix2_eta y] at h
  exact h.trans (congrArg (G (m ((c : Thread nD τ).loc main_arg0)) (m ((c : Thread nD τ).loc main_arg1)) (m ((c : Thread nD τ).loc main_arg2))
      (m ((c : Thread nD τ).loc main_arg3)) (m ((c : Thread nD τ).loc main_arg4))) e0).symm

end Cert.OutprojIdeal.Block

namespace Cert.OutprojRefIdeal.Block

open Cert.OutprojRefIdeal Cert.OutprojRefIdeal.Gen
open Cert.OutprojIdeal.Block (out G)

/-- A sum over 4096 terms in three parts of 2048, 1024 and 1024. -/
theorem sum_parts (f : Fin 4096 → EReal) : ∑ k, f k = (∑ k : Fin 2048, f ⟨k.val, by omega⟩)
    + (∑ k : Fin 1024, f ⟨2048 + k.val, by omega⟩) + ∑ k : Fin 1024, f ⟨3072 + k.val, by omega⟩ := by
  have h1 := Fin.sum_univ_add (a := 3072) (b := 1024) f
  have h2 := Fin.sum_univ_add (a := 2048) (b := 1024) fun k : Fin 3072 => f (Fin.castAdd 1024 k)
  rw [h1, h2]
  rfl

/-- The reference's one product, entry by entry. -/
theorem ref_eq (a : FVec Ideal S16896x2048 .bf16) (b c : FVec Ideal S16896x1024 .bf16) (w : FVec Ideal S4096x4096 .f32)
    (x : FVec Ideal S16896x4096 .f32) :
    addf x (Host.dotGeneral dot_S16896x4096_S4096x4096_S16896x4096_1_0_0_1_n_n none (extf .f32 ((concatenate S16896x4096 1 [⟨S16896x2048, (a : (⟨S16896x2048, .bf16⟩ : BufTy).Contents (Elt Ideal))⟩, ⟨S16896x1024, (b : (⟨S16896x1024, .bf16⟩ : BufTy).Contents (Elt Ideal))⟩, ⟨S16896x1024, (c : (⟨S16896x1024, .bf16⟩ : BufTy).Contents (Elt Ideal))⟩] concatenates_S16896x2048_S16896x1024_S16896x1024_S16896x4096_d1 : (⟨S16896x4096, .bf16⟩ : BufTy).Contents (Elt Ideal))) bitsLt_bf16_f32) w)
      = G a b c w x := by
  funext i
  pointwise [G, out]
  refine congrArg (x i + ·) ((sum_parts _).trans ?_)
  refine congrArg₂ (· + ·) (congrArg₂ (· + ·) ?_ ?_) ?_
  · refine Finset.sum_congr rfl fun k _ => ?_
    pointwise
  · refine Finset.sum_congr rfl fun k _ => ?_
    pointwise
  · refine Finset.sum_congr rfl fun k _ => ?_
    have h1 : ¬ (3072 + k.val < 2048) := by omega
    have h2 : ¬ (3072 + k.val - 2048 < 1024) := by omega
    simp only [dif_neg h1, dif_neg h2]
    congr 3
    ext
    show 3072 + k.val - 2048 - 1024 = k.val
    omega

end Cert.OutprojRefIdeal.Block

end
-- ==== Proof.NormH.lean ====
/-
  The normalisation that opens a sublayer: every grid point normalises 256 rows, and the blocks tile the array.
-/
module

public import proofs.«01_k».proof.Proof.Gen.NormHIdeal.Value
public import proofs.«01_k».proof.Proof.Gen.NormHRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormHIdeal.Block

open Cert.NormHIdeal Cert.NormHIdeal.Gen

/-- One entry of a normalised row: the entry over the root mean square of the row, times its gain. -/
def nrm (x : Fin 4096 → EReal) (g : EReal) (k : Fin 4096) : EReal :=
  x k * Ideal.rsqrt (Ideal.div (∑ j, x j * x j) (Ideal.ofBits .f32 0x45800000#32) + Ideal.ofBits .f32 0x358637BD#32) * g

/-- One entry of the block that a grid point computes. -/
theorem pay1 (x : Vec Ideal S256x4096 .f32) (g : Vec Ideal S1x4096 .f32) (y : S256x4096.Idx) :
    k0_pay1 x g y = nrm (fun j => x (ix2 (y 0) j)) (g (ix2 0 (y 1))) (y 1) := by
  pointwise [k0_pay1, nrm]

/-- The blocks each grid point reads and writes. -/
theorem idx : ∀ t : Fin cfg0.N, win0_0.index t = ![t.val, 0] ∧ win0_1.index t = ![0, 0] ∧ win0_2.index t = ![t.val, 0] :=
  (by decide +kernel : ∀ t : Fin grid0.N, _)

/-- The row of the result behind a row of a block. -/
def row (t : Fin cfg0.N) (r : Fin 256) : Fin 16896 :=
  ⟨t.val * 256 + r.val, by have := r.isLt; have := t.isLt; have : cfg0.N = 66 := N_0; omega⟩

/-- The row of the argument that a row of the result normalises. -/
def src (r : Fin 16896) : Fin 16896 := r

variable (m : (ℓ : Loc nD τ sig) → Buf (Elt Ideal) ℓ)

/-- The rows in their block. -/
theorem iblk_x (c : Dev nD) (t : Fin cfg0.N) (r : Fin 256) (k : Fin 4096) :
    iblk m c 0 t (ix2 r k) = m ((c : Thread nD τ).loc main_arg0) (ix2 (src (row t r)) k) := by
  blk_point [iblk, V, idx t, row, src]

/-- The gains in their block. -/
theorem iblk_g (c : Dev nD) (t : Fin cfg0.N) (k : Fin 4096) :
    iblk m c 1 t (ix2 0 k) = m ((c : Thread nD τ).loc main_arg1) (ix1 k) := by
  blk_simp [iblk]
  entry_read
  pointwise
  blk_point [idx t]

/-- One entry of what a grid point computes, from the arguments. -/
theorem pt (c : Dev nD) (t : Fin cfg0.N) (r : Fin 256) (k : Fin 4096) :
    k0_pay1 (iblk m c 0 t) (iblk m c 1 t) (ix2 r k)
      = nrm (fun j => m ((c : Thread nD τ).loc main_arg0) (ix2 (src (row t r)) j)) (m ((c : Thread nD τ).loc main_arg1) (ix1 k)) k := by
  rw [pay1]
  simp only [ix2_0, ix2_1]
  simp only [iblk_x, iblk_g]

/-- The normalised array, from the rows and the gains. -/
def G (x : FVec Ideal S16896x4096 .f32) (g : FVec Ideal S4096 .f32) : FVec Ideal S16896x4096 .bf16 :=
  fun i => nrm (fun j => x (ix2 (src (i 0)) j)) (g (ix1 (i 1))) (i 1)

/-- The array of the result. -/
theorem arr2 (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  have e0 : ((View.whole main_v1).slice (win0_2.rect t)).emb y = ix2 (row t (y 0)) (y 1) := by
    blk_ext [idx t, row]
  have h := pt m c t (y 0) (y 1)
  rw [ix2_eta y] at h
  exact h.trans (congrArg (G (m ((c : Thread nD τ).loc main_arg0)) (m ((c : Thread nD τ).loc main_arg1))) e0).symm

end Cert.NormHIdeal.Block

namespace Cert.NormHRefIdeal.Block

open Cert.NormHRefIdeal Cert.NormHRefIdeal.Gen
open Cert.NormHIdeal.Block (nrm G src)

/-- The reference's normalised array, entry by entry. -/
theorem ref_eq (x : FVec Ideal S16896x4096 .f32) (g : FVec Ideal S4096 .f32) :
    truncf .bf16 (mulf (mulf x (broadcastInDim S16896x4096 ![0, 1] bcast_S16896x1_S16896x4096_0_1 (Host.rsqrt (addf (Host.divf (broadcastInDim S16896x1 ![0] bcast_S16896_S16896x1_0 (Host.reduceAdd (mulf x x) (constant S_ .f32 0x00000000#32) reducesTo_S16896x4096_S16896_d1 h_S_)) (broadcastInDim S16896x1 ![] bcast_S_S16896x1 (constant S_ .f32 0x45800000#32))) (broadcastInDim S16896x1 ![] bcast_S_S16896x1 (constant S_ .f32 0x358637BD#32)))))) (broadcastInDim S16896x4096 ![0, 1] bcast_S1x4096_S16896x4096_0_1 (broadcastInDim S1x4096 ![1] bcast_S4096_S1x4096_1 g))) bitsLt_bf16_f32
      = G x g := by
  funext i
  pointwise [G, nrm, src]

end Cert.NormHRefIdeal.Block

end
-- ==== Proof.NormPrompt.lean ====
/-
  The normalisation of the prompt rows, the first result: every grid point normalises 256 rows, and the blocks tile the array.
-/
module

public import proofs.«01_k».proof.Proof.Gen.NormPromptIdeal.Value
public import proofs.«01_k».proof.Proof.Gen.NormPromptRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormPromptIdeal.Block

open Cert.NormPromptIdeal Cert.NormPromptIdeal.Gen

/-- One entry of a normalised row: the entry over the root mean square of the row, times its gain. -/
def nrm (x : Fin 4096 → EReal) (g : EReal) (k : Fin 4096) : EReal :=
  x k * Ideal.rsqrt (Ideal.div (∑ j, x j * x j) (Ideal.ofBits .f32 0x45800000#32) + Ideal.ofBits .f32 0x358637BD#32) * g

/-- One entry of the block that a grid point computes. -/
theorem pay1 (x : Vec Ideal S256x4096 .f32) (g : Vec Ideal S1x4096 .f32) (y : S256x4096.Idx) :
    k0_pay1 x g y = nrm (fun j => x (ix2 (y 0) j)) (g (ix2 0 (y 1))) (y 1) := by
  pointwise [k0_pay1, nrm]

/-- The blocks each grid point reads and writes. -/
theorem idx : ∀ t : Fin cfg0.N, win0_0.index t = ![t.val, 0] ∧ win0_1.index t = ![0, 0] ∧ win0_2.index t = ![t.val, 0] :=
  (by decide +kernel : ∀ t : Fin grid0.N, _)

/-- The row of the result behind a row of a block. -/
def row (t : Fin cfg0.N) (r : Fin 256) : Fin 16384 :=
  ⟨t.val * 256 + r.val, by have := r.isLt; have := t.isLt; have : cfg0.N = 64 := N_0; omega⟩

/-- The row of the argument that a row of the result normalises. -/
def src (r : Fin 16384) : Fin 16896 := ⟨r.val, by omega⟩

variable (m : (ℓ : Loc nD τ sig) → Buf (Elt Ideal) ℓ)

/-- The rows in their block. -/
theorem iblk_x (c : Dev nD) (t : Fin cfg0.N) (r : Fin 256) (k : Fin 4096) :
    iblk m c 0 t (ix2 r k) = m ((c : Thread nD τ).loc main_arg0) (ix2 (src (row t r)) k) := by
  blk_point [iblk, V, idx t, row, src]

/-- The gains in their block. -/
theorem iblk_g (c : Dev nD) (t : Fin cfg0.N) (k : Fin 4096) :
    iblk m c 1 t (ix2 0 k) = m ((c : Thread nD τ).loc main_arg1) (ix1 k) := by
  blk_simp [iblk]
  entry_read
  pointwise
  blk_point [idx t]

/-- One entry of what a grid point computes, from the arguments. -/
theorem pt (c : Dev nD) (t : Fin cfg0.N) (r : Fin 256) (k : Fin 4096) :
    k0_pay1 (iblk m c 0 t) (iblk m c 1 t) (ix2 r k)
      = nrm (fun j => m ((c : Thread nD τ).loc main_arg0) (ix2 (src (row t r)) j)) (m ((c : Thread nD τ).loc main_arg1) (ix1 k)) k := by
  rw [pay1]
  simp only [ix2_0, ix2_1]
  simp only [iblk_x, iblk_g]

/-- The normalised array, from the rows and the gains. -/
def G (x : FVec Ideal S16896x4096 .f32) (g : FVec Ideal S4096 .f32) : FVec Ideal S16384x4096 .f32 :=
  fun i => nrm (fun j => x (ix2 (src (i 0)) j)) (g (ix1 (i 1))) (i 1)

/-- The array of the result. -/
theorem arr2 (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  have e0 : ((View.whole main_v1).slice (win0_2.rect t)).emb y = ix2 (row t (y 0)) (y 1) := by
    blk_ext [idx t, row]
  have h := pt m c t (y 0) (y 1)
  rw [ix2_eta y] at h
  exact h.trans (congrArg (G (m ((c : Thread nD τ).loc main_arg0)) (m ((c : Thread nD τ).loc main_arg1))) e0).symm

end Cert.NormPromptIdeal.Block

namespace Cert.NormPromptRefIdeal.Block

open Cert.NormPromptRefIdeal Cert.NormPromptRefIdeal.Gen
open Cert.NormPromptIdeal.Block (nrm G src)

/-- The reference's normalised array, entry by entry. -/
theorem ref_eq (x : FVec Ideal S16896x4096 .f32) (g : FVec Ideal S4096 .f32) :
    mulf (mulf (extractStridedSlice S16384x4096 ![0, 0] x slices_S16896x4096_S16384x4096_0_0) (broadcastInDim S16384x4096 ![0, 1] bcast_S16384x1_S16384x4096_0_1 (Host.rsqrt (addf (Host.divf (broadcastInDim S16384x1 ![0] bcast_S16384_S16384x1_0 (Host.reduceAdd (mulf (extractStridedSlice S16384x4096 ![0, 0] x slices_S16896x4096_S16384x4096_0_0) (extractStridedSlice S16384x4096 ![0, 0] x slices_S16896x4096_S16384x4096_0_0)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))
      = G x g := by
  funext i
  pointwise [G, nrm, src]

end Cert.NormPromptRefIdeal.Block

end
-- ==== Proof.NormSample.lean ====
/-
  The normalisation of the sample rows, the second result: every grid point normalises 256 rows, and the blocks tile the array.
-/
module

public import proofs.«01_k».proof.Proof.Gen.NormSampleIdeal.Value
public import proofs.«01_k».proof.Proof.Gen.NormSampleRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormSampleIdeal.Block

open Cert.NormSampleIdeal Cert.NormSampleIdeal.Gen

/-- One entry of a normalised row: the entry over the root mean square of the row, times its gain. -/
def nrm (x : Fin 4096 → EReal) (g : EReal) (k : Fin 4096) : EReal :=
  x k * Ideal.rsqrt (Ideal.div (∑ j, x j * x j) (Ideal.ofBits .f32 0x45800000#32) + Ideal.ofBits .f32 0x358637BD#32) * g

/-- One entry of the block that a grid point computes. -/
theorem pay1 (x : Vec Ideal S256x4096 .f32) (g : Vec Ideal S1x4096 .f32) (y : S256x4096.Idx) :
    k0_pay1 x g y = nrm (fun j => x (ix2 (y 0) j)) (g (ix2 0 (y 1))) (y 1) := by
  pointwise [k0_pay1, nrm]

/-- The blocks each grid point reads and writes. -/
theorem idx : ∀ t : Fin cfg0.N, win0_0.index t = ![t.val + 64, 0] ∧ win0_1.index t = ![0, 0] ∧ win0_2.index t = ![t.val, 0] :=
  (by decide +kernel : ∀ t : Fin grid0.N, _)

/-- The row of the result behind a row of a block. -/
def row (t : Fin cfg0.N) (r : Fin 256) : Fin 512 :=
  ⟨t.val * 256 + r.val, by have := r.isLt; have := t.isLt; have : cfg0.N = 2 := N_0; omega⟩

/-- The row of the argument that a row of the result normalises. -/
def src (r : Fin 512) : Fin 16896 := ⟨16384 + r.val, by omega⟩

variable (m : (ℓ : Loc nD τ sig) → Buf (Elt Ideal) ℓ)

/-- The rows in their block. -/
theorem iblk_x (c : Dev nD) (t : Fin cfg0.N) (r : Fin 256) (k : Fin 4096) :
    iblk m c 0 t (ix2 r k) = m ((c : Thread nD τ).loc main_arg0) (ix2 (src (row t r)) k) := by
  blk_point [iblk, V, idx t, row, src]

/-- The gains in their block. -/
theorem iblk_g (c : Dev nD) (t : Fin cfg0.N) (k : Fin 4096) :
    iblk m c 1 t (ix2 0 k) = m ((c : Thread nD τ).loc main_arg1) (ix1 k) := by
  blk_simp [iblk]
  entry_read
  pointwise
  blk_point [idx t]

/-- One entry of what a grid point computes, from the arguments. -/
theorem pt (c : Dev nD) (t : Fin cfg0.N) (r : Fin 256) (k : Fin 4096) :
    k0_pay1 (iblk m c 0 t) (iblk m c 1 t) (ix2 r k)
      = nrm (fun j => m ((c : Thread nD τ).loc main_arg0) (ix2 (src (row t r)) j)) (m ((c : Thread nD τ).loc main_arg1) (ix1 k)) k := by
  rw [pay1]
  simp only [ix2_0, ix2_1]
  simp only [iblk_x, iblk_g]

/-- The normalised array, from the rows and the gains. -/
def G (x : FVec Ideal S16896x4096 .f32) (g : FVec Ideal S4096 .f32) : FVec Ideal S512x4096 .f32 :=
  fun i => nrm (fun j => x (ix2 (src (i 0)) j)) (g (ix1 (i 1))) (i 1)

/-- The array of the result. -/
theorem arr2 (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  have e0 : ((View.whole main_v1).slice (win0_2.rect t)).emb y = ix2 (row t (y 0)) (y 1) := by
    blk_ext [idx t, row]
  have h := pt m c t (y 0) (y 1)
  rw [ix2_eta y] at h
  exact h.trans (congrArg (G (m ((c : Thread nD τ).loc main_arg0)) (m ((c : Thread nD τ).loc main_arg1))) e0).symm

end Cert.NormSampleIdeal.Block

namespace Cert.NormSampleRefIdeal.Block

open Cert.NormSampleRefIdeal Cert.NormSampleRefIdeal.Gen
open Cert.NormSampleIdeal.Block (nrm G src)

/-- The reference's normalised array, entry by entry. -/
theorem ref_eq (x : FVec Ideal S16896x4096 .f32) (g : FVec Ideal S4096 .f32) :
    mulf (mulf (extractStridedSlice S512x4096 ![16384, 0] x slices_S16896x4096_S512x4096_16384_0) (broadcastInDim S512x4096 ![0, 1] bcast_S512x1_S512x4096_0_1 (Host.rsqrt (addf (Host.divf (broadcastInDim S512x1 ![0] bcast_S512_S512x1_0 (Host.reduceAdd (mulf (extractStridedSlice S512x4096 ![16384, 0] x slices_S16896x4096_S512x4096_16384_0) (extractStridedSlice S512x4096 ![16384, 0] x slices_S16896x4096_S512x4096_16384_0)) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 g))
      = G x g := by
  funext i
  pointwise [G, nrm, src]

end Cert.NormSampleRefIdeal.Block

end
-- ==== Proof.AttnBlock.lean ====
/- What one grid point of the attention call computes. -/
module

public import proofs.«01_k».proof.Proof.Gen.AttnIdeal.Value
public import Idealize.ShloMosaic.Lib.Pipeline.ValueKit
public import Idealize.ShloMosaic.Lib.Claim
@[expose] public section

set_option maxRecDepth 16384

noncomputable section

open Idealize.ShloMosaic Idealize.ShloMosaic.TcCoe Idealize.SL.Sem
open Idealize.ShloMosaic.Pipeline (Dat)

namespace Cert.AttnIdeal.Block

open Cert.AttnIdeal Cert.AttnIdeal.Gen

theorem mask_value : (Named.named κ "mask" 4048155338#32 : Ideal .f32) = (⊥ : EReal) := by
  rfl

theorem window_start (n : ℕ) (hn : n < 128) : (Scalar.muli
          (Scalar.subi (4#32)
            (Scalar.select
              (Scalar.andi
                (Scalar.xori
                  (Scalar.cmpi CmpIPredicate.slt
                    (Scalar.remsi (BitVec.ofNat 32 n)
                      (Scalar.select (Scalar.cmpi CmpIPredicate.eq 16#32 0#32) 1#32 16#32))
                    0#32)
                  (Scalar.cmpi CmpIPredicate.slt (Scalar.select (Scalar.cmpi CmpIPredicate.eq 16#32 0#32) 1#32 16#32)
                    0#32))
                (Scalar.cmpi CmpIPredicate.ne
                  (Scalar.remsi (BitVec.ofNat 32 n)
                    (Scalar.select (Scalar.cmpi CmpIPredicate.eq 16#32 0#32) 1#32 16#32))
                  0#32))
              (Scalar.addi
                (Scalar.remsi (BitVec.ofNat 32 n)
                  (Scalar.select (Scalar.cmpi CmpIPredicate.eq 16#32 0#32) 1#32 16#32))
                (Scalar.select (Scalar.cmpi CmpIPredicate.eq 16#32 0#32) 1#32 16#32))
              (Scalar.remsi (BitVec.ofNat 32 n)
                (Scalar.select (Scalar.cmpi CmpIPredicate.eq 16#32 0#32) 1#32 16#32))))
          128#32) = Scalar.muli (Scalar.subi (4#32) (BitVec.ofNat 32 (n % 16))) 128#32 :=
  (by decide +kernel : ∀ n : Fin 128, (Scalar.muli
          (Scalar.subi (4#32)
            (Scalar.select
              (Scalar.andi
                (Scalar.xori
                  (Scalar.cmpi CmpIPredicate.slt
                    (Scalar.remsi (BitVec.ofNat 32 n.val)
                      (Scalar.select (Scalar.cmpi CmpIPredicate.eq 16#32 0#32) 1#32 16#32))
                    0#32)
                  (Scalar.cmpi CmpIPredicate.slt (Scalar.select (Scalar.cmpi CmpIPredicate.eq 16#32 0#32) 1#32 16#32)
                    0#32))
                (Scalar.cmpi CmpIPredicate.ne
                  (Scalar.remsi (BitVec.ofNat 32 n.val)
                    (Scalar.select (Scalar.cmpi CmpIPredicate.eq 16#32 0#32) 1#32 16#32))
                  0#32))
              (Scalar.addi
                (Scalar.remsi (BitVec.ofNat 32 n.val)
                  (Scalar.select (Scalar.cmpi CmpIPredicate.eq 16#32 0#32) 1#32 16#32))
                (Scalar.select (Scalar.cmpi CmpIPredicate.eq 16#32 0#32) 1#32 16#32))
              (Scalar.remsi (BitVec.ofNat 32 n.val)
                (Scalar.select (Scalar.cmpi CmpIPredicate.eq 16#32 0#32) 1#32 16#32))))
          128#32) = Scalar.muli (Scalar.subi (4#32) (BitVec.ofNat 32 (n.val % 16))) 128#32) ⟨n, hn⟩

theorem in_window (j b : ℕ) (hj : j < 640) (hb : b < 16) :
    IntOp.cmpi CmpIPredicate.sge (BitVec.ofNat 32 j) (Scalar.muli (Scalar.subi (4#32) (BitVec.ofNat 32 b)) 128#32)
      = if (4 - b) * 128 ≤ j then 1#1 else 0#1 :=
  (by decide +kernel : ∀ (b : Fin 16) (j : Fin 640),
    IntOp.cmpi CmpIPredicate.sge (BitVec.ofNat 32 j.val) (Scalar.muli (Scalar.subi (4#32) (BitVec.ofNat 32 b.val)) 128#32)
      = if (4 - b.val) * 128 ≤ j.val then 1#1 else 0#1) ⟨b, hb⟩ ⟨j, hj⟩

/-- The mask of the window: nothing is added to the places in the stream, −∞ to the others. -/
theorem pen (i : grid0.Coords) (j : Fin 640) :
    k0_pay2 (F := Ideal) i (ix2 0 j) = if (4 - (i 0).val % 16) * 128 ≤ j.val then (0:EReal) else ⊥ := by
  have hi : (i 0).val < 128 := (i 0).isLt
  pointwise [k0_pay2]
  rw [mask_value, window_start _ hi, in_window _ _ j.isLt (by omega)]
  by_cases hb : (4 - (i 0).val % 16) * 128 ≤ j.val
  · rw [if_pos hb, if_pos hb]; rfl
  · rw [if_neg hb, if_neg hb]; rfl

/-- Five blocks of 128 rows, one below the other. -/
def stack (k0 k1 k2 k3 k4 : Vec Ideal S128x128 .bf16) (x : Fin 640) (e : Fin 128) : EReal :=
  if h : x.val < 128 then k0 (ix2 ⟨x.val, by omega⟩ e)
  else if h : x.val - 128 < 128 then k1 (ix2 ⟨x.val - 128, by omega⟩ e)
  else if h : x.val - 128 - 128 < 128 then k2 (ix2 ⟨x.val - 128 - 128, by omega⟩ e)
  else if h : x.val - 128 - 128 - 128 < 128 then k3 (ix2 ⟨x.val - 128 - 128 - 128, by omega⟩ e)
  else k4 (ix2 ⟨x.val - 128 - 128 - 128 - 128, by omega⟩ e)

/-- One entry of one head of one block: the softmax of the scores over the window, and the values weighed by it. -/
def soft (S V : Fin 640 → EReal) : EReal :=
  Ideal.div (∑ x, Ideal.exp (S x - Finset.fold max ⊥ S Finset.univ) * V x) (∑ x, Ideal.exp (S x - Finset.fold max ⊥ S Finset.univ))

theorem least : (Ideal.ofBits FTy.f32 4286578688#32 : EReal) = ⊥ := by rfl

theorem head (pen : FVec Ideal S1x640 .f32) (k0 k1 k2 k3 k4 v0 v1 v2 v3 v4 q : Vec Ideal S128x128 .bf16) (b : Vec Ideal S1x128x640 .f32) (r d : Fin 128) :
    k0_pay9 (F := Ideal) pen k0 k1 k2 k3 k4 v0 v1 v2 v3 v4 q b (ix2 r d)
      = soft (fun x => (∑ e : Fin 128, q (ix2 r e) * stack k0 k1 k2 k3 k4 x e) * Ideal.ofBits FTy.f32 1035273459#32 + b (ix3 0 r x) + pen (ix2 0 x))
          (fun x => stack v0 v1 v2 v3 v4 x d) := by
  pointwise [k0_pay9]
  rw [least]
  rfl

/-- The blocks each grid point reads and writes: point t works on block t of the queries and on the five blocks up to it of the keys and the
    values, none before its stream's first. -/
theorem idx : ∀ t : Fin cfg0.N, (win0_0.index t = ![t.val, 0] ∧ win0_12.index t = ![t.val, 0] ∧ win0_11.index t = ![0, 0, 0] ∧ (grid0.coords t 0).val = t.val) ∧
    (win0_1.index t = ![max (t.val - 4) (t.val / 16 * 16), 0] ∧ win0_2.index t = ![max (t.val + 1 - 4) (t.val / 16 * 16), 0] ∧
      win0_3.index t = ![max (t.val + 2 - 4) (t.val / 16 * 16), 0] ∧ win0_4.index t = ![max (t.val + 3 - 4) (t.val / 16 * 16), 0] ∧
      win0_5.index t = ![max (t.val + 4 - 4) (t.val / 16 * 16), 0]) ∧
    (win0_6.index t = ![max (t.val - 4) (t.val / 16 * 16), 1] ∧ win0_7.index t = ![max (t.val + 1 - 4) (t.val / 16 * 16), 1] ∧
      win0_8.index t = ![max (t.val + 2 - 4) (t.val / 16 * 16), 1] ∧ win0_9.index t = ![max (t.val + 3 - 4) (t.val / 16 * 16), 1] ∧
      win0_10.index t = ![max (t.val + 4 - 4) (t.val / 16 * 16), 1]) :=
  (by decide +kernel : ∀ t : Fin grid0.N, _)

theorem point_lt (t : Fin cfg0.N) : t.val < 128 := by
  have := t.isLt
  have : cfg0.N = 128 := N_0
  omega

/-- The row of the arrays behind a row of the query block. -/
def row (t : Fin cfg0.N) (r : Fin 128) : Fin 16896 := ⟨t.val * 128 + r.val, by have := point_lt t; omega⟩

/-- The row of the arrays behind a row of the key block at place d of the window. -/
def krow (t : Fin cfg0.N) (d : Fin 5) (r : Fin 128) : Fin 16896 :=
  ⟨max (t.val + d.val - 4) (t.val / 16 * 16) * 128 + r.val, by have := point_lt t; have := d.isLt; have := r.isLt; omega⟩

variable (m : (ℓ : Loc nD τ sig) → Buf (Elt Ideal) ℓ)

theorem iblk_q (c : Dev nD) (t : Fin cfg0.N) (r : Fin 128) (k : Fin 2048) :
    X0_0 m c t (ix2 r k) = m ((c : Thread nD τ).loc main_arg0) (ix2 (row t r) ⟨k.val, by omega⟩) := by
  unfold X0_0 Pipeline.Window.fill
  rw [dif_pos (moved0_0 t _)]
  blk_point [iblk, V, idx t, row]

theorem iblk_b (c : Dev nD) (t : Fin cfg0.N) (h : Fin 16) (r : Fin 128) (j : Fin 640) :
    iblk m c 11 t (ix3 h r j) = V m c main_v33 (ix3 h r j) := by
  blk_point [iblk, idx t]

theorem iblk_k0 (c : Dev nD) (t : Fin cfg0.N) (r : Fin 128) (k : Fin 2048) :
    iblk m c 1 t (ix2 r k) = m ((c : Thread nD τ).loc main_arg1) (ix2 (krow t 0 r) ⟨k.val, by omega⟩) := by
  blk_point [iblk, V, idx t, krow]

theorem iblk_v0 (c : Dev nD) (t : Fin cfg0.N) (r : Fin 128) (k : Fin 2048) :
    iblk m c 6 t (ix2 r k) = m ((c : Thread nD τ).loc main_arg1) (ix2 (krow t 0 r) ⟨2048 + k.val, by omega⟩) := by
  blk_point [iblk, V, idx t, krow]

theorem iblk_k1 (c : Dev nD) (t : Fin cfg0.N) (r : Fin 128) (k : Fin 2048) :
    iblk m c 2 t (ix2 r k) = m ((c : Thread nD τ).loc main_arg1) (ix2 (krow t 1 r) ⟨k.val, by omega⟩) := by
  blk_point [iblk, V, idx t, krow]

theorem iblk_v1 (c : Dev nD) (t : Fin cfg0.N) (r : Fin 128) (k : Fin 2048) :
    iblk m c 7 t (ix2 r k) = m ((c : Thread nD τ).loc main_arg1) (ix2 (krow t 1 r) ⟨2048 + k.val, by omega⟩) := by
  blk_point [iblk, V, idx t, krow]

theorem iblk_k2 (c : Dev nD) (t : Fin cfg0.N) (r : Fin 128) (k : Fin 2048) :
    iblk m c 3 t (ix2 r k) = m ((c : Thread nD τ).loc main_arg1) (ix2 (krow t 2 r) ⟨k.val, by omega⟩) := by
  blk_point [iblk, V, idx t, krow]

theorem iblk_v2 (c : Dev nD) (t : Fin cfg0.N) (r : Fin 128) (k : Fin 2048) :
    iblk m c 8 t (ix2 r k) = m ((c : Thread nD τ).loc main_arg1) (ix2 (krow t 2 r) ⟨2048 + k.val, by omega⟩) := by
  blk_point [iblk, V, idx t, krow]

theorem iblk_k3 (c : Dev nD) (t : Fin cfg0.N) (r : Fin 128) (k : Fin 2048) :
    iblk m c 4 t (ix2 r k) = m ((c : Thread nD τ).loc main_arg1) (ix2 (krow t 3 r) ⟨k.val, by omega⟩) := by
  blk_point [iblk, V, idx t, krow]

theorem iblk_v3 (c : Dev nD) (t : Fin cfg0.N) (r : Fin 128) (k : Fin 2048) :
    iblk m c 9 t (ix2 r k) = m ((c : Thread nD τ).loc main_arg1) (ix2 (krow t 3 r) ⟨2048 + k.val, by omega⟩) := by
  blk_point [iblk, V, idx t, krow]

theorem iblk_k4 (c : Dev nD) (t : Fin cfg0.N) (r : Fin 128) (k : Fin 2048) :
    iblk m c 5 t (ix2 r k) = m ((c : Thread nD τ).loc main_arg1) (ix2 (krow t 4 r) ⟨k.val, by omega⟩) := by
  blk_point [iblk, V, idx t, krow]

theorem iblk_v4 (c : Dev nD) (t : Fin cfg0.N) (r : Fin 128) (k : Fin 2048) :
    iblk m c 10 t (ix2 r k) = m ((c : Thread nD τ).loc main_arg1) (ix2 (krow t 4 r) ⟨2048 + k.val, by omega⟩) := by
  blk_point [iblk, V, idx t, krow]

end Cert.AttnIdeal.Block

end
-- ==== Proof.AttnBias.lean ====
/- The bias of the attention call, as the program's own operations before the call make it. -/
module

public import proofs.«01_k».proof.Proof.Gen.AttnIdeal.Value
public import Idealize.ShloMosaic.Lib.Pipeline.ValueKit
public import Idealize.ShloMosaic.Lib.Claim
@[expose] public section

set_option maxRecDepth 16384

noncomputable section

open Idealize.ShloMosaic Idealize.ShloMosaic.TcCoe Idealize.SL.Sem
open Idealize.ShloMosaic.Pipeline (Dat)

namespace Cert.AttnIdeal.Block

open Cert.AttnIdeal Cert.AttnIdeal.Gen

theorem gather_bias {α : Type} (x : S16x513.Idx → α) (idx : IVec S128x640x1 32) (h : Fin 16) (r : Fin 128) (j : Fin 640) :
    Host.gather gather_S16x513_S128x640x1_S16x128x640_0_1_n_n_1_2_161 x idx (ix3 h r j)
      = x (ix2 h ⟨min (idx (ix3 r j 0)).toInt.toNat 512, by omega⟩) := by
  unfold Host.gather
  congr 1
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil]
    unfold GatherDims.start
    rw [dif_neg (by decide +revert)]
    simp only [Nat.zero_add]
    rfl
  | ⟨1, _⟩ =>
    show GatherDims.start _ _ _ _ + GatherDims.batchCoord _ _ _ + GatherDims.offCoord _ _ _ = _
    rw [GatherDims.batchCoord_eq_zero _ _ _ List.not_mem_nil, GatherDims.offCoord_eq_zero _ _ _ (by decide +revert)]
    unfold GatherDims.start
    rw [dif_pos (by decide +revert)]
    have hsi : ∀ hh, GatherDims.siIdx gather_S16x513_S128x640x1_S16x128x640_0_1_n_n_1_2_161 (ix3 h r j) ⟨0, hh⟩ = ix3 r j 0 := by
      intro hh
      funext b; refine Fin.ext ?_
      match b with
      | ⟨0, _⟩ => rfl
      | ⟨1, _⟩ => rfl
      | ⟨2, _⟩ => rfl
    exact congrArg (fun z => min (idx z).toInt.toNat 512) (hsi _)

theorem chunk_of (n : ℕ) (hn : n < 640) : (Scalar.select
            (IntOp.andi
              (IntOp.cmpi CmpIPredicate.ne
                (if BitVec.ofNat 32 n = 0 then (0 : BitVec 32) else if (BitVec.ofNat 32 n).msb = true then -1 else 1)
                (if id (constantI S_ 32 64#32 : IVec S_ 32) (ix0 : S_.Idx) = 0 then (0 : BitVec 32)
                else if BitVec.msb (id (constantI S_ 32 64#32 : IVec S_ 32) (ix0 : S_.Idx)) = true then -1 else 1))
              (IntOp.cmpi CmpIPredicate.ne
                (IntOp.remsi ArithUnit.host (BitVec.ofNat 32 n) (id (constantI S_ 32 64#32 : IVec S_ 32) (ix0 : S_.Idx))) 0#32))
            (IntOp.subi (IntOp.divsi ArithUnit.host (BitVec.ofNat 32 n) (id (constantI S_ 32 64#32 : IVec S_ 32) (ix0 : S_.Idx))) 1#32)
            (IntOp.divsi ArithUnit.host (BitVec.ofNat 32 n) (id (constantI S_ 32 64#32 : IVec S_ 32) (ix0 : S_.Idx)))) = BitVec.ofNat 32 (n / 64) :=
  (by decide +kernel : ∀ n : Fin 640, (Scalar.select
            (IntOp.andi
              (IntOp.cmpi CmpIPredicate.ne
                (if BitVec.ofNat 32 n.val = 0 then (0 : BitVec 32) else if (BitVec.ofNat 32 n.val).msb = true then -1 else 1)
                (if id (constantI S_ 32 64#32 : IVec S_ 32) (ix0 : S_.Idx) = 0 then (0 : BitVec 32)
                else if BitVec.msb (id (constantI S_ 32 64#32 : IVec S_ 32) (ix0 : S_.Idx)) = true then -1 else 1))
              (IntOp.cmpi CmpIPredicate.ne
                (IntOp.remsi ArithUnit.host (BitVec.ofNat 32 n.val) (id (constantI S_ 32 64#32 : IVec S_ 32) (ix0 : S_.Idx))) 0#32))
            (IntOp.subi (IntOp.divsi ArithUnit.host (BitVec.ofNat 32 n.val) (id (constantI S_ 32 64#32 : IVec S_ 32) (ix0 : S_.Idx))) 1#32)
            (IntOp.divsi ArithUnit.host (BitVec.ofNat 32 n.val) (id (constantI S_ 32 64#32 : IVec S_ 32) (ix0 : S_.Idx)))) = BitVec.ofNat 32 (n.val / 64)) ⟨n, hn⟩

theorem distance (u : ℕ) (hu : u < 768) :
    min (Scalar.select
          (IntOp.cmpi CmpIPredicate.slt
            (IntOp.addi (IntOp.minsi 256#32 (IntOp.maxsi 4294967040#32 (IntOp.subi (BitVec.ofNat 32 u) 128#32))) 256#32) 0#32)
          (IntOp.addi (IntOp.addi (IntOp.minsi 256#32 (IntOp.maxsi 4294967040#32 (IntOp.subi (BitVec.ofNat 32 u) 128#32))) 256#32) 513#32)
          (IntOp.addi (IntOp.minsi 256#32 (IntOp.maxsi 4294967040#32 (IntOp.subi (BitVec.ofNat 32 u) 128#32))) 256#32)).toInt.toNat 512
      = min (u + 128) 512 :=
  (by decide +kernel : ∀ u : Fin 768, min (Scalar.select
          (IntOp.cmpi CmpIPredicate.slt
            (IntOp.addi (IntOp.minsi 256#32 (IntOp.maxsi 4294967040#32 (IntOp.subi (BitVec.ofNat 32 u.val) 128#32))) 256#32) 0#32)
          (IntOp.addi (IntOp.addi (IntOp.minsi 256#32 (IntOp.maxsi 4294967040#32 (IntOp.subi (BitVec.ofNat 32 u.val) 128#32))) 256#32) 513#32)
          (IntOp.addi (IntOp.minsi 256#32 (IntOp.maxsi 4294967040#32 (IntOp.subi (BitVec.ofNat 32 u.val) 128#32))) 256#32)).toInt.toNat 512
      = min (u.val + 128) 512) ⟨u, hu⟩

theorem same_chunks (x y : ℕ) (hx : x < 10) (hy : y < 2) :
    IntOp.andi (IntOp.cmpi CmpIPredicate.sle (BitVec.ofNat 32 x) (IntOp.addi (BitVec.ofNat 32 y) 8#32))
        (IntOp.cmpi CmpIPredicate.sge (BitVec.ofNat 32 x) (IntOp.subi (IntOp.addi (BitVec.ofNat 32 y) 8#32) 8#32))
      = if y ≤ x ∧ x ≤ y + 8 then 1#1 else 0#1 :=
  (by decide +kernel : ∀ (x : Fin 10) (y : Fin 2),
    IntOp.andi (IntOp.cmpi CmpIPredicate.sle (BitVec.ofNat 32 x.val) (IntOp.addi (BitVec.ofNat 32 y.val) 8#32))
        (IntOp.cmpi CmpIPredicate.sge (BitVec.ofNat 32 x.val) (IntOp.subi (IntOp.addi (BitVec.ofNat 32 y.val) 8#32) 8#32))
      = if y.val ≤ x.val ∧ x.val ≤ y.val + 8 then 1#1 else 0#1) ⟨x, hx⟩ ⟨y, hy⟩

variable (m : (ℓ : Loc nD τ sig) → Buf (Elt Ideal) ℓ)
set_option maxHeartbeats 4000000 in
/-- The bias of a head, a row of a block and a place of its window: the relative bias within the band, −∞ outside. -/
theorem bias (c : Dev nD) (h : Fin 16) (r : Fin 128) (j : Fin 640) :
    V m c main_v33 (ix3 h r j)
      = if r.val / 64 ≤ j.val / 64 ∧ j.val / 64 ≤ r.val / 64 + 8 then
          (show EReal from m ((c.tc : Thread nD τ).loc main_arg2) (ix2 h ⟨min (r.val + 768 - j.val) 512, by omega⟩))
        else (⊥ : EReal) := by
  dsimp only [V]
  simp only [hostOps0, hostOps0_1, hostOps0_2, hostOps0_3, hostOps0_4, hostOps0_5, hostOps0_6, hostOps0_7, List.flatten_cons, List.flatten_nil, List.cons_append, List.nil_append, StableHlo.TRef.binary, StableHlo.TRef.ternary, StableHlo.TRef.unary, StableHlo.TRef.nullary, StableHlo.TRef.toBuf, StableHlo.TRef.ofBuf, cast_eq]
  after_results_simp
  pointwise
  have hj := j.isLt
  have hr := r.isLt
  simp only [chunk_of j.val hj, chunk_of r.val (lt_trans hr (by decide))]
  rw [same_chunks _ _ (by omega) (by omega), gather_bias]
  pointwise
  have e : IntOp.subi (IntOp.addi 512#32 (BitVec.ofNat 32 r.val)) (BitVec.ofNat 32 j.val) = IntOp.subi (BitVec.ofNat 32 (r.val + 640 - j.val)) 128#32 := by
    unfold IntOp.subi IntOp.addi
    bv_omega
  simp only [e]
  by_cases hb : r.val / 64 ≤ j.val / 64 ∧ j.val / 64 ≤ r.val / 64 + 8
  · rw [if_pos hb, if_pos hb]
    refine congrArg (fun z => m ((c.tc : Thread nD τ).loc main_arg2) (ix2 h z)) (Fin.ext ?_)
    refine (distance (r.val + 640 - j.val) (by omega)).trans ?_
    show min _ _ = min _ _
    omega
  · rw [if_neg hb, if_neg hb]
    rfl

end Cert.AttnIdeal.Block

end
-- ==== Proof.AttnRows.lean ====
/- The rows that one grid point of the attention call leaves in its output. -/
module

public import proofs.«01_k».proof.Proof.Gen.AttnIdeal.Value
public import proofs.«01_k».proof.Proof.AttnBlock
public import proofs.«01_k».proof.Proof.AttnBias
public import Idealize.ShloMosaic.Lib.Pipeline.ValueKit
public import Idealize.ShloMosaic.Lib.Claim
@[expose] public section

set_option maxRecDepth 16384

noncomputable section

open Idealize.ShloMosaic Idealize.ShloMosaic.TcCoe Idealize.SL.Sem
open Idealize.ShloMosaic.Pipeline (Dat)

namespace Cert.AttnIdeal.Block

open Cert.AttnIdeal Cert.AttnIdeal.Gen

variable (m : (ℓ : Loc nD τ sig) → Buf (Elt Ideal) ℓ)

/-- The columns of a head, cut out of a block. -/
theorem cut (A : S128x2048.Idx → EReal) (o : ℕ) (inb : ∀ a, (![0, o] : Fin 2 → ℕ) a + (![128, 128] : Fin 2 → ℕ) a ≤ S128x2048.size a)
    (r e : Fin 128) (ho : o + e.val < 2048) :
    A ((Rect.unit (s := S128x2048) ![0, o] ![128, 128] inb).idx (ix2 r e)) = A (ix2 r ⟨o + e.val, ho⟩) := by
  refine congrArg A ?_
  funext a
  refine Fin.ext ?_
  match a with
  | ⟨0, _⟩ => simp [Rect.unit]
  | ⟨1, _⟩ => simp [Rect.unit]

/-- A head's bias, cut out of the bias. -/
theorem cut_bias (A : S16x128x640.Idx → EReal) (h : ℕ) (inb : ∀ a, (![h, 0, 0] : Fin 3 → ℕ) a + (![1, 128, 640] : Fin 3 → ℕ) a ≤ S16x128x640.size a)
    (r : Fin 128) (x : Fin 640) (hh : h < 16) :
    A ((Rect.unit (s := S16x128x640) ![h, 0, 0] ![1, 128, 640] inb).idx (ix3 0 r x)) = A (ix3 ⟨h, hh⟩ r x) := by
  refine congrArg A ?_
  funext a
  refine Fin.ext ?_
  match a with
  | ⟨0, _⟩ => simp [Rect.unit]
  | ⟨1, _⟩ => simp [Rect.unit]
  | ⟨2, _⟩ => simp [Rect.unit]

/-- The row of the arrays behind a place of the window. -/
def wrow (t : Fin cfg0.N) (x : Fin 640) : Fin 16896 := krow t ⟨x.val / 128, by omega⟩ ⟨x.val % 128, by omega⟩

/-- One score: query and key, the bias and the window's mask. -/
def score (c : Dev nD) (t : Fin cfg0.N) (h : Fin 16) (r : Fin 128) (x : Fin 640) : EReal :=
  (∑ e : Fin 128, (show EReal from m ((c : Thread nD τ).loc main_arg0) (ix2 (row t r) ⟨h.val * 128 + e.val, by omega⟩))
      * (show EReal from m ((c : Thread nD τ).loc main_arg1) (ix2 (wrow t x) ⟨h.val * 128 + e.val, by omega⟩)))
    * Ideal.ofBits FTy.f32 1035273459#32
    + (if r.val / 64 ≤ x.val / 64 ∧ x.val / 64 ≤ r.val / 64 + 8 then
          (show EReal from m ((c : Thread nD τ).loc main_arg2) (ix2 h ⟨min (r.val + 768 - x.val) 512, by omega⟩))
        else (⊥ : EReal))
    + if (4 - t.val % 16) * 128 ≤ x.val then (0 : EReal) else ⊥

/-- One value of the window. -/
def value (c : Dev nD) (t : Fin cfg0.N) (h : Fin 16) (d : Fin 128) (x : Fin 640) : EReal :=
  m ((c : Thread nD τ).loc main_arg1) (ix2 (wrow t x) ⟨2048 + (h.val * 128 + d.val), by omega⟩)

/-- One entry of the block. -/
def cell (c : Dev nD) (t : Fin cfg0.N) (y : S128x2048.Idx) : EReal :=
  soft (score m c t ⟨(y 1).val / 128, by have : (y 1).val < 2048 := (y 1).isLt; omega⟩ (y 0))
    (value m c t ⟨(y 1).val / 128, by have : (y 1).val < 2048 := (y 1).isLt; omega⟩ ⟨(y 1).val % 128, by omega⟩)

/-- The keys of the window, entry by entry. -/
theorem stack_k (c : Dev nD) (t : Fin cfg0.N) (o : ℕ) (inb : ∀ a, (![0, o] : Fin 2 → ℕ) a + (![128, 128] : Fin 2 → ℕ) a ≤ S128x2048.size a)
    (x : Fin 640) (e : Fin 128) (ho : o + e.val < 2048) :
    stack (View.ld (iblk m c 1 t) (Rect.unit (s := S128x2048) ![0, o] ![128, 128] inb)) (View.ld (iblk m c 2 t) (Rect.unit (s := S128x2048) ![0, o] ![128, 128] inb)) (View.ld (iblk m c 3 t) (Rect.unit (s := S128x2048) ![0, o] ![128, 128] inb))
      (View.ld (iblk m c 4 t) (Rect.unit (s := S128x2048) ![0, o] ![128, 128] inb)) (View.ld (iblk m c 5 t) (Rect.unit (s := S128x2048) ![0, o] ![128, 128] inb)) x e
      = m ((c : Thread nD τ).loc main_arg1) (ix2 (wrow t x) ⟨o + e.val, by omega⟩) := by
  have hx := x.isLt
  unfold stack
  by_cases c0 : x.val < 128
  · refine (dif_pos c0).trans ((cut _ o inb _ e ho).trans ((iblk_k0 m c t _ _).trans ?_))
    refine congrArg (fun z => m ((c : Thread nD τ).loc main_arg1) (ix2 z _)) (Fin.ext ?_)
    simp only [wrow, krow]
    omega
  refine (dif_neg c0).trans ?_
  by_cases c1 : x.val - 128 < 128
  · refine (dif_pos c1).trans ((cut _ o inb _ e ho).trans ((iblk_k1 m c t _ _).trans ?_))
    refine congrArg (fun z => m ((c : Thread nD τ).loc main_arg1) (ix2 z _)) (Fin.ext ?_)
    simp only [wrow, krow]
    omega
  refine (dif_neg c1).trans ?_
  by_cases c2 : x.val - 128 - 128 < 128
  · refine (dif_pos c2).trans ((cut _ o inb _ e ho).trans ((iblk_k2 m c t _ _).trans ?_))
    refine congrArg (fun z => m ((c : Thread nD τ).loc main_arg1) (ix2 z _)) (Fin.ext ?_)
    simp only [wrow, krow]
    omega
  refine (dif_neg c2).trans ?_
  by_cases c3 : x.val - 128 - 128 - 128 < 128
  · refine (dif_pos c3).trans ((cut _ o inb _ e ho).trans ((iblk_k3 m c t _ _).trans ?_))
    refine congrArg (fun z => m ((c : Thread nD τ).loc main_arg1) (ix2 z _)) (Fin.ext ?_)
    simp only [wrow, krow]
    omega
  refine (dif_neg c3).trans ((cut _ o inb _ e ho).trans ((iblk_k4 m c t _ _).trans ?_))
  refine congrArg (fun z => m ((c : Thread nD τ).loc main_arg1) (ix2 z _)) (Fin.ext ?_)
  simp only [wrow, krow]
  omega

/-- The values of the window, entry by entry. -/
theorem stack_v (c : Dev nD) (t : Fin cfg0.N) (o : ℕ) (inb : ∀ a, (![0, o] : Fin 2 → ℕ) a + (![128, 128] : Fin 2 → ℕ) a ≤ S128x2048.size a)
    (x : Fin 640) (e : Fin 128) (ho : o + e.val < 2048) :
    stack (View.ld (iblk m c 6 t) (Rect.unit (s := S128x2048) ![0, o] ![128, 128] inb)) (View.ld (iblk m c 7 t) (Rect.unit (s := S128x2048) ![0, o] ![128, 128] inb)) (View.ld (iblk m c 8 t) (Rect.unit (s := S128x2048) ![0, o] ![128, 128] inb))
      (View.ld (iblk m c 9 t) (Rect.unit (s := S128x2048) ![0, o] ![128, 128] inb)) (View.ld (iblk m c 10 t) (Rect.unit (s := S128x2048) ![0, o] ![128, 128] inb)) x e
      = m ((c : Thread nD τ).loc main_arg1) (ix2 (wrow t x) ⟨2048 + (o + e.val), by omega⟩) := by
  have hx := x.isLt
  unfold stack
  by_cases c0 : x.val < 128
  · refine (dif_pos c0).trans ((cut _ o inb _ e ho).trans ((iblk_v0 m c t _ _).trans ?_))
    refine congrArg (fun z => m ((c : Thread nD τ).loc main_arg1) (ix2 z _)) (Fin.ext ?_)
    simp only [wrow, krow]
    omega
  refine (dif_neg c0).trans ?_
  by_cases c1 : x.val - 128 < 128
  · refine (dif_pos c1).trans ((cut _ o inb _ e ho).trans ((iblk_v1 m c t _ _).trans ?_))
    refine congrArg (fun z => m ((c : Thread nD τ).loc main_arg1) (ix2 z _)) (Fin.ext ?_)
    simp only [wrow, krow]
    omega
  refine (dif_neg c1).trans ?_
  by_cases c2 : x.val - 128 - 128 < 128
  · refine (dif_pos c2).trans ((cut _ o inb _ e ho).trans ((iblk_v2 m c t _ _).trans ?_))
    refine congrArg (fun z => m ((c : Thread nD τ).loc main_arg1) (ix2 z _)) (Fin.ext ?_)
    simp only [wrow, krow]
    omega
  refine (dif_neg c2).trans ?_
  by_cases c3 : x.val - 128 - 128 - 128 < 128
  · refine (dif_pos c3).trans ((cut _ o inb _ e ho).trans ((iblk_v3 m c t _ _).trans ?_))
    refine congrArg (fun z => m ((c : Thread nD τ).loc main_arg1) (ix2 z _)) (Fin.ext ?_)
    simp only [wrow, krow]
    omega
  refine (dif_neg c3).trans ((cut _ o inb _ e ho).trans ((iblk_v4 m c t _ _).trans ?_))
  refine congrArg (fun z => m ((c : Thread nD τ).loc main_arg1) (ix2 z _)) (Fin.ext ?_)
  simp only [wrow, krow]
  omega

/-- What one head's store leaves. -/
theorem piece (c : Dev nD) (t : Fin cfg0.N) (o h : ℕ) (inb : ∀ a, (![0, o] : Fin 2 → ℕ) a + (![128, 128] : Fin 2 → ℕ) a ≤ S128x2048.size a)
    (inb' : ∀ a, (![h, 0, 0] : Fin 3 → ℕ) a + (![1, 128, 640] : Fin 3 → ℕ) a ≤ S16x128x640.size a) (hh : h < 16) (ho : o = h * 128)
    (x : S128x128.Idx) (y : S128x2048.Idx) (h0 : (y 0).val = (x 0).val) (h1 : (y 1).val = o + (x 1).val) :
    k0_pay9 (F := Ideal) (k0_pay2 (grid0.coords t)) (View.ld (iblk m c 1 t) (Rect.unit (s := S128x2048) ![0, o] ![128, 128] inb)) (View.ld (iblk m c 2 t) (Rect.unit (s := S128x2048) ![0, o] ![128, 128] inb)) (View.ld (iblk m c 3 t) (Rect.unit (s := S128x2048) ![0, o] ![128, 128] inb)) (View.ld (iblk m c 4 t) (Rect.unit (s := S128x2048) ![0, o] ![128, 128] inb)) (View.ld (iblk m c 5 t) (Rect.unit (s := S128x2048) ![0, o] ![128, 128] inb)) (View.ld (iblk m c 6 t) (Rect.unit (s := S128x2048) ![0, o] ![128, 128] inb)) (View.ld (iblk m c 7 t) (Rect.unit (s := S128x2048) ![0, o] ![128, 128] inb)) (View.ld (iblk m c 8 t) (Rect.unit (s := S128x2048) ![0, o] ![128, 128] inb)) (View.ld (iblk m c 9 t) (Rect.unit (s := S128x2048) ![0, o] ![128, 128] inb)) (View.ld (iblk m c 10 t) (Rect.unit (s := S128x2048) ![0, o] ![128, 128] inb))
      (View.ld (X0_0 m c t) (Rect.unit (s := S128x2048) ![0, o] ![128, 128] inb)) (View.ld (iblk m c 11 t) (Rect.unit (s := S16x128x640) ![h, 0, 0] ![1, 128, 640] inb')) x
      = cell m c t y := by
  subst ho
  have x1 : (x 1).val < 128 := (x 1).isLt
  have e1 : (⟨(y 1).val / 128, by have : (y 1).val < 2048 := (y 1).isLt; omega⟩ : Fin 16) = ⟨h, hh⟩ := Fin.ext (by show (y 1).val / 128 = h; omega)
  have e2 : (⟨(y 1).val % 128, by omega⟩ : Fin 128) = x 1 := Fin.ext (by show (y 1).val % 128 = _; omega)
  have e3 : y 0 = x 0 := Fin.ext h0
  unfold cell
  rw [e1, e2, e3]
  refine (congrArg (k0_pay9 (F := Ideal) _ _ _ _ _ _ _ _ _ _ _ _ _) (ix2_eta x).symm).trans ((head _ _ _ _ _ _ _ _ _ _ _ _ _ (x 0) (x 1)).trans ?_)
  refine congrArg₂ soft (funext fun w => ?_) (funext fun w => ?_)
  · unfold score
    refine congrArg₂ (fun u v : EReal => u + v) (congrArg₂ (fun u v : EReal => u + v) (congrArg (fun u : EReal => u * _) (Finset.sum_congr (M := EReal) rfl fun e _ => congrArg₂ (fun u v : EReal => u * v) ?_ ?_)) ?_) ?_
    · exact (cut _ _ inb _ e (by omega)).trans (iblk_q m c t _ _)
    · exact stack_k m c t _ inb w e (by omega)
    · exact (cut_bias _ h inb' _ w hh).trans ((iblk_b m c t _ _ _).trans (bias m c _ _ _))
    · rw [pen, (idx t).1.2.2.2]
  · exact stack_v m c t _ inb w (x 1) (by omega)

set_option maxHeartbeats 8000000 in
/-- The block that a grid point leaves. -/
theorem block (c : Dev nD) (t : Fin cfg0.N) (y : S128x2048.Idx) :
    (show Vec Ideal S128x2048 .bf16 from (dats m 0 c).after 12 t) y = cell m c t y := by
  dsimp only
  rw [after0_12]
  unfold outsAt0
  frame_out
  canon_tiles x h
  case piece0 => exact piece m c t 1920 15 inb_S128x2048_S128x128_0_1920 inb_S16x128x640_S1x128x640_15_0_0 (by decide) (by decide) x y h0 h1
  case piece1 => exact piece m c t 1792 14 inb_S128x2048_S128x128_0_1792 inb_S16x128x640_S1x128x640_14_0_0 (by decide) (by decide) x y h0 h1
  case piece2 => exact piece m c t 1664 13 inb_S128x2048_S128x128_0_1664 inb_S16x128x640_S1x128x640_13_0_0 (by decide) (by decide) x y h0 h1
  case piece3 => exact piece m c t 1536 12 inb_S128x2048_S128x128_0_1536 inb_S16x128x640_S1x128x640_12_0_0 (by decide) (by decide) x y h0 h1
  case piece4 => exact piece m c t 1408 11 inb_S128x2048_S128x128_0_1408 inb_S16x128x640_S1x128x640_11_0_0 (by decide) (by decide) x y h0 h1
  case piece5 => exact piece m c t 1280 10 inb_S128x2048_S128x128_0_1280 inb_S16x128x640_S1x128x640_10_0_0 (by decide) (by decide) x y h0 h1
  case piece6 => exact piece m c t 1152 9 inb_S128x2048_S128x128_0_1152 inb_S16x128x640_S1x128x640_9_0_0 (by decide) (by decide) x y h0 h1
  case piece7 => exact piece m c t 1024 8 inb_S128x2048_S128x128_0_1024 inb_S16x128x640_S1x128x640_8_0_0 (by decide) (by decide) x y h0 h1
  case piece8 => exact piece m c t 896 7 inb_S128x2048_S128x128_0_896 inb_S16x128x640_S1x128x640_7_0_0 (by decide) (by decide) x y h0 h1
  case piece9 => exact piece m c t 768 6 inb_S128x2048_S128x128_0_768 inb_S16x128x640_S1x128x640_6_0_0 (by decide) (by decide) x y h0 h1
  case piece10 => exact piece m c t 640 5 inb_S128x2048_S128x128_0_640 inb_S16x128x640_S1x128x640_5_0_0 (by decide) (by decide) x y h0 h1
  case piece11 => exact piece m c t 512 4 inb_S128x2048_S128x128_0_512 inb_S16x128x640_S1x128x640_4_0_0 (by decide) (by decide) x y h0 h1
  case piece12 => exact piece m c t 384 3 inb_S128x2048_S128x128_0_384 inb_S16x128x640_S1x128x640_3_0_0 (by decide) (by decide) x y h0 h1
  case piece13 => exact piece m c t 256 2 inb_S128x2048_S128x128_0_256 inb_S16x128x640_S1x128x640_2_0_0 (by decide) (by decide) x y h0 h1
  case piece14 => exact piece m c t 128 1 inb_S128x2048_S128x128_0_128 inb_S16x128x640_S1x128x640_1_0_0 (by decide) (by decide) x y h0 h1
  case piece15 => exact piece m c t 0 0 inb_S128x2048_S128x128_0_0 inb_S16x128x640_S1x128x640_0_0_0 (by decide) (by decide) x y h0 (h1.trans (Nat.zero_add _).symm)

end Cert.AttnIdeal.Block

end
-- ==== Proof.AttnRefBand.lean ====
/- The prompt's band attention of the reference, read entry by entry. -/
module

public import proofs.«01_k».proof.Proof.Gen.AttnRefIdeal.Run
public import Idealize.ShloMosaic.Lib.Pipeline.ValueKit
public import Idealize.ShloMosaic.Lib.Claim
@[expose] public section

set_option maxRecDepth 16384

noncomputable section

open Idealize.ShloMosaic Idealize.ShloMosaic.TcCoe Idealize.SL.Sem
open Idealize.ShloMosaic.Pipeline (Dat)

namespace Cert.AttnRefIdeal.Block

open Cert.AttnRefIdeal Cert.AttnRefIdeal.Gen

theorem gather_bias {α : Type} (x : S16x513.Idx → α) (idx : IVec S64x576x1 32) (h : Fin 16) (r : Fin 64) (j : Fin 576) :
    Host.gather gather_S16x513_S64x576x1_S16x64x576_0_1_n_n_1_2_161 x idx (ix3 h r j)
      = x (ix2 h ⟨min (idx (ix3 r j 0)).toInt.toNat 512, by omega⟩) := by
  unfold Host.gather
  congr 1
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil]
    unfold GatherDims.start
    rw [dif_neg (by decide +revert)]
    simp only [Nat.zero_add]
    rfl
  | ⟨1, _⟩ =>
    show GatherDims.start _ _ _ _ + GatherDims.batchCoord _ _ _ + GatherDims.offCoord _ _ _ = _
    rw [GatherDims.batchCoord_eq_zero _ _ _ List.not_mem_nil, GatherDims.offCoord_eq_zero _ _ _ (by decide +revert)]
    unfold GatherDims.start
    rw [dif_pos (by decide +revert)]
    have hsi : ∀ hh, GatherDims.siIdx gather_S16x513_S64x576x1_S16x64x576_0_1_n_n_1_2_161 (ix3 h r j) ⟨0, hh⟩ = ix3 r j 0 := by
      intro hh
      funext b; refine Fin.ext ?_
      match b with
      | ⟨0, _⟩ => rfl
      | ⟨1, _⟩ => rfl
      | ⟨2, _⟩ => rfl
    exact congrArg (fun z => min (idx z).toInt.toNat 512) (hsi _)

theorem gather_band {α : Type} (x : S8x40x64x16x128.Idx → α) (idx : IVec S32x9x1 32) (b : Fin 8) (c : Fin 32) (u : Fin 9)
    (s : Fin 64) (h : Fin 16) (e : Fin 128) :
    Host.gather gather_S8x40x64x16x128_S32x9x1_S8x32x9x64x16x128_0345_1_n_n_1_2_816416128 x idx (ix6 b c u s h e)
      = x (ix5 b ⟨min (idx (ix3 c u 0)).toInt.toNat 39, by omega⟩ s h e) := by
  unfold Host.gather
  congr 1
  funext a
  refine Fin.ext ?_
  have off : ∀ a : Fin 5, a ≠ 1 → (GatherDims.start gather_S8x40x64x16x128_S32x9x1_S8x32x9x64x16x128_0345_1_n_n_1_2_816416128 (ix6 b c u s h e) idx a : ℕ) = 0 := by
    intro a ha
    unfold GatherDims.start
    rw [dif_neg (by simpa [gather_S8x40x64x16x128_S32x9x1_S8x32x9x64x16x128_0345_1_n_n_1_2_816416128] using ha)]
  match a with
  | ⟨0, _⟩ =>
    show GatherDims.start _ _ _ _ + GatherDims.batchCoord _ _ _ + GatherDims.offCoord _ _ _ = _
    rw [GatherDims.batchCoord_eq_zero _ _ _ List.not_mem_nil, off _ (by decide +revert)]
    simp only [Nat.zero_add]
    rfl
  | ⟨2, _⟩ =>
    show GatherDims.start _ _ _ _ + GatherDims.batchCoord _ _ _ + GatherDims.offCoord _ _ _ = _
    rw [GatherDims.batchCoord_eq_zero _ _ _ List.not_mem_nil, off _ (by decide +revert)]
    simp only [Nat.zero_add]
    rfl
  | ⟨3, _⟩ =>
    show GatherDims.start _ _ _ _ + GatherDims.batchCoord _ _ _ + GatherDims.offCoord _ _ _ = _
    rw [GatherDims.batchCoord_eq_zero _ _ _ List.not_mem_nil, off _ (by decide +revert)]
    simp only [Nat.zero_add]
    rfl
  | ⟨4, _⟩ =>
    show GatherDims.start _ _ _ _ + GatherDims.batchCoord _ _ _ + GatherDims.offCoord _ _ _ = _
    rw [GatherDims.batchCoord_eq_zero _ _ _ List.not_mem_nil, off _ (by decide +revert)]
    simp only [Nat.zero_add]
    rfl
  | ⟨1, _⟩ =>
    show GatherDims.start _ _ _ _ + GatherDims.batchCoord _ _ _ + GatherDims.offCoord _ _ _ = _
    rw [GatherDims.batchCoord_eq_zero _ _ _ List.not_mem_nil, GatherDims.offCoord_eq_zero _ _ _ (by decide +revert)]
    unfold GatherDims.start
    rw [dif_pos (by decide +revert)]
    have hsi : ∀ hh, GatherDims.siIdx gather_S8x40x64x16x128_S32x9x1_S8x32x9x64x16x128_0345_1_n_n_1_2_816416128 (ix6 b c u s h e) ⟨0, hh⟩ = ix3 c u 0 := by
      intro hh
      funext b; refine Fin.ext ?_
      match b with
      | ⟨0, _⟩ => rfl
      | ⟨1, _⟩ => rfl
      | ⟨2, _⟩ => rfl
    exact congrArg (fun z => min (idx z).toInt.toNat 39) (hsi _)

variable (m : (ℓ : Loc nD τ sig) → Buf (Elt Ideal) ℓ) (c : Dev nD)

/-- The queries by stream, chunk, row, head and entry. -/
def qh : FVec Ideal S8x32x64x16x128 .f32 :=
  shapeCast _ (extractStridedSlice S16384x2048 ![0, 0] (extf .f32 (extractStridedSlice S16896x2048 ![0, 0] (m ((c.tc : Thread nD τ).loc main_arg0)) slices_S16896x7168_S16896x2048_0_0) bitsLt_bf16_f32) slices_S16896x2048_S16384x2048_0_0) shapeCasts_S16384x2048_S8x32x64x16x128

/-- The number of each chunk of each band among a stream's chunks and the eight before them. -/
def chunkNo : IVec S32x9 32 :=
  addi (broadcastInDim S32x9 ![0, 1] bcast_S32x1_S32x9_0_1 (broadcastInDim S32x1 ![0] bcast_S32_S32x1_0 (iotaInDim S32 32 0))) (broadcastInDim S32x9 ![0, 1] bcast_S1x9_S32x9_0_1 (broadcastInDim S1x9 ![1] bcast_S9_S1x9_1 (iotaInDim S9 32 0)))

def chunkIdx : IVec S32x9x1 32 :=
  broadcastInDim S32x9x1 ![0, 1] bcast_S32x9_S32x9x1_0_1 (select (cmpi .slt chunkNo (broadcastInDim S32x9 ![] bcast_S_S32x9 (constantI S_ 32 0#32))) (addi chunkNo (broadcastInDim S32x9 ![] bcast_S_S32x9 (constantI S_ 32 40#32))) chunkNo)

/-- Half of the columns of the keys and values, by stream, chunk, row, head and entry, with eight chunks of zeros before. -/
def padded (x : FVec Ideal S16896x2048 .bf16) : FVec Ideal S8x40x64x16x128 .f32 :=
  pad S8x40x64x16x128 ![0, 8, 0, 0, 0] ![0, 0, 0, 0, 0] ![0, 0, 0, 0, 0] (shapeCast _ (extractStridedSlice S16384x2048 ![0, 0] (extf .f32 x bitsLt_bf16_f32) slices_S16896x2048_S16384x2048_0_0) shapeCasts_S16384x2048_S8x32x64x16x128) (sitofp .f32 (constantI S_ 32 0#32)) pads_S8x32x64x16x128_S8x40x64x16x128_000_800_000_000_000 h_S_

/-- The band of each chunk. -/
def band (x : FVec Ideal S16896x2048 .bf16) : FVec Ideal S8x32x576x16x128 .f32 :=
  shapeCast _ (Host.gather gather_S8x40x64x16x128_S32x9x1_S8x32x9x64x16x128_0345_1_n_n_1_2_816416128 (padded x) chunkIdx) shapeCasts_S8x32x9x64x16x128_S8x32x576x16x128

def keys : FVec Ideal S16896x2048 .bf16 :=
  extractStridedSlice S16896x2048 ![0, 0] (m ((c.tc : Thread nD τ).loc main_arg1)) slices_S16896x4096_S16896x2048_0_0

def vals : FVec Ideal S16896x2048 .bf16 :=
  extractStridedSlice S16896x2048 ![0, 2048] (m ((c.tc : Thread nD τ).loc main_arg1)) slices_S16896x4096_S16896x2048_0_2048

/-- Whether a place of a band lies in the stream. -/
def valid : IVec S32x576 1 :=
  cmpi .sge (addi (broadcastInDim S32x576 ![0, 1] bcast_S32x1_S32x576_0_1 (muli (subi (broadcastInDim S32x1 ![0] bcast_S32_S32x1_0 (iotaInDim S32 32 0)) (broadcastInDim S32x1 ![] bcast_S_S32x1 (constantI S_ 32 8#32))) (broadcastInDim S32x1 ![] bcast_S_S32x1 (constantI S_ 32 64#32)))) (broadcastInDim S32x576 ![0, 1] bcast_S1x576_S32x576_0_1 (broadcastInDim S1x576 ![1] bcast_S576_S1x576_1 (iotaInDim S576 32 0)))) (broadcastInDim S32x576 ![] bcast_S_S32x576 (constantI S_ 32 0#32))

/-- The place of the bias of each row and place of a band. -/
def distNo : IVec S64x576 32 :=
  addi (minsi (broadcastInDim S64x576 ![] bcast_S_S64x576 (id (constantI S_ 32 256#32))) (maxsi (broadcastInDim S64x576 ![] bcast_S_S64x576 (id (constantI S_ 32 4294967040#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 256#32))

def distIdx : IVec S64x576x1 32 :=
  broadcastInDim S64x576x1 ![0, 1] bcast_S64x576_S64x576x1_0_1 (select (cmpi .slt distNo (broadcastInDim S64x576 ![] bcast_S_S64x576 (constantI S_ 32 0#32))) (addi distNo (broadcastInDim S64x576 ![] bcast_S_S64x576 (constantI S_ 32 513#32))) distNo)

def biases : FVec Ideal S16x64x576 .f32 :=
  Host.gather gather_S16x513_S64x576x1_S16x64x576_0_1_n_n_1_2_161 (m ((c.tc : Thread nD τ).loc main_arg2)) distIdx

/-- The scores before the mask. -/
def scores : FVec Ideal S8x32x16x64x576 .f32 :=
  addf (mulf (Host.dotGeneral dot_S8x32x64x16x128_S8x32x576x16x128_S8x32x16x64x576_4_4_2_2_013_013 none (qh m c) (band (keys m c))) (broadcastInDim S8x32x16x64x576 ![] bcast_S_S8x32x16x64x576 (constant S_ .f32 0x3DB504F3#32))) (broadcastInDim S8x32x16x64x576 ![0, 1, 2, 3, 4] bcast_S1x1x16x64x576_S8x32x16x64x576_0_1_2_3_4 (broadcastInDim S1x1x16x64x576 ![2, 3, 4] bcast_S16x64x576_S1x1x16x64x576_2_3_4 (biases m c)))

def masked : FVec Ideal S8x32x16x64x576 .f32 :=
  select (broadcastInDim S8x32x16x64x576 ![0, 1, 2, 3, 4] bcast_S1x32x1x1x576_S8x32x16x64x576_0_1_2_3_4 (broadcastInDim S1x32x1x1x576 ![1, 4] bcast_S32x576_S1x32x1x1x576_1_4 valid)) (scores m c) (broadcastInDim S8x32x16x64x576 ![] bcast_S_S8x32x16x64x576 (id (constant S_ .f32 0xFF800000#32)))

/-- The greatest score of each row, repeated along the row. -/
def tops (s : FVec Ideal S8x32x16x64x576 .f32) : FVec Ideal S8x32x16x64x576 .f32 :=
  broadcastInDim S8x32x16x64x576 ![0, 1, 2, 3, 4] bcast_S8x32x16x64x1_S8x32x16x64x576_0_1_2_3_4 (broadcastInDim S8x32x16x64x1 ![0, 1, 2, 3] bcast_S8x32x16x64_S8x32x16x64x1_0_1_2_3 (maximumf (broadcastInDim S8x32x16x64 ![] bcast_S_S8x32x16x64 (constant S_ .f32 0xFF800000#32)) (Host.reduce FloatOps.maximumf s (constant S_ .f32 0xFF800000#32) reducesTo_S8x32x16x64x576_S8x32x16x64_d4 h_S_)))

def weights (s : FVec Ideal S8x32x16x64x576 .f32) : FVec Ideal S8x32x16x64x576 .f32 :=
  Host.exp (subf s (tops s))

def shares (w : FVec Ideal S8x32x16x64x576 .f32) : FVec Ideal S8x32x16x64x576 .f32 :=
  Host.divf w (broadcastInDim S8x32x16x64x576 ![0, 1, 2, 3, 4] bcast_S8x32x16x64x1_S8x32x16x64x576_0_1_2_3_4 (broadcastInDim S8x32x16x64x1 ![0, 1, 2, 3] bcast_S8x32x16x64_S8x32x16x64x1_0_1_2_3 (Host.reduceAdd w (constant S_ .f32 0x00000000#32) reducesTo_S8x32x16x64x576_S8x32x16x64_d4 h_S_)))

def rows : FVec Ideal S8x32x16x128x64 .f32 :=
  Host.dotGeneral dot_S8x32x576x16x128_S8x32x16x64x576_S8x32x16x128x64_2_4_4_3_013_012 none (band (vals m c)) (shares (weights (masked m c)))

theorem result : Value.res_main_v92 (F := Ideal) m c
    = truncf .bf16 (pad S16896x2048 ![0, 0] ![512, 0] ![0, 0] (shapeCast _ (transpose S8x32x64x16x128 [0, 1, 4, 2, 3] (rows m c) transposes_S8x32x16x128x64_S8x32x64x16x128_0_1_4_2_3) shapeCasts_S8x32x64x16x128_S16384x2048) (sitofp .f32 (constantI S_ 32 0#32)) pads_S16384x2048_S16896x2048_05120_000 h_S_) bitsLt_bf16_f32 := rfl

theorem at_result (q : Fin 16896) (w : Fin 2048) (hq : q.val < 16384) :
    Value.res_main_v92 (F := Ideal) m c (ix2 q w)
      = rows m c (ix5 ⟨q.val / 2048, by omega⟩ ⟨q.val / 64 % 32, by omega⟩ ⟨w.val / 128, by omega⟩ ⟨w.val % 128, by omega⟩ ⟨q.val % 64, by omega⟩) := by
  rw [result]
  pointwise
  exact dif_pos hq

theorem at_reduce (s : FVec Ideal S8x32x16x64x576 .f32) (z : FVec Ideal S_ .f32) (j : S8x32x16x64.Idx) :
    Host.reduce FloatOps.maximumf s z reducesTo_S8x32x16x64x576_S8x32x16x64_d4 h_S_ j
      = Finset.univ.fold max (z (Shape.Idx.first (by decide))) fun k : Fin 576 => s (ix5 (j 0) (j 1) (j 2) (j 3) k) := by
  simp only [pointwise]

theorem least : (Ideal.ofBits FTy.f32 4286578688#32 : EReal) = ⊥ := by rfl

theorem at_spread (a : FVec Ideal S8x32x16x64 .f32) (b : Fin 8) (n : Fin 32) (h : Fin 16) (r : Fin 64) (t : Fin 576) :
    broadcastInDim S8x32x16x64x576 ![0, 1, 2, 3, 4] bcast_S8x32x16x64x1_S8x32x16x64x576_0_1_2_3_4 (broadcastInDim S8x32x16x64x1 ![0, 1, 2, 3] bcast_S8x32x16x64_S8x32x16x64x1_0_1_2_3 (maximumf (broadcastInDim S8x32x16x64 ![] bcast_S_S8x32x16x64 (constant S_ .f32 0xFF800000#32)) a)) (ix5 b n h r t)
      = (max ⊥ (a (ix4 b n h r)) : EReal) := by
  pointwise
  rw [least]

theorem at_tops (s : FVec Ideal S8x32x16x64x576 .f32) (b : Fin 8) (n : Fin 32) (h : Fin 16) (r : Fin 64) (t : Fin 576) :
    tops s (ix5 b n h r t)
      = (max ⊥ (Finset.fold max ⊥ (fun x : Fin 576 => (s (ix5 b n h r x) : EReal)) Finset.univ) : EReal) := by
  unfold tops
  rw [at_spread, at_reduce]
  exact congrArg (fun z : EReal => max ⊥ (Finset.fold max z (fun x : Fin 576 => (s (ix5 b n h r x) : EReal)) Finset.univ)) least

theorem at_weights (s : FVec Ideal S8x32x16x64x576 .f32) (b : Fin 8) (n : Fin 32) (h : Fin 16) (r : Fin 64) (t : Fin 576) :
    weights s (ix5 b n h r t) = (Ideal.exp ((s (ix5 b n h r t) : EReal) - tops s (ix5 b n h r t)) : EReal) := by
  unfold weights
  pointwise

theorem at_shares (w : FVec Ideal S8x32x16x64x576 .f32) (b : Fin 8) (n : Fin 32) (h : Fin 16) (r : Fin 64) (t : Fin 576) :
    shares w (ix5 b n h r t) = (Ideal.div (w (ix5 b n h r t)) (∑ x : Fin 576, (w (ix5 b n h r x) : EReal)) : EReal) := by
  unfold shares
  pointwise

theorem at_dot (v : FVec Ideal S8x32x576x16x128 .f32) (p : FVec Ideal S8x32x16x64x576 .f32) (b : Fin 8) (n : Fin 32) (h : Fin 16) (d : Fin 128) (r : Fin 64) :
    Host.dotGeneral dot_S8x32x576x16x128_S8x32x16x64x576_S8x32x16x128x64_2_4_4_3_013_012 none v p (ix5 b n h d r)
      = (∑ t : Fin 576, v (ix5 b n t h d) * (p (ix5 b n h r t) : EReal) : EReal) := by
  pointwise

theorem at_rows (b : Fin 8) (n : Fin 32) (h : Fin 16) (d : Fin 128) (r : Fin 64) (T : Fin 576 → EReal)
    (hT : ∀ t, masked m c (ix5 b n h r t) = T t) :
    rows m c (ix5 b n h d r)
      = (∑ t, band (vals m c) (ix5 b n t h d) * Ideal.div (Ideal.exp (T t - max ⊥ (Finset.fold max ⊥ T Finset.univ)))
          (∑ t, Ideal.exp (T t - max ⊥ (Finset.fold max ⊥ T Finset.univ))) : EReal) := by
  have hT' : (fun t : Fin 576 => (masked m c (ix5 b n h r t) : EReal)) = T := funext hT
  unfold rows
  rw [at_dot]
  refine Finset.sum_congr (M := EReal) rfl fun t _ => congrArg₂ (fun u v : EReal => u * v) rfl ?_
  rw [at_shares]
  have e : ∀ t, weights (masked m c) (ix5 b n h r t) = (Ideal.exp (T t - max ⊥ (Finset.fold max ⊥ T Finset.univ)) : EReal) := by
    intro t
    rw [at_weights, at_tops, hT', hT]
  rw [e t]
  exact congrArg _ (Finset.sum_congr (M := EReal) rfl fun x _ => e x)

theorem distance (u : ℕ) (hu : u < 768) :
    min (Scalar.select
          (IntOp.cmpi CmpIPredicate.slt
            (IntOp.addi (IntOp.minsi 256#32 (IntOp.maxsi 4294967040#32 (IntOp.subi (BitVec.ofNat 32 u) 128#32))) 256#32) 0#32)
          (IntOp.addi (IntOp.addi (IntOp.minsi 256#32 (IntOp.maxsi 4294967040#32 (IntOp.subi (BitVec.ofNat 32 u) 128#32))) 256#32) 513#32)
          (IntOp.addi (IntOp.minsi 256#32 (IntOp.maxsi 4294967040#32 (IntOp.subi (BitVec.ofNat 32 u) 128#32))) 256#32)).toInt.toNat 512
      = min (u + 128) 512 :=
  (by decide +kernel : ∀ u : Fin 768, min (Scalar.select
          (IntOp.cmpi CmpIPredicate.slt
            (IntOp.addi (IntOp.minsi 256#32 (IntOp.maxsi 4294967040#32 (IntOp.subi (BitVec.ofNat 32 u.val) 128#32))) 256#32) 0#32)
          (IntOp.addi (IntOp.addi (IntOp.minsi 256#32 (IntOp.maxsi 4294967040#32 (IntOp.subi (BitVec.ofNat 32 u.val) 128#32))) 256#32) 513#32)
          (IntOp.addi (IntOp.minsi 256#32 (IntOp.maxsi 4294967040#32 (IntOp.subi (BitVec.ofNat 32 u.val) 128#32))) 256#32)).toInt.toNat 512
      = min (u.val + 128) 512) ⟨u, hu⟩

theorem at_biases (h : Fin 16) (r : Fin 64) (t : Fin 576) :
    biases m c (ix3 h r t) = m ((c.tc : Thread nD τ).loc main_arg2) (ix2 h ⟨min (r.val + 768 - t.val) 512, by omega⟩) := by
  unfold biases
  rw [gather_bias]
  pointwise [distIdx, distNo]
  have e : IntOp.subi (IntOp.addi (BitVec.ofNat 32 r.val) 512#32) (BitVec.ofNat 32 t.val) = IntOp.subi (BitVec.ofNat 32 (r.val + 640 - t.val)) 128#32 := by
    have := r.isLt
    have := t.isLt
    unfold IntOp.subi IntOp.addi
    bv_omega
  simp only [e]
  have := t.isLt
  have := r.isLt
  refine congrArg (fun z => m ((c.tc : Thread nD τ).loc main_arg2) (ix2 h z)) (Fin.ext ?_)
  refine (distance (r.val + 640 - t.val) (by omega)).trans ?_
  show min _ _ = min _ _
  omega

theorem at_qh (b : Fin 8) (n : Fin 32) (r : Fin 64) (h : Fin 16) (e : Fin 128) :
    qh m c (ix5 b n r h e) = m ((c.tc : Thread nD τ).loc main_arg0) (ix2 ⟨b.val * 2048 + n.val * 64 + r.val, by omega⟩ ⟨h.val * 128 + e.val, by omega⟩) := by
  pointwise [qh]

theorem number (v : ℕ) (hv : v < 40) :
    min (Scalar.select (IntOp.cmpi CmpIPredicate.slt (BitVec.ofNat 32 v) 0#32) (IntOp.addi (BitVec.ofNat 32 v) 40#32) (BitVec.ofNat 32 v)).toInt.toNat 39 = v :=
  (by decide +kernel : ∀ v : Fin 40, min (Scalar.select (IntOp.cmpi CmpIPredicate.slt (BitVec.ofNat 32 v.val) 0#32) (IntOp.addi (BitVec.ofNat 32 v.val) 40#32) (BitVec.ofNat 32 v.val)).toInt.toNat 39 = v.val) ⟨v, hv⟩

theorem at_chunkIdx (n : Fin 32) (u : Fin 9) : min (chunkIdx (ix3 n u 0)).toInt.toNat 39 = n.val + u.val := by
  pointwise [chunkIdx, chunkNo]
  have e : IntOp.addi (BitVec.ofNat 32 n.val) (BitVec.ofNat 32 u.val) = BitVec.ofNat 32 (n.val + u.val) := (BitVec.ofNat_add _ _).symm
  simp only [e]
  exact number _ (by omega)

theorem at_band (x : FVec Ideal S16896x2048 .bf16) (b : Fin 8) (n : Fin 32) (t : Fin 576) (h : Fin 16) (e : Fin 128) (hn : 512 ≤ n.val * 64 + t.val) :
    band x (ix5 b n t h e) = x (ix2 ⟨b.val * 2048 + (n.val * 64 + t.val - 512), by omega⟩ ⟨h.val * 128 + e.val, by omega⟩) := by
  pointwise [band]
  rw [gather_band]
  have hk : (⟨min (chunkIdx (ix3 n ⟨t.val / 64, by omega⟩ 0)).toInt.toNat 39, by omega⟩ : Fin 40) = ⟨n.val + t.val / 64, by omega⟩ :=
    Fin.ext (at_chunkIdx _ _)
  rw [hk]
  pointwise [padded]
  refine (dif_pos ⟨⟨by omega, by omega⟩, by omega⟩).trans ?_
  refine congrArg (fun z => x (ix2 z _)) (Fin.ext ?_)
  dsimp only
  omega

theorem inside (v : ℕ) (hv : v < 2624) :
    IntOp.cmpi CmpIPredicate.sge (IntOp.subi (BitVec.ofNat 32 v) 512#32) 0#32 = if 512 ≤ v then 1#1 else 0#1 :=
  (by decide +kernel : ∀ v : Fin 2624, IntOp.cmpi CmpIPredicate.sge (IntOp.subi (BitVec.ofNat 32 v.val) 512#32) 0#32 = if 512 ≤ v.val then 1#1 else 0#1) ⟨v, hv⟩

theorem at_masked (b : Fin 8) (n : Fin 32) (h : Fin 16) (r : Fin 64) (t : Fin 576) :
    masked m c (ix5 b n h r t)
      = if hn : 512 ≤ n.val * 64 + t.val then
          ((∑ e : Fin 128, (show EReal from m ((c.tc : Thread nD τ).loc main_arg0) (ix2 ⟨b.val * 2048 + n.val * 64 + r.val, by omega⟩ ⟨h.val * 128 + e.val, by omega⟩))
              * (show EReal from m ((c.tc : Thread nD τ).loc main_arg1) (ix2 ⟨b.val * 2048 + (n.val * 64 + t.val - 512), by omega⟩ ⟨h.val * 128 + e.val, by omega⟩)))
            * Ideal.ofBits FTy.f32 1035273459#32
            + (show EReal from m ((c.tc : Thread nD τ).loc main_arg2) (ix2 h ⟨min (r.val + 768 - t.val) 512, by omega⟩)) : EReal)
        else ⊥ := by
  pointwise [masked, scores, valid]
  have := n.isLt
  have := t.isLt
  have e : IntOp.addi (IntOp.muli (IntOp.subi (BitVec.ofNat 32 n.val) 8#32) 64#32) (BitVec.ofNat 32 t.val) = IntOp.subi (BitVec.ofNat 32 (n.val * 64 + t.val)) 512#32 := by
    unfold IntOp.subi IntOp.addi IntOp.muli
    bv_omega
  rw [e, inside _ (by omega)]
  by_cases hn : 512 ≤ n.val * 64 + t.val
  · rw [if_pos hn, dif_pos hn, at_biases]
    refine congrArg (fun z : EReal => z * _ + _) (Finset.sum_congr (M := EReal) rfl fun x _ => ?_)
    rw [at_qh, at_band _ _ _ _ _ _ hn]
    pointwise [keys]
  · rw [if_neg hn, dif_neg hn]
    rfl

/-- One entry of the reference's result: the values of the band weighed by the softmax of the masked scores. -/
theorem ref_out (q : Fin 16896) (w : Fin 2048) (hq : q.val < 16384) (T W : Fin 576 → EReal)
    (hT : ∀ t, masked m c (ix5 ⟨q.val / 2048, by omega⟩ ⟨q.val / 64 % 32, by omega⟩ ⟨w.val / 128, by omega⟩ ⟨q.val % 64, by omega⟩ t) = T t)
    (hW : ∀ t, band (vals m c) (ix5 ⟨q.val / 2048, by omega⟩ ⟨q.val / 64 % 32, by omega⟩ t ⟨w.val / 128, by omega⟩ ⟨w.val % 128, by omega⟩) = W t) :
    Value.res_main_v92 (F := Ideal) m c (ix2 q w)
      = (∑ t, W t * Ideal.div (Ideal.exp (T t - max ⊥ (Finset.fold max ⊥ T Finset.univ)))
          (∑ t, Ideal.exp (T t - max ⊥ (Finset.fold max ⊥ T Finset.univ))) : EReal) := by
  rw [at_result m c q w hq, at_rows m c _ _ _ _ _ T hT]
  exact Finset.sum_congr (M := EReal) rfl fun t _ => congrArg (fun z : EReal => z * _) (hW t)

end Cert.AttnRefIdeal.Block

end
-- ==== Proof.SoftmaxBand.lean ====
/-
  A softmax over a band of keys: the weighted sum of the values divided at the end by the sum of the weights equals
  the sum of the values weighted by the normalised weights, where the band is a window of a longer row whose other
  scores are −∞.
-/
module

public import Idealize.ShloMosaic.Lib.Pipeline.ValueKit
public import Idealize.ShloMosaic.Lib.Claim

@[expose] public section

noncomputable section

open Idealize.ShloMosaic

namespace Cert.Band

/-- A sum of extended reals times a nonnegative real is the sum of the products. -/
theorem sum_mul_real {n : ℕ} (f : Fin n → EReal) (s : Finset (Fin n)) (r : ℝ) (hr : 0 ≤ r) :
    (∑ t ∈ s, f t) * (r : EReal) = ∑ t ∈ s, f t * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A sum of reals, taken among the extended reals. -/
theorem coe_sum_real {n : ℕ} (f : Fin n → ℝ) (s : Finset (Fin n)) :
    ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-- The greatest of a row of scores, as both programs compute it, is the row's supremum. -/
theorem fold_max_eq_sup {n : ℕ} (f : Fin n → EReal) :
    Finset.fold max (⊥ : EReal) f Finset.univ = Finset.univ.sup f := rfl

/-- The softmax of a row `S` of scores that is `T` on a window and −∞ elsewhere, applied to the values `V`: dividing
    the weighted sum by the sum of the weights is summing the window's values with the normalised weights. -/
theorem softmax_window {n k : ℕ} (e : Fin k → Fin n) (he : Function.Injective e) (S V : Fin n → EReal)
    (T W : Fin k → EReal) (hS : ∀ t, S (e t) = T t) (hout : ∀ j, j ∉ Set.range e → S j = ⊥)
    (hV : ∀ t, T t ≠ ⊥ → V (e t) = W t) (htop : ∀ t, T t ≠ ⊤) (hsome : ∃ t, T t ≠ ⊥) :
    Ideal.div (∑ j, Ideal.exp (S j - Finset.fold max (⊥ : EReal) S Finset.univ) * V j)
        (∑ j, Ideal.exp (S j - Finset.fold max (⊥ : EReal) S Finset.univ))
      = ∑ t, W t * Ideal.div (Ideal.exp (T t - max ⊥ (Finset.fold max (⊥ : EReal) T Finset.univ)))
          (∑ t, Ideal.exp (T t - max ⊥ (Finset.fold max (⊥ : EReal) T Finset.univ))) := by
  have hM : Finset.fold max (⊥ : EReal) S Finset.univ = max ⊥ (Finset.fold max (⊥ : EReal) T Finset.univ) := by
    rw [fold_max_eq_sup, fold_max_eq_sup, max_eq_right bot_le]
    apply le_antisymm
    · refine Finset.sup_le fun j _ => ?_
      by_cases hj : j ∈ Set.range e
      · obtain ⟨t, rfl⟩ := hj
        rw [hS t]
        exact Finset.le_sup (Finset.mem_univ t)
      · rw [hout j hj]
        exact bot_le
    · refine Finset.sup_le fun t _ => ?_
      rw [← hS t]
      exact Finset.le_sup (Finset.mem_univ (e t))
  rw [hM]
  have hMr : ∃ M : ℝ, max ⊥ (Finset.fold max (⊥ : EReal) T Finset.univ) = (M : EReal) := by
    rw [fold_max_eq_sup, max_eq_right bot_le]
    obtain ⟨t1, ht1⟩ := hsome
    have : (Finset.univ : Finset (Fin k)).Nonempty := ⟨t1, Finset.mem_univ t1⟩
    obtain ⟨t0, -, ht0⟩ := Finset.exists_mem_eq_sup Finset.univ this T
    have hb : Finset.univ.sup T ≠ ⊥ := fun h0 => ht1 (le_bot_iff.mp (h0 ▸ Finset.le_sup (Finset.mem_univ t1)))
    refine ⟨(Finset.univ.sup T).toReal, (EReal.coe_toReal ?_ hb).symm⟩
    rw [ht0]
    exact htop t0
  obtain ⟨M, hMr⟩ := hMr
  rw [hMr]
  have hE : ∀ t, ∃ w : ℝ, 0 ≤ w ∧ Ideal.exp (T t - (M : EReal)) = (w : EReal) ∧ (T t ≠ ⊥ → 0 < w) ∧ (T t = ⊥ → w = 0) := by
    intro t
    by_cases hb : T t = ⊥
    · refine ⟨0, le_rfl, ?_, fun h => absurd hb h, fun _ => rfl⟩
      rw [hb, EReal.bot_sub]
      exact EReal.coe_zero.symm ▸ rfl
    · refine ⟨Real.exp ((T t).toReal - M), (Real.exp_pos _).le, ?_, fun _ => Real.exp_pos _, fun h => absurd h hb⟩
      conv_lhs => rw [← EReal.coe_toReal (htop t) hb, ← EReal.coe_sub]
      rfl
  choose w hw0 hw hwpos hwz using hE
  have hl : (∑ t, Ideal.exp (T t - (M : EReal))) = ((∑ t, w t : ℝ) : EReal) := by
    rw [coe_sum_real]
    exact Finset.sum_congr rfl fun t _ => hw t
  have hpos : 0 < ∑ t, w t := by
    obtain ⟨t1, ht1⟩ := hsome
    exact Finset.sum_pos' (fun t _ => hw0 t) ⟨t1, Finset.mem_univ t1, hwpos t1 ht1⟩
  have hout' : ∀ j, j ∉ Set.range e → Ideal.exp (S j - (M : EReal)) = 0 := by
    intro j hj
    rw [hout j hj, EReal.bot_sub]
    rfl
  have s1 : (∑ j, Ideal.exp (S j - (M : EReal))) = ∑ t, Ideal.exp (T t - (M : EReal)) :=
    (Finset.sum_of_injOn e he.injOn (fun _ _ => Finset.mem_coe.mpr (Finset.mem_univ _))
      (fun j _ hj => hout' j (by simpa using hj)) (fun t _ => by rw [hS t])).symm
  have s2 : (∑ j, Ideal.exp (S j - (M : EReal)) * V j) = ∑ t, Ideal.exp (T t - (M : EReal)) * W t :=
    (Finset.sum_of_injOn e he.injOn (fun _ _ => Finset.mem_coe.mpr (Finset.mem_univ _))
      (fun j _ hj => by rw [hout' j (by simpa using hj), zero_mul])
      (fun t _ => by
        by_cases hb : T t = ⊥
        · rw [hS t, hw t, hwz t hb, EReal.coe_zero, zero_mul, zero_mul]
        · rw [hS t, hV t hb])).symm
  rw [s1, s2, hl]
  have hne : ((∑ t, w t : ℝ) : EReal) ≠ 0 := by
    exact_mod_cast hpos.ne'
  unfold Ideal.div
  rw [if_neg hne, ← EReal.coe_inv, sum_mul_real _ _ _ (inv_nonneg.mpr hpos.le)]
  refine Finset.sum_congr rfl fun t _ => ?_
  rw [if_neg hne, mul_comm (Ideal.exp (T t - (M : EReal))) (W t), mul_assoc]

end Cert.Band

end
-- ==== Proof.AttnValue.lean ====
/-
  The prompt's attention call and its reference agree on the rows of the prompt: the call's softmax over the window of
  five blocks is the reference's over the band of nine chunks, the window's other places scoring −∞.
-/
module

public import proofs.«01_k».proof.Proof.AttnRows
public import proofs.«01_k».proof.Proof.AttnRefBand
public import proofs.«01_k».proof.Proof.SoftmaxBand
public import proofs.«01_k».proof.Pre_finite_scores
public import proofs.«01_k».proof.On_prompt_rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pre_finite_scores.Read

open Cert.Pre_finite_scores

variable [Cert.Pre_finite_scores.Facts]

/-- An extended real whose absolute value is below +∞ is a real. -/
theorem real_of (z : EReal) (h : BitVec.ofBool (decide (max z (-z) < Ideal.ofBits FTy.f32 2139095040#32)) = 1#1) : ∃ x : ℝ, z = (x : EReal) := by
  have e : Ideal.ofBits FTy.f32 2139095040#32 = (⊤ : EReal) := by rfl
  rw [e] at h
  induction z with
  | bot => simp at h
  | coe x => exact ⟨x, rfl⟩
  | top => simp at h

/-- The queries are reals. -/
theorem queries (a : FVec Ideal S16896x7168 .bf16) (b : FVec Ideal S16896x4096 .bf16) (d : FVec Ideal S16x513 .f32)
    (h : (fn a b d).1 = fun _ => 1#1) (r : Fin 16896) (k : Fin 2048) : ∃ x : ℝ, a (ix2 r ⟨k.val, by omega⟩) = (x : EReal) := by
  have h' := congrFun h (ix2 r k)
  revert h'
  pointwise [fn]
  exact fun h' => real_of _ h'

/-- The keys are reals. -/
theorem keys (a : FVec Ideal S16896x7168 .bf16) (b : FVec Ideal S16896x4096 .bf16) (d : FVec Ideal S16x513 .f32)
    (h : (fn a b d).2.1 = fun _ => 1#1) (r : Fin 16896) (k : Fin 2048) : ∃ x : ℝ, b (ix2 r ⟨k.val, by omega⟩) = (x : EReal) := by
  have h' := congrFun h (ix2 r k)
  revert h'
  pointwise [fn]
  exact fun h' => real_of _ h'

/-- The bias is real. -/
theorem biases (a : FVec Ideal S16896x7168 .bf16) (b : FVec Ideal S16896x4096 .bf16) (d : FVec Ideal S16x513 .f32)
    (h : (fn a b d).2.2 = fun _ => 1#1) (r : Fin 16) (k : Fin 513) : ∃ x : ℝ, d (ix2 r k) = (x : EReal) := by
  have h' := congrFun h (ix2 r k)
  revert h'
  pointwise [fn]
  exact fun h' => real_of _ h'

/-- The scale is real. -/
theorem scale : ∃ x : ℝ, Ideal.ofBits FTy.f32 1035273459#32 = (x : EReal) := by
  rw [show Ideal.ofBits FTy.f32 1035273459#32 = Ideal.ieee 8 23 1035273459#32 from rfl]
  unfold Ideal.ieee
  dsimp only
  rw [if_neg (by decide), if_neg (by decide)]
  exact ⟨_, rfl⟩

/-- The entries that the claim speaks of lie in the rows of the prompt. -/
theorem prompt [Cert.On_prompt_rows.Facts] (a : FVec Ideal S16896x7168 .bf16) (b : FVec Ideal S16896x4096 .bf16) (d : FVec Ideal S16x513 .f32)
    (i : S16896x2048.Idx) (h : Cert.On_prompt_rows.fn a b d i = 1#1) : (i 0).val < 16384 := by
  revert h
  pointwise [Cert.On_prompt_rows.fn]
  exact (by decide +kernel : ∀ r : Fin 16896, IntOp.cmpi CmpIPredicate.slt (BitVec.ofNat 32 r.val) 16384#32 = 1#1 → r.val < 16384) (i 0)

end Cert.Pre_finite_scores.Read

namespace Cert.Band

/-- A score of reals is real. -/
theorem score_real (q k : Fin 128 → EReal) (s b : EReal) (hq : ∀ e, ∃ x : ℝ, q e = (x : EReal)) (hk : ∀ e, ∃ x : ℝ, k e = (x : EReal))
    (hs : ∃ x : ℝ, s = (x : EReal)) (hb : ∃ x : ℝ, b = (x : EReal)) : ∃ x : ℝ, (∑ e, q e * k e) * s + b = (x : EReal) := by
  choose q' hq' using hq
  choose k' hk' using hk
  obtain ⟨s', rfl⟩ := hs
  obtain ⟨b', rfl⟩ := hb
  refine ⟨(∑ e, q' e * k' e) * s' + b', ?_⟩
  rw [EReal.coe_add, EReal.coe_mul, coe_sum_real]
  simp only [hq', hk', EReal.coe_mul]

end Cert.Band

namespace Cert.AttnIdeal.Block

open Cert.AttnIdeal Cert.AttnIdeal.Gen

variable (m : (ℓ : Loc nD τ sig) → Buf (Elt Ideal) ℓ)

/-- The grid point that writes a row. -/
def pointOf (r : Fin 16896) : Fin cfg0.N := ⟨r.val / 128 % 128, by have : cfg0.N = 128 := N_0; omega⟩

/-- The output array on the rows of the prompt. -/
def G (c : Dev nD) : S16896x2048.Idx → EReal := fun i => cell m c (pointOf (i 0)) (ix2 ⟨(i 0).val % 128, by omega⟩ (i 1))

theorem arr12 (c : Dev nD) : (dats m 0 c).arrAt 12 cfg0.N =
    fun i => if (i 0 : ℕ) < 16384 then G m c i else (dats m 0 c).A 12 i := by
  refine (dats m 0 c).arrAt_eq_of_coversWhere 12 _ (fun β => β 0 < 128) (by decide +kernel) (fun t hf y => ?_)
    (fun j => by blk_simp [Pipeline.Window.cell_apply]; omega)
  blk_simp
  have e0 : ((View.whole main_v34).slice (win0_12.rect t)).emb y = ix2 (row t (y 0)) (y 1) := by
    blk_ext [idx t, row]
  refine (block m c t y).trans (Eq.trans ?_ (congrArg (G m c) e0).symm)
  have ht := point_lt t
  have hy : (y 0).val < 128 := (y 0).isLt
  have e1 : pointOf (row t (y 0)) = t := Fin.ext (by show (t.val * 128 + (y 0).val) / 128 % 128 = t.val; omega)
  have e2 : (⟨(row t (y 0)).val % 128, by omega⟩ : Fin 128) = y 0 := Fin.ext (by show (t.val * 128 + (y 0).val) % 128 = (y 0).val; omega)
  show cell m c t y = cell m c (pointOf (row t (y 0))) (ix2 ⟨(row t (y 0)).val % 128, by omega⟩ (y 1))
  rw [e1, e2]
  exact congrArg (cell m c t) (ix2_eta y).symm

end Cert.AttnIdeal.Block

namespace Cert.AttnRefIdeal.Block

open Cert.AttnRefIdeal Cert.AttnRefIdeal.Gen
open Cert.AttnIdeal.Block (G pointOf wrow krow)

variable [Cert.Pre_finite_scores.Facts]

/-- The place of the window at which a place of the band of a row stands. -/
def place (r : Fin 128) (t : Fin 576) : Fin 640 := ⟨r.val / 64 * 64 + t.val, by omega⟩

/-- The row of a key of the band, found from the window. -/
theorem window_row (q : Fin 16896) (t : Fin 576) (hq : q.val < 16384) (hv : 512 ≤ q.val / 64 % 32 * 64 + t.val) :
    wrow (pointOf q) (place ⟨q.val % 128, by omega⟩ t)
      = (⟨q.val / 2048 * 2048 + (q.val / 64 % 32 * 64 + t.val - 512), by omega⟩ : Fin 16896) := by
  refine Fin.ext ?_
  have ht := t.isLt
  show max (q.val / 128 % 128 + (q.val % 128 / 64 * 64 + t.val) / 128 - 4) (q.val / 128 % 128 / 16 * 16) * 128 + (q.val % 128 / 64 * 64 + t.val) % 128
    = q.val / 2048 * 2048 + (q.val / 64 % 32 * 64 + t.val - 512)
  omega

theorem some_of {T : Fin 576 → EReal} (P : Fin 576 → Prop) (t0 : Fin 576) (h0 : P t0) (h : ∀ t, P t → T t ≠ ⊥) : ∃ t, T t ≠ ⊥ := ⟨t0, h t0 h0⟩

set_option maxHeartbeats 1000000 in
/-- The reference's entry is the call's. -/
theorem same (m : (ℓ : Loc nD τ sig) → Buf (Elt Ideal) ℓ) (m' : (ℓ : Loc Cert.AttnIdeal.nD Cert.AttnIdeal.τ Cert.AttnIdeal.sig) → Buf (Elt Ideal) ℓ)
    (c : Dev nD)
    (a0 : m ((c.tc : Thread nD τ).loc main_arg0) = m' ((c.tc : Thread Cert.AttnIdeal.nD Cert.AttnIdeal.τ).loc Cert.AttnIdeal.main_arg0))
    (a1 : m ((c.tc : Thread nD τ).loc main_arg1) = m' ((c.tc : Thread Cert.AttnIdeal.nD Cert.AttnIdeal.τ).loc Cert.AttnIdeal.main_arg1))
    (a2 : m ((c.tc : Thread nD τ).loc main_arg2) = m' ((c.tc : Thread Cert.AttnIdeal.nD Cert.AttnIdeal.τ).loc Cert.AttnIdeal.main_arg2))
    (f0 : (Cert.Pre_finite_scores.fn (F := Ideal) (m' ((c.tc : Thread Cert.AttnIdeal.nD Cert.AttnIdeal.τ).loc Cert.AttnIdeal.main_arg0)) (m' ((c.tc : Thread Cert.AttnIdeal.nD Cert.AttnIdeal.τ).loc Cert.AttnIdeal.main_arg1)) (m' ((c.tc : Thread Cert.AttnIdeal.nD Cert.AttnIdeal.τ).loc Cert.AttnIdeal.main_arg2))).1 = (fun _ => 1#1))
    (f1 : (Cert.Pre_finite_scores.fn (F := Ideal) (m' ((c.tc : Thread Cert.AttnIdeal.nD Cert.AttnIdeal.τ).loc Cert.AttnIdeal.main_arg0)) (m' ((c.tc : Thread Cert.AttnIdeal.nD Cert.AttnIdeal.τ).loc Cert.AttnIdeal.main_arg1)) (m' ((c.tc : Thread Cert.AttnIdeal.nD Cert.AttnIdeal.τ).loc Cert.AttnIdeal.main_arg2))).2.1 = (fun _ => 1#1))
    (f2 : (Cert.Pre_finite_scores.fn (F := Ideal) (m' ((c.tc : Thread Cert.AttnIdeal.nD Cert.AttnIdeal.τ).loc Cert.AttnIdeal.main_arg0)) (m' ((c.tc : Thread Cert.AttnIdeal.nD Cert.AttnIdeal.τ).loc Cert.AttnIdeal.main_arg1)) (m' ((c.tc : Thread Cert.AttnIdeal.nD Cert.AttnIdeal.τ).loc Cert.AttnIdeal.main_arg2))).2.2 = (fun _ => 1#1))
    (q : Fin 16896) (w : Fin 2048) (hq : q.val < 16384) :
    Value.res_main_v92 (F := Ideal) m c (ix2 q w) = G m' c (ix2 q w) := by
  rw [ref_out m c q w hq _ _ (fun t => at_masked m c _ _ _ _ t) (fun t => rfl), a0, a1, a2]
  have hw := w.isLt
  have hn : q.val / 64 % 32 = 2 * (q.val / 128 % 128 % 16) + q.val % 128 / 64 := by omega
  have hreal : ∀ (h : Fin 16) (r k : Fin 16896) (i : Fin 513), ∃ x : ℝ, (∑ e : Fin 128, (show EReal from m' ((c.tc : Thread Cert.AttnIdeal.nD Cert.AttnIdeal.τ).loc Cert.AttnIdeal.main_arg0) (ix2 r ⟨h.val * 128 + e.val, by omega⟩))
      * (show EReal from m' ((c.tc : Thread Cert.AttnIdeal.nD Cert.AttnIdeal.τ).loc Cert.AttnIdeal.main_arg1) (ix2 k ⟨h.val * 128 + e.val, by omega⟩))) * Ideal.ofBits FTy.f32 1035273459#32
      + (show EReal from m' ((c.tc : Thread Cert.AttnIdeal.nD Cert.AttnIdeal.τ).loc Cert.AttnIdeal.main_arg2) (ix2 h i)) = (x : EReal) :=
    fun h r k i => Cert.Band.score_real _ _ _ _ (fun e => Cert.Pre_finite_scores.Read.queries _ _ _ f0 r ⟨h.val * 128 + e.val, by omega⟩)
      (fun e => Cert.Pre_finite_scores.Read.keys _ _ _ f1 k ⟨h.val * 128 + e.val, by omega⟩) Cert.Pre_finite_scores.Read.scale
      (Cert.Pre_finite_scores.Read.biases _ _ _ f2 h i)
  refine (Cert.Band.softmax_window (place ⟨q.val % 128, by omega⟩) ?_ _ _ _ _ ?_ ?_ ?_ ?_ ?_).symm
  · intro x y h
    have := congrArg Fin.val h
    simp only [place] at this
    exact Fin.ext (by omega)
  · intro t
    have ht := t.isLt
    show Cert.AttnIdeal.Block.score m' c (pointOf q) ⟨w.val / 128, by omega⟩ ⟨q.val % 128, by omega⟩ (place ⟨q.val % 128, by omega⟩ t) = _
    unfold Cert.AttnIdeal.Block.score
    rw [if_pos (by simp only [place]; omega)]
    have hp : (pointOf q).val = q.val / 128 % 128 := rfl
    have hl : (place ⟨q.val % 128, by omega⟩ t).val = q.val % 128 / 64 * 64 + t.val := rfl
    by_cases hv : 512 ≤ q.val / 64 % 32 * 64 + t.val
    · rw [if_pos (by rw [hp, hl]; omega), dif_pos hv, add_zero]
      refine congrArg₂ (fun u v : EReal => u + v) (congrArg (fun u : EReal => u * _) (Finset.sum_congr (M := EReal) rfl fun e _ => congrArg₂ (fun u v : EReal => u * v) ?_ ?_)) ?_
      · refine congrArg (fun z => m' ((c.tc : Thread Cert.AttnIdeal.nD Cert.AttnIdeal.τ).loc Cert.AttnIdeal.main_arg0) (ix2 z _)) (Fin.ext ?_)
        show q.val / 128 % 128 * 128 + q.val % 128 = _
        dsimp only
        omega
      · exact congrArg (fun z => m' ((c.tc : Thread Cert.AttnIdeal.nD Cert.AttnIdeal.τ).loc Cert.AttnIdeal.main_arg1) (ix2 z _)) (window_row q t hq hv)
      · refine congrArg (fun z => m' ((c.tc : Thread Cert.AttnIdeal.nD Cert.AttnIdeal.τ).loc Cert.AttnIdeal.main_arg2) (ix2 _ z)) (Fin.ext ?_)
        dsimp only
        rw [hl]
        omega
    · rw [if_neg (by rw [hp, hl]; omega), dif_neg hv, EReal.add_bot]
  · intro j hj
    show Cert.AttnIdeal.Block.score m' c (pointOf q) ⟨w.val / 128, by omega⟩ ⟨q.val % 128, by omega⟩ j = _
    unfold Cert.AttnIdeal.Block.score
    rw [if_neg, EReal.add_bot, EReal.bot_add]
    intro hb
    have hj' := j.isLt
    refine hj ⟨⟨j.val - q.val % 128 / 64 * 64, by dsimp only at hb; omega⟩, Fin.ext ?_⟩
    simp only [place]
    dsimp only at hb
    omega
  · intro t ht
    have hv : 512 ≤ q.val / 64 % 32 * 64 + t.val := by
      by_contra hv
      exact ht (dif_neg hv)
    rw [at_band (vals m c) ⟨q.val / 2048, by omega⟩ ⟨q.val / 64 % 32, by omega⟩ t ⟨w.val / 128, by omega⟩ ⟨w.val % 128, by omega⟩ hv]
    show Cert.AttnIdeal.Block.value m' c (pointOf q) ⟨w.val / 128, by omega⟩ ⟨w.val % 128, by omega⟩ (place ⟨q.val % 128, by omega⟩ t) = _
    unfold Cert.AttnIdeal.Block.value
    pointwise [vals]
    rw [a1]
    exact congrArg (fun z => m' ((c.tc : Thread Cert.AttnIdeal.nD Cert.AttnIdeal.τ).loc Cert.AttnIdeal.main_arg1) (ix2 z _)) (window_row q t hq hv)
  · intro t
    dsimp only
    split
    · rename_i hv
      obtain ⟨x, hx⟩ := hreal ⟨w.val / 128, by omega⟩ ⟨q.val / 2048 * 2048 + q.val / 64 % 32 * 64 + q.val % 64, by omega⟩ ⟨q.val / 2048 * 2048 + (q.val / 64 % 32 * 64 + t.val - 512), by omega⟩ ⟨min (q.val % 64 + 768 - t.val) 512, by omega⟩
      exact fun h => EReal.coe_ne_top x (hx.symm.trans h)
    · exact bot_ne_top
  · refine some_of (fun t => 512 ≤ q.val / 64 % 32 * 64 + t.val) ⟨512 + q.val % 64, by omega⟩ (by dsimp only; omega) fun t hv => ?_
    dsimp only
    rw [dif_pos hv]
    obtain ⟨x, hx⟩ := hreal ⟨w.val / 128, by omega⟩ ⟨q.val / 2048 * 2048 + q.val / 64 % 32 * 64 + q.val % 64, by omega⟩ ⟨q.val / 2048 * 2048 + (q.val / 64 % 32 * 64 + t.val - 512), by omega⟩ ⟨min (q.val % 64 + 768 - t.val) 512, by omega⟩
    exact fun h => EReal.coe_ne_bot x (hx.symm.trans h)

end Cert.AttnRefIdeal.Block

end
-- ==== Proof.ConvRows.lean ====
/- Reading rows of a buffer made of two blocks of rows, one above the other. -/
module

public import Idealize.ShloMosaic.Lib.Pipeline.ValueKit
public import Idealize.ShloMosaic.Lib.ValueIdx
public import Idealize.ShloMosaic.Lib.Pointwise
public import Idealize.ShloMosaic.PureOps.Ideal
@[expose] public section

set_option maxRecDepth 16384

noncomputable section

open Idealize.ShloMosaic Idealize.ShloMosaic.TcCoe Idealize.SL.Sem

namespace Cert.Conv

/-- A buffer of H rows whose first a rows are one block and whose next b rows are another, both agreeing with f: what is read of its rows is f's. -/
theorem read_two {sig : RefSig} {κ : Kind} {sp : Space} {H w a b o r : ℕ} (hH : H = a + b) (v : View sig κ sp ⟨2, ![H, w]⟩ .f32)
    (inbHi : ∀ i, (![a, 0] : Fin 2 → ℕ) i + (![b, w] : Fin 2 → ℕ) i ≤ (⟨2, ![H, w]⟩ : Shape).size i)
    (inbLo : ∀ i, (![0, 0] : Fin 2 → ℕ) i + (![a, w] : Fin 2 → ℕ) i ≤ (⟨2, ![H, w]⟩ : Shape).size i)
    (inb : ∀ i, (![o, 0] : Fin 2 → ℕ) i + (![r, w] : Fin 2 → ℕ) i ≤ (⟨2, ![H, w]⟩ : Shape).size i)
    (hi : (⟨2, ![b, w]⟩ : Shape).Idx → EReal) (lo : (⟨2, ![a, w]⟩ : Shape).Idx → EReal) (f : ℕ → Fin w → EReal)
    (hlo : ∀ (j : Fin a) (k : Fin w), lo (ix2 j k) = f j.val k) (hhi : ∀ (j : Fin b) (k : Fin w), hi (ix2 j k) = f (a + j.val) k)
    (x : Fin r) (k : Fin w) :
    v.readCov (Val := Elt Ideal) [⟨Rect.unit (s := ⟨2, ![H, w]⟩) ![a, 0] ![b, w] inbHi, hi⟩, ⟨Rect.unit (s := ⟨2, ![H, w]⟩) ![0, 0] ![a, w] inbLo, lo⟩]
      (Rect.unit (s := ⟨2, ![H, w]⟩) ![o, 0] ![r, w] inb).toLoadRect (ix2 x k) = f (o + x.val) k := by
  subst hH
  rw [View.readCov_eq_canon']
  have hx : o + x.val < a + b := by have h0 := inb 0; have := x.isLt; simp at h0; omega
  have e : (Rect.unit (s := ⟨2, ![a + b, w]⟩) ![o, 0] ![r, w] inb).toLoadRect.idx (ix2 x k) = ix2 ⟨o + x.val, hx⟩ k := by
    funext i; refine Fin.ext ?_; match i with | ⟨0, _⟩ => simp [Rect.unit] | ⟨1, _⟩ => simp [Rect.unit]
  dsimp only
  rw [e]
  by_cases h : o + x.val < a
  · rw [View.canon_cons_of_not_mem]
    · have e2 : (ix2 ⟨o + x.val, hx⟩ k : (⟨2, ![a + b, w]⟩ : Shape).Idx) =
          (Rect.unit (s := ⟨2, ![a + b, w]⟩) ![0, 0] ![a, w] inbLo).emb (ix2 ⟨o + x.val, h⟩ k) := by
        funext i; refine Fin.ext ?_
        match i with
        | ⟨0, _⟩ => show o + x.val = 0 + 1 * (o + x.val); omega
        | ⟨1, _⟩ => show k.val = 0 + 1 * k.val; omega
      rw [e2, View.canon_cons_emb]
      exact hlo _ _
    · intro hm
      have := (LoadRect.mem_set _).mp hm 0
      simp [Rect.unit] at this
      omega
  · have hb : o + x.val - a < b := by omega
    have e2 : (ix2 ⟨o + x.val, hx⟩ k : (⟨2, ![a + b, w]⟩ : Shape).Idx) =
        (Rect.unit (s := ⟨2, ![a + b, w]⟩) ![a, 0] ![b, w] inbHi).emb (ix2 ⟨o + x.val - a, hb⟩ k) := by
      funext i; refine Fin.ext ?_
      match i with
      | ⟨0, _⟩ => show o + x.val = a + 1 * (o + x.val - a); omega
      | ⟨1, _⟩ => show k.val = 0 + 1 * k.val; omega
    rw [e2, View.canon_cons_emb, hhi]
    show f (a + (o + x.val - a)) k = f (o + x.val) k
    rw [show a + (o + x.val - a) = o + x.val from by omega]

/-- The rows mixer B convolves in sample b: the two kept from before, then the products of the gate and the hidden rows of the sample. -/
def sampleB (Z : (⟨2, ![16896, 7168]⟩ : Shape).Idx → EReal) (H : (⟨3, ![16, 2, 1024]⟩ : Shape).Idx → EReal) (b : Fin 16) (j : ℕ) (k : Fin 1024) : EReal :=
  if h : j < 2 then H (ix3 b ⟨j, h⟩ k)
  else if h : j < 34 then
    Z (ix2 ⟨16384 + b.val * 32 + (j - 2), by omega⟩ ⟨3072 + k.val, by omega⟩) * Z (ix2 ⟨16384 + b.val * 32 + (j - 2), by omega⟩ ⟨4096 + k.val, by omega⟩)
  else 0

/-- The rows mixer B convolves in stream b of the prompt: two of zeros, then the products of the gate and the hidden rows of the stream. -/
def promptB (Z : (⟨2, ![16896, 7168]⟩ : Shape).Idx → EReal) (b : Fin 8) (j : ℕ) (k : Fin 1024) : EReal :=
  if j < 2 then 0
  else if h : j < 2050 then
    Z (ix2 ⟨b.val * 2048 + (j - 2), by omega⟩ ⟨3072 + k.val, by omega⟩) * Z (ix2 ⟨b.val * 2048 + (j - 2), by omega⟩ ⟨4096 + k.val, by omega⟩)
  else 0

/-- The convolution of three taps at row x. -/
def taps3 (f : ℕ → Fin 1024 → EReal) (W : (⟨2, ![3, 1024]⟩ : Shape).Idx → EReal) (x : ℕ) (k : Fin 1024) : EReal :=
  f x k * W (ix2 0 k) + f (x + 1) k * W (ix2 1 k) + f (x + 2) k * W (ix2 2 k)

/-- The sample that a row belongs to. -/
def sampleOf (r : Fin 16896) : Fin 16 := ⟨(r.val - 16384) / 32, by omega⟩

/-- Mixer B's output on the rows of the samples. -/
def sampleOutB (Z : (⟨2, ![16896, 7168]⟩ : Shape).Idx → EReal) (H : (⟨3, ![16, 2, 1024]⟩ : Shape).Idx → EReal) (W : (⟨2, ![3, 1024]⟩ : Shape).Idx → EReal) :
    (⟨2, ![16896, 1024]⟩ : Shape).Idx → EReal := fun i =>
  Z (ix2 (i 0) ⟨2048 + (i 1).val, by have h : (i 1).val < 1024 := (i 1).isLt; omega⟩) * taps3 (sampleB Z H (sampleOf (i 0))) W ((i 0).val % 32) (i 1)

/-- The stream of the prompt that a row belongs to. -/
def streamOf (r : Fin 16896) : Fin 8 := ⟨r.val / 2048 % 8, by omega⟩

/-- Mixer B's output on the rows of the prompt. -/
def promptOutB (Z : (⟨2, ![16896, 7168]⟩ : Shape).Idx → EReal) (W : (⟨2, ![3, 1024]⟩ : Shape).Idx → EReal) :
    (⟨2, ![16896, 1024]⟩ : Shape).Idx → EReal := fun i =>
  Z (ix2 (i 0) ⟨2048 + (i 1).val, by have h : (i 1).val < 1024 := (i 1).isLt; omega⟩) * taps3 (promptB Z (streamOf (i 0))) W ((i 0).val % 2048) (i 1)

end Cert.Conv

end
-- ==== Proof.MixbSample.lean ====
/-
  The samples' gated convolution: the call and its reference multiply one gate with the same three taps over the rows kept
  from before and the new rows, and keep the same last rows.
-/
module

public import proofs.«01_k».proof.Proof.Gen.MixbSampleIdeal.Value
public import Idealize.ShloMosaic.Lib.Pipeline.ValueKit
public import Idealize.ShloMosaic.Lib.ValueIdx
public import Idealize.ShloMosaic.Lib.Pointwise
public import Idealize.ShloMosaic.PureOps.Ideal
public import proofs.«01_k».proof.Proof.ConvRows
public import proofs.«01_k».proof.Proof.Gen.MixbSampleRefIdeal.Run

@[expose] public section

set_option maxRecDepth 16384

noncomputable section

namespace Cert.MixbSampleIdeal.Block

open Cert.MixbSampleIdeal Cert.MixbSampleIdeal.Gen Idealize.ShloMosaic Idealize.ShloMosaic.TcCoe Idealize.SL.Sem
open Cert.Conv

variable (m : (ℓ : Loc nD τ sig) → Buf (Elt Ideal) ℓ)

/-- The blocks each grid point reads and writes. -/
theorem idx : ∀ t : Fin cfg0.N, win0_0.index t = ![512 + t.val, 2] ∧ win0_1.index t = ![512 + t.val, 3] ∧ win0_2.index t = ![512 + t.val, 4] ∧
    win0_3.index t = ![t.val, 0, 0] ∧ win0_4.index t = ![0, 0] ∧ win0_5.index t = ![512 + t.val, 0] ∧ win0_6.index t = ![t.val, 0, 0] :=
  (by decide +kernel : ∀ t : Fin grid0.N, _)

theorem point_lt (t : Fin cfg0.N) : t.val < 16 := by
  have := t.isLt
  have : cfg0.N = 16 := N_0
  omega

/-- The row of the arrays behind a row of a block. -/
def row (t : Fin cfg0.N) (r : Fin 32) : Fin 16896 := ⟨16384 + t.val * 32 + r.val, by have := point_lt t; omega⟩

theorem iblk_b (c : Dev nD) (t : Fin cfg0.N) (r : Fin 32) (k : Fin 1024) :
    iblk m c 0 t (ix2 r k) = m ((c : Thread nD τ).loc main_arg0) (ix2 (row t r) ⟨2048 + k.val, by omega⟩) := by
  rw [← V_main_arg0 m c]
  blk_point [iblk, idx t, row]

theorem iblk_c (c : Dev nD) (t : Fin cfg0.N) (r : Fin 32) (k : Fin 1024) :
    iblk m c 1 t (ix2 r k) = m ((c : Thread nD τ).loc main_arg0) (ix2 (row t r) ⟨3072 + k.val, by omega⟩) := by
  rw [← V_main_arg0 m c]
  blk_point [iblk, idx t, row]

theorem iblk_h (c : Dev nD) (t : Fin cfg0.N) (r : Fin 32) (k : Fin 1024) :
    iblk m c 2 t (ix2 r k) = m ((c : Thread nD τ).loc main_arg0) (ix2 (row t r) ⟨4096 + k.val, by omega⟩) := by
  rw [← V_main_arg0 m c]
  blk_point [iblk, idx t, row]

theorem iblk_w (c : Dev nD) (t : Fin cfg0.N) (r : Fin 3) (k : Fin 1024) :
    iblk m c 4 t (ix2 r k) = m ((c : Thread nD τ).loc main_arg2) (ix2 r k) := by
  rw [← V_main_arg2 m c]
  blk_point [iblk, idx t, row]

theorem iblk_p (c : Dev nD) (t : Fin cfg0.N) (r : Fin 8) (k : Fin 1024) :
    iblk m c 3 t (ix3 0 r k) = V m c (Pipeline.arrRef spec0 3) (ix3 ⟨t.val, point_lt t⟩ r k) := by
  blk_point [iblk, idx t, row]

set_option maxHeartbeats 4000000 in
/-- The rows kept from before, as the call receives them: six rows of zeros above them. -/
theorem padded (c : Dev nD) (b : Fin 16) (r : Fin 8) (k : Fin 1024) :
    V m c (Pipeline.arrRef spec0 3) (ix3 b r k) = if h : r.val < 6 then (0 : EReal) else m ((c : Thread nD τ).loc main_arg1) (ix3 b ⟨r.val - 6, by omega⟩ k) := by
  dsimp only [V]
  simp only [hostOps0, hostOps0_1, hostOps0_2, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  pointwise
  by_cases h : r.val < 6
  · rw [dif_neg (by omega), dif_pos h]
    show (((0#32 : BitVec 32).toInt : ℝ) : EReal) = 0
    simp
  · rw [dif_pos (by omega), dif_neg h]

/-- The rows of the scratch: six of zeros, then the rows the sample convolves. -/
def scr (c : Dev nD) (t : Fin cfg0.N) (j : ℕ) (k : Fin 1024) : EReal :=
  if j < 6 then 0 else sampleB (m ((c : Thread nD τ).loc main_arg0)) (m ((c : Thread nD τ).loc main_arg1)) ⟨t.val, point_lt t⟩ (j - 6) k

theorem scr_lo (c : Dev nD) (t : Fin cfg0.N) (j : Fin 8) (k : Fin 1024) : k0_pay2 (iblk m c 3 t) (ix2 j k) = scr m c t j.val k := by
  unfold k0_pay2
  pointwise
  rw [iblk_p, padded]
  unfold scr sampleB
  by_cases h : j.val < 6
  · rw [dif_pos h, if_pos h]
  · rw [dif_neg h, if_neg h, dif_pos (by omega)]

theorem scr_hi (c : Dev nD) (t : Fin cfg0.N) (j : Fin 32) (k : Fin 1024) : k0_pay3 (iblk m c 1 t) (iblk m c 2 t) (ix2 j k) = scr m c t (8 + j.val) k := by
  unfold k0_pay3
  pointwise
  rw [iblk_c, iblk_h]
  unfold scr sampleB
  rw [if_neg (by omega), dif_neg (by omega), dif_pos (by omega)]
  have e : row t j = ⟨16384 + t.val * 32 + (8 + j.val - 6 - 2), by have := point_lt t; omega⟩ := Fin.ext (by show 16384 + t.val * 32 + j.val = 16384 + t.val * 32 + (8 + j.val - 6 - 2); omega)
  rw [e]

theorem scr_add (c : Dev nD) (t : Fin cfg0.N) (j : ℕ) (k : Fin 1024) :
    scr m c t (6 + j) k = sampleB (m ((c : Thread nD τ).loc main_arg0)) (m ((c : Thread nD τ).loc main_arg1)) ⟨t.val, point_lt t⟩ j k := by
  unfold scr
  rw [if_neg (by omega), show 6 + j - 6 = j from by omega]

/-- What a grid point writes of the output. -/
theorem block (c : Dev nD) (t : Fin cfg0.N) (y : S32x1024.Idx) :
    (show Vec Ideal S32x1024 .bf16 from (dats m 0 c).after 5 t) y =
      (show EReal from m ((c : Thread nD τ).loc main_arg0) (ix2 (row t (y 0)) ⟨2048 + (y 1).val, by have h : (y 1).val < 1024 := (y 1).isLt; omega⟩)) *
        taps3 (sampleB (m ((c : Thread nD τ).loc main_arg0)) (m ((c : Thread nD τ).loc main_arg1)) ⟨t.val, point_lt t⟩) (m ((c : Thread nD τ).loc main_arg2)) (y 0).val (y 1) := by
  obtain ⟨r, k, rfl⟩ : ∃ (r : Fin 32) (k : Fin 1024), y = ix2 r k := ⟨y 0, y 1, (ix2_eta y).symm⟩
  dsimp only
  rw [after0_5]
  unfold outsAt0
  frame_out
  unfold k0_pay4
  pointwise
  rw [read_two (by rfl) _ _ _ _ _ _ _ (scr_lo m c t) (scr_hi m c t), read_two (by rfl) _ _ _ _ _ _ _ (scr_lo m c t) (scr_hi m c t),
    read_two (by rfl) _ _ _ _ _ _ _ (scr_lo m c t) (scr_hi m c t), iblk_b, iblk_w, iblk_w, iblk_w,
    scr_add, show 7 + r.val = 6 + (r.val + 1) from by omega, scr_add, show 8 + r.val = 6 + (r.val + 2) from by omega, scr_add]
  rfl

/-- What a grid point writes of the history. -/
theorem block6 (c : Dev nD) (t : Fin cfg0.N) (y : S1x8x1024.Idx) :
    (show Vec Ideal S1x8x1024 .f32 from (dats m 0 c).after 6 t) y = scr m c t (32 + (y 1).val) (y 2) := by
  obtain ⟨q, r, k, rfl⟩ : ∃ (q : Fin 1) (r : Fin 8) (k : Fin 1024), y = ix3 q r k := ⟨y 0, y 1, y 2, (ix3_eta y).symm⟩
  dsimp only
  rw [after0_6]
  unfold outsAt0
  frame_out
  unfold k0_pay1
  pointwise
  rw [read_two (by rfl) _ _ _ _ _ _ _ (scr_lo m c t) (scr_hi m c t)]

/-- The output on the rows of the samples. -/
def G (c : Dev nD) : S16896x1024.Idx → EReal :=
  sampleOutB (m ((c : Thread nD τ).loc main_arg0)) (m ((c : Thread nD τ).loc main_arg1)) (m ((c : Thread nD τ).loc main_arg2))

theorem arr5 (c : Dev nD) : (dats m 0 c).arrAt 5 cfg0.N =
    fun i => if 16384 ≤ (i 0 : ℕ) then G m c i else (dats m 0 c).A 5 i := by
  refine (dats m 0 c).arrAt_eq_of_coversWhere 5 _ (fun β => 512 ≤ β 0) (by decide +kernel) (fun t hf y => ?_)
    (fun j => by blk_simp [Pipeline.Window.cell_apply]; omega)
  blk_simp
  have e0 : ((View.whole main_v1_0).slice (win0_5.rect t)).emb y = ix2 (row t (y 0)) (y 1) := by
    blk_ext [idx t, row]
  refine (block m c t y).trans (Eq.trans ?_ (congrArg (G m c) e0).symm)
  have ht := point_lt t
  have hy : (y 0).val < 32 := (y 0).isLt
  have e1 : sampleOf (row t (y 0)) = ⟨t.val, point_lt t⟩ := Fin.ext (by show (16384 + t.val * 32 + (y 0).val - 16384) / 32 = t.val; omega)
  have e2 : (row t (y 0)).val % 32 = (y 0).val := by show (16384 + t.val * 32 + (y 0).val) % 32 = (y 0).val; omega
  show _ = _ * taps3 (sampleB _ _ (sampleOf (row t (y 0)))) _ ((row t (y 0)).val % 32) (y 1)
  rw [e1, e2]
  rfl

/-- The call finds in its output buffer the rows it is given. -/
theorem entry (c : Dev nD) (i : S16896x1024.Idx) : (dats m 0 c).A 5 i = m ((c : Thread nD τ).loc main_arg3) i := by
  show V m c main_v1_0 i = _
  dsimp only [V]
  simp only [hostOps0, hostOps0_1, hostOps0_2, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  rfl

/-- The history a sample leaves: the last eight of its rows, of which the first six may be any. -/
def G6 (c : Dev nD) : S16x8x1024.Idx → EReal := fun i =>
  sampleB (m ((c : Thread nD τ).loc main_arg0)) (m ((c : Thread nD τ).loc main_arg1)) (i 0) (26 + (i 1).val) (i 2)

theorem arr6 (c : Dev nD) : (dats m 0 c).arrAt 6 cfg0.N = G6 m c := by
  refine (dats m 0 c).arrAt_eq_of_covers 6 _ (by decide +kernel) fun t hf y => ?_
  blk_simp
  have e0 : ((View.whole main_v1_1).slice (win0_6.rect t)).emb y = ix3 ⟨t.val, point_lt t⟩ (y 1) (y 2) := by
    blk_ext [idx t, row]
  refine (block6 m c t y).trans (Eq.trans ?_ (congrArg (G6 m c) e0).symm)
  rw [show 32 + (y 1).val = 6 + (26 + (y 1).val) from by omega]
  exact scr_add m c t _ _

end Cert.MixbSampleIdeal.Block

namespace Cert.MixbSampleRefIdeal.Block

open Cert.MixbSampleRefIdeal Cert.MixbSampleRefIdeal.Gen Cert.MixbSampleRefIdeal.Value Idealize.ShloMosaic Idealize.ShloMosaic.TcCoe Idealize.SL.Sem
open Cert.Conv

variable (m : (ℓ : Loc nD τ sig) → Buf (Elt Ideal) ℓ)

/-- The rows the samples convolve. -/
def rows (c : Dev nD) : FVec Ideal S16x34x1024 .f32 :=
  concatenate S16x34x1024 1 [⟨S16x2x1024, (m ((c.tc : Thread nD τ).loc main_arg1))⟩, ⟨S16x32x1024, (mulf (extractStridedSlice S16x32x1024 ![0, 0, 1024] (extractStridedSlice S16x32x3072 ![0, 0, 2048] (shapeCast _ (extf .f32 (extractStridedSlice S512x7168 ![16384, 0] (m ((c.tc : Thread nD τ).loc main_arg0)) slices_S16896x7168_S512x7168_16384_0) bitsLt_bf16_f32) shapeCasts_S512x7168_S16x32x7168) slices_S16x32x7168_S16x32x3072_0_0_2048) slices_S16x32x3072_S16x32x1024_0_0_1024) (extractStridedSlice S16x32x1024 ![0, 0, 2048] (extractStridedSlice S16x32x3072 ![0, 0, 2048] (shapeCast _ (extf .f32 (extractStridedSlice S512x7168 ![16384, 0] (m ((c.tc : Thread nD τ).loc main_arg0)) slices_S16896x7168_S512x7168_16384_0) bitsLt_bf16_f32) shapeCasts_S512x7168_S16x32x7168) slices_S16x32x7168_S16x32x3072_0_0_2048) slices_S16x32x3072_S16x32x1024_0_0_2048))⟩] concatenates_S16x2x1024_S16x32x1024_S16x34x1024_d1

theorem rows_eq (c : Dev nD) (b : Fin 16) (j : Fin 34) (k : Fin 1024) :
    rows m c (ix3 b j k) = sampleB (m ((c : Thread nD τ).loc main_arg0)) (m ((c : Thread nD τ).loc main_arg1)) b j.val k := by
  unfold rows
  pointwise
  unfold sampleB
  by_cases h : j.val < 2
  · rw [dif_pos h, dif_pos h]
  · rw [dif_neg h, dif_neg h, dif_pos j.isLt]
    have e : 16384 + (b.val * 32 + (j.val - 2)) = 16384 + b.val * 32 + (j.val - 2) := by omega
    have e1 : 2048 + (1024 + k.val) = 3072 + k.val := by omega
    have e2 : 2048 + (2048 + k.val) = 4096 + k.val := by omega
    simp only [e, e1, e2]

/-- The convolution, tap by tap. -/
def conv (c : Dev nD) (s : FVec Ideal S16x34x1024 .f32) : FVec Ideal S16x32x1024 .f32 :=
  addf (addf (mulf (extractStridedSlice S16x32x1024 ![0, 0, 0] s slices_S16x34x1024_S16x32x1024_0_0_0) (broadcastInDim S16x32x1024 ![0, 1, 2] bcast_S1x1x1024_S16x32x1024_0_1_2 (broadcastInDim S1x1x1024 ![2] bcast_S1024_S1x1x1024_2 (shapeCast _ (extractStridedSlice S1x1024 ![0, 0] (m ((c.tc : Thread nD τ).loc main_arg2)) slices_S3x1024_S1x1024_0_0) shapeCasts_S1x1024_S1024)))) (mulf (extractStridedSlice S16x32x1024 ![0, 1, 0] s slices_S16x34x1024_S16x32x1024_0_1_0) (broadcastInDim S16x32x1024 ![0, 1, 2] bcast_S1x1x1024_S16x32x1024_0_1_2 (broadcastInDim S1x1x1024 ![2] bcast_S1024_S1x1x1024_2 (shapeCast _ (extractStridedSlice S1x1024 ![1, 0] (m ((c.tc : Thread nD τ).loc main_arg2)) slices_S3x1024_S1x1024_1_0) shapeCasts_S1x1024_S1024))))) (mulf (extractStridedSlice S16x32x1024 ![0, 2, 0] s slices_S16x34x1024_S16x32x1024_0_2_0) (broadcastInDim S16x32x1024 ![0, 1, 2] bcast_S1x1x1024_S16x32x1024_0_1_2 (broadcastInDim S1x1x1024 ![2] bcast_S1024_S1x1x1024_2 (shapeCast _ (extractStridedSlice S1x1024 ![2, 0] (m ((c.tc : Thread nD τ).loc main_arg2)) slices_S3x1024_S1x1024_2_0) shapeCasts_S1x1024_S1024))))

theorem conv_eq (c : Dev nD) (b : Fin 16) (x : Fin 32) (k : Fin 1024) :
    conv m c (rows m c) (ix3 b x k) =
      taps3 (sampleB (m ((c : Thread nD τ).loc main_arg0)) (m ((c : Thread nD τ).loc main_arg1)) b) (m ((c : Thread nD τ).loc main_arg2)) x.val k := by
  unfold conv
  pointwise
  rw [rows_eq, rows_eq, rows_eq]
  unfold taps3
  simp only [Nat.add_comm 1, Nat.add_comm 2]

theorem y_named (c : Dev nD) : res_main_v34 m c =
    concatenate S16896x1024 0 [⟨S16384x1024, (extractStridedSlice S16384x1024 ![0, 0] (m ((c.tc : Thread nD τ).loc main_arg3)) slices_S16896x1024_S16384x1024_0_0)⟩, ⟨S512x1024, (truncf .bf16 (shapeCast _ (mulf (extractStridedSlice S16x32x1024 ![0, 0, 0] (extractStridedSlice S16x32x3072 ![0, 0, 2048] (shapeCast _ (extf .f32 (extractStridedSlice S512x7168 ![16384, 0] (m ((c.tc : Thread nD τ).loc main_arg0)) slices_S16896x7168_S512x7168_16384_0) bitsLt_bf16_f32) shapeCasts_S512x7168_S16x32x7168) slices_S16x32x7168_S16x32x3072_0_0_2048) slices_S16x32x3072_S16x32x1024_0_0_0) (conv m c (rows m c))) shapeCasts_S16x32x1024_S512x1024) bitsLt_bf16_f32)⟩] concatenates_S16384x1024_S512x1024_S16896x1024_d0 := rfl

set_option maxHeartbeats 2000000 in
theorem y_eq (c : Dev nD) (i : S16896x1024.Idx) : (show EReal from res_main_v34 m c i) = if 16384 ≤ (i 0 : ℕ) then
    sampleOutB (m ((c : Thread nD τ).loc main_arg0)) (m ((c : Thread nD τ).loc main_arg1)) (m ((c : Thread nD τ).loc main_arg2)) i
    else (show EReal from m ((c : Thread nD τ).loc main_arg3) i) := by
  rw [y_named]
  obtain ⟨r, k, rfl⟩ : ∃ (r : Fin 16896) (k : Fin 1024), i = ix2 r k := ⟨i 0, i 1, (ix2_eta i).symm⟩
  set_option maxRecDepth 200000 in
  pointwise
  by_cases h : r.val < 16384
  · have h2 : ¬ 16384 ≤ r.val := by omega
    rw [dif_pos h, if_neg h2]
  · have h2 : 16384 ≤ r.val := by omega
    rw [dif_neg h, if_pos h2]
    have hr : r.val - 16384 < 512 := by have := r.isLt; omega
    have ha : (⟨16384 + ((r.val - 16384) / 32 * 32 + (r.val - 16384) % 32), by omega⟩ : Fin 16896) = r :=
      Fin.ext (by show 16384 + ((r.val - 16384) / 32 * 32 + (r.val - 16384) % 32) = r.val; omega)
    have e2 : (r.val - 16384) % 32 = r.val % 32 := by omega
    refine congrArg₂ (fun u v : EReal => u * v) (congrArg (fun q => m ((c : Thread nD τ).loc main_arg0) (ix2 q ⟨2048 + k.val, by omega⟩)) ha) ?_
    refine (conv_eq m c (sampleOf r) ⟨(r.val - 16384) % 32, Nat.mod_lt _ (by decide)⟩ k).trans ?_
    exact congrArg (fun x => taps3 _ _ x k) e2

theorem run_values (ρ : Dev nD → PrngReg) : θ_run defs (onTc (τ := τ) (main (F := Ideal))) ⟨m, fun _ => 0, ρ⟩ fun r => ∀ c : Dev nD,
    (∀ i : S16896x1024.Idx, r.2.mem ((c.tc : Thread nD τ).loc main_v34) i = (show EReal from if 16384 ≤ (i 0 : ℕ) then
      sampleOutB (m ((c : Thread nD τ).loc main_arg0)) (m ((c : Thread nD τ).loc main_arg1)) (m ((c : Thread nD τ).loc main_arg2)) i
      else (show EReal from m ((c : Thread nD τ).loc main_arg3) i)))
    ∧ (∀ i : S16x8x1024.Idx, 6 ≤ (i 1).val → r.2.mem ((c.tc : Thread nD τ).loc main_v35) i =
      sampleB (m ((c : Thread nD τ).loc main_arg0)) (m ((c : Thread nD τ).loc main_arg1)) (i 0) (26 + (i 1).val) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run _ _ _).mono (fun r h c => ⟨fun i => ?_, fun i hi => ?_, (h c).2.2⟩) (run m ρ)
  · rw [(h c).1]
    exact y_eq m c i
  · have e : r.2.mem ((c.tc : Thread nD τ).loc main_v35) = pad S16x8x1024 ![0, 6, 0] ![0, 0, 0] ![0, 0, 0]
        (extractStridedSlice S16x2x1024 ![0, 32, 0] (rows m c) slices_S16x34x1024_S16x2x1024_0_32_0)
        (sitofp .f32 (constantI S_ 32 0#32)) pads_S16x2x1024_S16x8x1024_000_600_000 h_S_ := (h c).2.1
    rw [e]
    obtain ⟨b, x, k, rfl⟩ : ∃ (b : Fin 16) (x : Fin 8) (k : Fin 1024), i = ix3 b x k := ⟨i 0, i 1, i 2, (ix3_eta i).symm⟩
    have hi : 6 ≤ x.val := hi
    pointwise
    rw [dif_pos (by omega), rows_eq]
    show sampleB _ _ _ (32 + (x.val - 6)) _ = sampleB _ _ _ (26 + x.val) _
    rw [show 32 + (x.val - 6) = 26 + x.val from by omega]

end Cert.MixbSampleRefIdeal.Block

end
-- ==== Proof.MixbPrompt.lean ====
/-
  The prompt's gated convolution: the call and its reference multiply one gate with the same three taps over a stream's rows,
  zeros before the first, and keep the same last rows.
-/
module

public import proofs.«01_k».proof.Proof.Gen.MixbPromptIdeal.Value
public import Idealize.ShloMosaic.Lib.Pipeline.ValueKit
public import Idealize.ShloMosaic.Lib.ValueIdx
public import Idealize.ShloMosaic.Lib.Pointwise
public import Idealize.ShloMosaic.PureOps.Ideal
public import proofs.«01_k».proof.Proof.ConvRows
public import proofs.«01_k».proof.Proof.Gen.MixbPromptRefIdeal.Run

@[expose] public section

set_option maxRecDepth 16384

noncomputable section

namespace Cert.MixbPromptIdeal.Block

open Cert.MixbPromptIdeal Cert.MixbPromptIdeal.Gen Idealize.ShloMosaic Idealize.ShloMosaic.TcCoe Idealize.SL.Sem
open Cert.Conv

variable (m : (ℓ : Loc nD τ sig) → Buf (Elt Ideal) ℓ)

/-- The blocks each grid point reads and writes: point t works on rows 256 t and below of stream t/8, and on the 16 rows before them. -/
theorem idx : ∀ t : Fin cfg0.N, win0_0.index t = ![t.val, 2] ∧ win0_1.index t = ![t.val, 3] ∧ win0_2.index t = ![t.val, 4] ∧
    win0_3.index t = ![t.val * 16 - 1, 3] ∧ win0_4.index t = ![t.val * 16 - 1, 4] ∧ win0_5.index t = ![0, 0] ∧ win0_6.index t = ![t.val, 0] ∧
    win0_7.index t = ![t.val / 8, 0, 0] ∧ (grid0.coords t 0).val = t.val :=
  (by decide +kernel : ∀ t : Fin grid0.N, _)

theorem point_lt (t : Fin cfg0.N) : t.val < 64 := by
  have := t.isLt
  have : cfg0.N = 64 := N_0
  omega

/-- The row of the arrays behind a row of a block. -/
def row (t : Fin cfg0.N) (r : Fin 256) : Fin 16896 := ⟨t.val * 256 + r.val, by have := point_lt t; omega⟩

/-- The row of the arrays behind a row of the block before. -/
def prow (t : Fin cfg0.N) (r : Fin 16) : Fin 16896 := ⟨(t.val * 16 - 1) * 16 + r.val, by have := point_lt t; omega⟩

theorem iblk_b (c : Dev nD) (t : Fin cfg0.N) (r : Fin 256) (k : Fin 1024) :
    iblk m c 0 t (ix2 r k) = m ((c : Thread nD τ).loc main_arg0) (ix2 (row t r) ⟨2048 + k.val, by omega⟩) := by
  blk_point [iblk, V, idx t, row]

theorem iblk_c (c : Dev nD) (t : Fin cfg0.N) (r : Fin 256) (k : Fin 1024) :
    iblk m c 1 t (ix2 r k) = m ((c : Thread nD τ).loc main_arg0) (ix2 (row t r) ⟨3072 + k.val, by omega⟩) := by
  blk_point [iblk, V, idx t, row]

theorem iblk_h (c : Dev nD) (t : Fin cfg0.N) (r : Fin 256) (k : Fin 1024) :
    iblk m c 2 t (ix2 r k) = m ((c : Thread nD τ).loc main_arg0) (ix2 (row t r) ⟨4096 + k.val, by omega⟩) := by
  blk_point [iblk, V, idx t, row]

theorem iblk_cp (c : Dev nD) (t : Fin cfg0.N) (r : Fin 16) (k : Fin 1024) :
    iblk m c 3 t (ix2 r k) = m ((c : Thread nD τ).loc main_arg0) (ix2 (prow t r) ⟨3072 + k.val, by omega⟩) := by
  blk_point [iblk, V, idx t, prow]

theorem iblk_hp (c : Dev nD) (t : Fin cfg0.N) (r : Fin 16) (k : Fin 1024) :
    iblk m c 4 t (ix2 r k) = m ((c : Thread nD τ).loc main_arg0) (ix2 (prow t r) ⟨4096 + k.val, by omega⟩) := by
  blk_point [iblk, V, idx t, prow]

theorem iblk_w (c : Dev nD) (t : Fin cfg0.N) (r : Fin 3) (k : Fin 1024) :
    iblk m c 5 t (ix2 r k) = m ((c : Thread nD τ).loc main_arg1) (ix2 r k) := by
  blk_point [iblk, V, idx t, row]

/-- The rows of the scratch: those of the stream from six before the last two before the block. -/
def scr (c : Dev nD) (t : Fin cfg0.N) (j : ℕ) (k : Fin 1024) : EReal :=
  promptB (m ((c : Thread nD τ).loc main_arg0)) ⟨t.val / 8, by have := point_lt t; omega⟩ (256 * (t.val % 8) + j - 6) k

/-- Whether a block is its stream's first. -/
theorem first (n : ℕ) (hn : n < 64) (a b : EReal) : Scalar.select
      (Scalar.cmpi CmpIPredicate.eq
        (Scalar.select
          (Scalar.andi
            (Scalar.xori
              (Scalar.cmpi CmpIPredicate.slt
                (Scalar.remsi (BitVec.ofNat 32 n)
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (Scalar.cmpi CmpIPredicate.ne
              (Scalar.remsi (BitVec.ofNat 32 n)
                (Scalar.select (Scalar.cmpi CmpIPredicate.eq 8#32 0#32) 1#32 8#32))
              0#32))
          (Scalar.addi
            (Scalar.remsi (BitVec.ofNat 32 n)
              (Scalar.select (Scalar.cmpi CmpIPredicate.eq 8#32 0#32) 1#32 8#32))
            (Scalar.select (Scalar.cmpi CmpIPredicate.eq 8#32 0#32) 1#32 8#32))
          (Scalar.remsi (BitVec.ofNat 32 n)
            (Scalar.select (Scalar.cmpi CmpIPredicate.eq 8#32 0#32) 1#32 8#32)))
        0#32)
      a b = if n % 8 = 0 then a else b := by
  have e : (Scalar.cmpi CmpIPredicate.eq
        (Scalar.select
          (Scalar.andi
            (Scalar.xori
              (Scalar.cmpi CmpIPredicate.slt
                (Scalar.remsi (BitVec.ofNat 32 n)
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (Scalar.cmpi CmpIPredicate.ne
              (Scalar.remsi (BitVec.ofNat 32 n)
                (Scalar.select (Scalar.cmpi CmpIPredicate.eq 8#32 0#32) 1#32 8#32))
              0#32))
          (Scalar.addi
            (Scalar.remsi (BitVec.ofNat 32 n)
              (Scalar.select (Scalar.cmpi CmpIPredicate.eq 8#32 0#32) 1#32 8#32))
            (Scalar.select (Scalar.cmpi CmpIPredicate.eq 8#32 0#32) 1#32 8#32))
          (Scalar.remsi (BitVec.ofNat 32 n)
            (Scalar.select (Scalar.cmpi CmpIPredicate.eq 8#32 0#32) 1#32 8#32)))
        0#32) = if n % 8 = 0 then 1#1 else 0#1 :=
    (by decide +kernel : ∀ n : Fin 64, (Scalar.cmpi CmpIPredicate.eq
        (Scalar.select
          (Scalar.andi
            (Scalar.xori
              (Scalar.cmpi CmpIPredicate.slt
                (Scalar.remsi (BitVec.ofNat 32 n.val)
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (Scalar.cmpi CmpIPredicate.ne
              (Scalar.remsi (BitVec.ofNat 32 n.val)
                (Scalar.select (Scalar.cmpi CmpIPredicate.eq 8#32 0#32) 1#32 8#32))
              0#32))
          (Scalar.addi
            (Scalar.remsi (BitVec.ofNat 32 n.val)
              (Scalar.select (Scalar.cmpi CmpIPredicate.eq 8#32 0#32) 1#32 8#32))
            (Scalar.select (Scalar.cmpi CmpIPredicate.eq 8#32 0#32) 1#32 8#32))
          (Scalar.remsi (BitVec.ofNat 32 n.val)
            (Scalar.select (Scalar.cmpi CmpIPredicate.eq 8#32 0#32) 1#32 8#32)))
        0#32) = if n.val % 8 = 0 then 1#1 else 0#1) ⟨n, hn⟩
  rw [e]
  by_cases h : n % 8 = 0
  · rw [if_pos h, if_pos h]; rfl
  · rw [if_neg h, if_neg h]; rfl

theorem scr_lo (c : Dev nD) (t : Fin cfg0.N) (j : Fin 8) (k : Fin 1024) : k0_pay4 (grid0.coords t) (iblk m c 3 t) (iblk m c 4 t) (ix2 j k) = scr m c t j.val k := by
  have ht := point_lt t
  unfold k0_pay4
  pointwise
  rw [first _ (by rw [(idx t).2.2.2.2.2.2.2.2]; exact ht), (idx t).2.2.2.2.2.2.2.2, iblk_cp, iblk_hp]
  unfold scr promptB
  by_cases h : t.val % 8 = 0
  · rw [if_pos h, if_pos (by omega)]
  · rw [if_neg h, if_neg (by omega), dif_pos (by omega)]
    have e : prow t ⟨8 + j.val, by omega⟩ = ⟨t.val / 8 * 2048 + (256 * (t.val % 8) + j.val - 6 - 2), by omega⟩ :=
      Fin.ext (by show (t.val * 16 - 1) * 16 + (8 + j.val) = t.val / 8 * 2048 + (256 * (t.val % 8) + j.val - 6 - 2); omega)
    rw [e]

theorem scr_hi (c : Dev nD) (t : Fin cfg0.N) (j : Fin 256) (k : Fin 1024) : k0_pay5 (iblk m c 1 t) (iblk m c 2 t) (ix2 j k) = scr m c t (8 + j.val) k := by
  unfold k0_pay5
  pointwise
  rw [iblk_c, iblk_h]
  unfold scr promptB
  have ht := point_lt t
  rw [if_neg (by omega), dif_pos (by omega)]
  have e : row t j = ⟨t.val / 8 * 2048 + (256 * (t.val % 8) + (8 + j.val) - 6 - 2), by omega⟩ :=
    Fin.ext (by show t.val * 256 + j.val = t.val / 8 * 2048 + (256 * (t.val % 8) + (8 + j.val) - 6 - 2); omega)
  rw [e]

/-- What a grid point writes of the output. -/
def cell (c : Dev nD) (t : Fin cfg0.N) (y : S256x1024.Idx) : EReal :=
  (show EReal from m ((c : Thread nD τ).loc main_arg0) (ix2 (row t (y 0)) ⟨2048 + (y 1).val, by have h : (y 1).val < 1024 := (y 1).isLt; omega⟩)) *
    taps3 (promptB (m ((c : Thread nD τ).loc main_arg0)) ⟨t.val / 8, by have := point_lt t; omega⟩) (m ((c : Thread nD τ).loc main_arg1))
      (256 * (t.val % 8) + (y 0).val) (y 1)

theorem scr_add (c : Dev nD) (t : Fin cfg0.N) (j i : ℕ) (k : Fin 1024) (h : j = 6 + i) :
    scr m c t j k = promptB (m ((c : Thread nD τ).loc main_arg0)) ⟨t.val / 8, by have := point_lt t; omega⟩ (256 * (t.val % 8) + i) k := by
  unfold scr
  rw [h, show 256 * (t.val % 8) + (6 + i) - 6 = 256 * (t.val % 8) + i from by omega]

/-- One store of 32 rows. -/
theorem piece (c : Dev nD) (t : Fin cfg0.N) (o : ℕ) (ho : o ≤ 224) (r : Fin 32) (k : Fin 1024) (y : S256x1024.Idx) (q : Fin 256)
    (h0 : (y 0).val = o + r.val) (h1 : (y 1).val = k.val) (hq : q.val = o + r.val) :
    (show EReal from iblk m c 0 t (ix2 q k)) * (scr m c t (o + 6 + r.val) k * iblk m c 5 t (ix2 0 k) + scr m c t (o + 7 + r.val) k * iblk m c 5 t (ix2 1 k) +
      scr m c t (o + 8 + r.val) k * iblk m c 5 t (ix2 2 k)) = cell m c t y := by
  obtain ⟨y0, y1, rfl⟩ : ∃ (y0 : Fin 256) (y1 : Fin 1024), y = ix2 y0 y1 := ⟨y 0, y 1, (ix2_eta y).symm⟩
  obtain rfl : y0 = q := Fin.ext (h0.trans hq.symm)
  obtain rfl : y1 = k := Fin.ext h1
  rw [iblk_b, iblk_w, iblk_w, iblk_w, scr_add m c t _ y0.val y1 (by omega), scr_add m c t _ (y0.val + 1) y1 (by omega),
    scr_add m c t _ (y0.val + 2) y1 (by omega)]
  rfl

set_option maxHeartbeats 8000000 in
theorem block (c : Dev nD) (t : Fin cfg0.N) (y : S256x1024.Idx) :
    (show Vec Ideal S256x1024 .bf16 from (dats m 0 c).after 6 t) y = cell m c t y := by
  dsimp only
  rw [after0_6]
  unfold outsAt0
  frame_out
  canon_tiles x h
  all_goals obtain ⟨r, k, rfl⟩ : ∃ (r : Fin 32) (k : Fin 1024), x = ix2 r k := ⟨x 0, x 1, (ix2_eta x).symm⟩
  all_goals simp only [k0_pay1, k0_pay2, k0_pay6, k0_pay7, k0_pay8, k0_pay9, k0_pay10, k0_pay11, k0_pay12, k0_pay13, k0_pay14, k0_pay15, k0_pay16]
  case piece0 =>
    pointwise
    rw [read_two (by rfl) _ _ _ _ _ _ _ (scr_lo m c t) (scr_hi m c t), read_two (by rfl) _ _ _ _ _ _ _ (scr_lo m c t) (scr_hi m c t),
      read_two (by rfl) _ _ _ _ _ _ _ (scr_lo m c t) (scr_hi m c t)]
    exact piece m c t 224 (by decide) r k _ ⟨224 + r.val, by omega⟩ h0 h1 rfl
  case piece1 =>
    pointwise
    rw [read_two (by rfl) _ _ _ _ _ _ _ (scr_lo m c t) (scr_hi m c t), read_two (by rfl) _ _ _ _ _ _ _ (scr_lo m c t) (scr_hi m c t),
      read_two (by rfl) _ _ _ _ _ _ _ (scr_lo m c t) (scr_hi m c t)]
    exact piece m c t 192 (by decide) r k _ ⟨192 + r.val, by omega⟩ h0 h1 rfl
  case piece2 =>
    pointwise
    rw [read_two (by rfl) _ _ _ _ _ _ _ (scr_lo m c t) (scr_hi m c t), read_two (by rfl) _ _ _ _ _ _ _ (scr_lo m c t) (scr_hi m c t),
      read_two (by rfl) _ _ _ _ _ _ _ (scr_lo m c t) (scr_hi m c t)]
    exact piece m c t 160 (by decide) r k _ ⟨160 + r.val, by omega⟩ h0 h1 rfl
  case piece3 =>
    pointwise
    rw [read_two (by rfl) _ _ _ _ _ _ _ (scr_lo m c t) (scr_hi m c t), read_two (by rfl) _ _ _ _ _ _ _ (scr_lo m c t) (scr_hi m c t),
      read_two (by rfl) _ _ _ _ _ _ _ (scr_lo m c t) (scr_hi m c t)]
    exact piece m c t 128 (by decide) r k _ ⟨128 + r.val, by omega⟩ h0 h1 rfl
  case piece4 =>
    pointwise
    rw [read_two (by rfl) _ _ _ _ _ _ _ (scr_lo m c t) (scr_hi m c t), read_two (by rfl) _ _ _ _ _ _ _ (scr_lo m c t) (scr_hi m c t),
      read_two (by rfl) _ _ _ _ _ _ _ (scr_lo m c t) (scr_hi m c t)]
    exact piece m c t 96 (by decide) r k _ ⟨96 + r.val, by omega⟩ h0 h1 rfl
  case piece5 =>
    pointwise
    rw [read_two (by rfl) _ _ _ _ _ _ _ (scr_lo m c t) (scr_hi m c t), read_two (by rfl) _ _ _ _ _ _ _ (scr_lo m c t) (scr_hi m c t),
      read_two (by rfl) _ _ _ _ _ _ _ (scr_lo m c t) (scr_hi m c t)]
    exact piece m c t 64 (by decide) r k _ ⟨64 + r.val, by omega⟩ h0 h1 rfl
  case piece6 =>
    pointwise
    rw [read_two (by rfl) _ _ _ _ _ _ _ (scr_lo m c t) (scr_hi m c t), read_two (by rfl) _ _ _ _ _ _ _ (scr_lo m c t) (scr_hi m c t),
      read_two (by rfl) _ _ _ _ _ _ _ (scr_lo m c t) (scr_hi m c t)]
    exact piece m c t 32 (by decide) r k _ ⟨32 + r.val, by omega⟩ h0 h1 rfl
  case piece7 =>
    pointwise
    rw [read_two (by rfl) _ _ _ _ _ _ _ (scr_lo m c t) (scr_hi m c t), read_two (by rfl) _ _ _ _ _ _ _ (scr_lo m c t) (scr_hi m c t),
      read_two (by rfl) _ _ _ _ _ _ _ (scr_lo m c t) (scr_hi m c t)]
    exact piece m c t 0 (by decide) r k _ ⟨r.val, by omega⟩ (h0.trans (Nat.zero_add _).symm) h1 (Nat.zero_add _).symm

/-- What a grid point writes of the history. -/
theorem block7 (c : Dev nD) (t : Fin cfg0.N) (y : S1x8x1024.Idx) :
    (show Vec Ideal S1x8x1024 .f32 from (dats m 0 c).after 7 t) y = scr m c t (256 + (y 1).val) (y 2) := by
  obtain ⟨q, r, k, rfl⟩ : ∃ (q : Fin 1) (r : Fin 8) (k : Fin 1024), y = ix3 q r k := ⟨y 0, y 1, y 2, (ix3_eta y).symm⟩
  dsimp only
  rw [after0_7]
  unfold outsAt0
  frame_out
  unfold k0_pay3
  pointwise
  rw [read_two (by rfl) _ _ _ _ _ _ _ (scr_lo m c t) (scr_hi m c t)]

/-- The output on the rows of the prompt. -/
def G (c : Dev nD) : S16896x1024.Idx → EReal :=
  promptOutB (m ((c : Thread nD τ).loc main_arg0)) (m ((c : Thread nD τ).loc main_arg1))

theorem arr6 (c : Dev nD) : (dats m 0 c).arrAt 6 cfg0.N =
    fun i => if (i 0 : ℕ) < 16384 then G m c i else (dats m 0 c).A 6 i := by
  refine (dats m 0 c).arrAt_eq_of_coversWhere 6 _ (fun β => β 0 < 64) (by decide +kernel) (fun t hf y => ?_)
    (fun j => by blk_simp [Pipeline.Window.cell_apply]; omega)
  blk_simp
  have e0 : ((View.whole main_v0_0).slice (win0_6.rect t)).emb y = ix2 (row t (y 0)) (y 1) := by
    blk_ext [idx t, row]
  refine (block m c t y).trans (Eq.trans ?_ (congrArg (G m c) e0).symm)
  have ht := point_lt t
  have hy : (y 0).val < 256 := (y 0).isLt
  have e1 : streamOf (row t (y 0)) = ⟨t.val / 8, by omega⟩ := Fin.ext (by show (t.val * 256 + (y 0).val) / 2048 % 8 = t.val / 8; omega)
  have e2 : (row t (y 0)).val % 2048 = 256 * (t.val % 8) + (y 0).val := by show (t.val * 256 + (y 0).val) % 2048 = _; omega
  show _ = _ * taps3 (promptB _ (streamOf (row t (y 0)))) _ ((row t (y 0)).val % 2048) (y 1)
  rw [e1, e2]
  rfl

/-- The history a stream leaves: its last eight rows. -/
def G7 (c : Dev nD) : S8x8x1024.Idx → EReal := fun i =>
  promptB (m ((c : Thread nD τ).loc main_arg0)) (i 0) (2042 + (i 1).val) (i 2)

/-- A stream's history is what its last block writes. -/
theorem last : ∀ t : Fin cfg0.N, (cfg0.win 7).flush t = true → t.val % 8 = 7 :=
  (by decide +kernel : ∀ t : Fin grid0.N, win0_7.flush t = true → t.val % 8 = 7)

theorem arr7 (c : Dev nD) : (dats m 0 c).arrAt 7 cfg0.N = G7 m c := by
  refine (dats m 0 c).arrAt_eq_of_covers 7 _ (by decide +kernel) fun t hf y => ?_
  blk_simp
  have ht := point_lt t
  have e0 : ((View.whole main_v0_1).slice (win0_7.rect t)).emb y = ix3 ⟨t.val / 8, by omega⟩ (y 1) (y 2) := by
    blk_ext [idx t, row]
  refine (block7 m c t y).trans (Eq.trans ?_ (congrArg (G7 m c) e0).symm)
  have h7 := last t hf
  refine (scr_add m c t _ (250 + (y 1).val) _ (by omega)).trans ?_
  show promptB _ _ (256 * (t.val % 8) + (250 + (y 1).val)) _ = promptB _ _ (2042 + (y 1).val) _
  rw [show 256 * (t.val % 8) + (250 + (y 1).val) = 2042 + (y 1).val from by omega]
  rfl

end Cert.MixbPromptIdeal.Block

namespace Cert.MixbPromptRefIdeal.Block

open Cert.MixbPromptRefIdeal Cert.MixbPromptRefIdeal.Gen Cert.MixbPromptRefIdeal.Value Idealize.ShloMosaic Idealize.ShloMosaic.TcCoe Idealize.SL.Sem
open Cert.Conv

variable (m : (ℓ : Loc nD τ sig) → Buf (Elt Ideal) ℓ)

/-- The rows the streams convolve. -/
def rows (c : Dev nD) : FVec Ideal S8x2050x1024 .f32 :=
  concatenate S8x2050x1024 1 [⟨S8x2x1024, (broadcastInDim S8x2x1024 ![] bcast_S_S8x2x1024 (constant S_ .f32 0x00000000#32))⟩, ⟨S8x2048x1024, (mulf (extractStridedSlice S8x2048x1024 ![0, 0, 1024] (extractStridedSlice S8x2048x3072 ![0, 0, 2048] (shapeCast _ (extf .f32 (extractStridedSlice S16384x7168 ![0, 0] (m ((c.tc : Thread nD τ).loc main_arg0)) slices_S16896x7168_S16384x7168_0_0) bitsLt_bf16_f32) shapeCasts_S16384x7168_S8x2048x7168) slices_S8x2048x7168_S8x2048x3072_0_0_2048) slices_S8x2048x3072_S8x2048x1024_0_0_1024) (extractStridedSlice S8x2048x1024 ![0, 0, 2048] (extractStridedSlice S8x2048x3072 ![0, 0, 2048] (shapeCast _ (extf .f32 (extractStridedSlice S16384x7168 ![0, 0] (m ((c.tc : Thread nD τ).loc main_arg0)) slices_S16896x7168_S16384x7168_0_0) bitsLt_bf16_f32) shapeCasts_S16384x7168_S8x2048x7168) slices_S8x2048x7168_S8x2048x3072_0_0_2048) slices_S8x2048x3072_S8x2048x1024_0_0_2048))⟩] concatenates_S8x2x1024_S8x2048x1024_S8x2050x1024_d1

theorem rows_eq (c : Dev nD) (b : Fin 8) (j : Fin 2050) (k : Fin 1024) :
    rows m c (ix3 b j k) = promptB (m ((c : Thread nD τ).loc main_arg0)) b j.val k := by
  unfold rows
  pointwise
  unfold promptB
  by_cases h : j.val < 2
  · rw [if_pos h, dif_pos h]
  · rw [if_neg h, dif_neg h, dif_pos j.isLt]
    have e1 : 2048 + (1024 + k.val) = 3072 + k.val := by omega
    have e2 : 2048 + (2048 + k.val) = 4096 + k.val := by omega
    simp only [e1, e2]

/-- The convolution, tap by tap. -/
def conv (c : Dev nD) (s : FVec Ideal S8x2050x1024 .f32) : FVec Ideal S8x2048x1024 .f32 :=
  addf (addf (mulf (extractStridedSlice S8x2048x1024 ![0, 0, 0] s slices_S8x2050x1024_S8x2048x1024_0_0_0) (broadcastInDim S8x2048x1024 ![0, 1, 2] bcast_S1x1x1024_S8x2048x1024_0_1_2 (broadcastInDim S1x1x1024 ![2] bcast_S1024_S1x1x1024_2 (shapeCast _ (extractStridedSlice S1x1024 ![0, 0] (m ((c.tc : Thread nD τ).loc main_arg1)) slices_S3x1024_S1x1024_0_0) shapeCasts_S1x1024_S1024)))) (mulf (extractStridedSlice S8x2048x1024 ![0, 1, 0] s slices_S8x2050x1024_S8x2048x1024_0_1_0) (broadcastInDim S8x2048x1024 ![0, 1, 2] bcast_S1x1x1024_S8x2048x1024_0_1_2 (broadcastInDim S1x1x1024 ![2] bcast_S1024_S1x1x1024_2 (shapeCast _ (extractStridedSlice S1x1024 ![1, 0] (m ((c.tc : Thread nD τ).loc main_arg1)) slices_S3x1024_S1x1024_1_0) shapeCasts_S1x1024_S1024))))) (mulf (extractStridedSlice S8x2048x1024 ![0, 2, 0] s slices_S8x2050x1024_S8x2048x1024_0_2_0) (broadcastInDim S8x2048x1024 ![0, 1, 2] bcast_S1x1x1024_S8x2048x1024_0_1_2 (broadcastInDim S1x1x1024 ![2] bcast_S1024_S1x1x1024_2 (shapeCast _ (extractStridedSlice S1x1024 ![2, 0] (m ((c.tc : Thread nD τ).loc main_arg1)) slices_S3x1024_S1x1024_2_0) shapeCasts_S1x1024_S1024))))

theorem conv_eq (c : Dev nD) (b : Fin 8) (x : Fin 2048) (k : Fin 1024) :
    conv m c (rows m c) (ix3 b x k) =
      taps3 (promptB (m ((c : Thread nD τ).loc main_arg0)) b) (m ((c : Thread nD τ).loc main_arg1)) x.val k := by
  unfold conv
  pointwise
  rw [rows_eq, rows_eq, rows_eq]
  unfold taps3
  simp only [Nat.add_comm 1, Nat.add_comm 2]

theorem y_named (c : Dev nD) : res_main_v34 m c =
    truncf .bf16 (pad S16896x1024 ![0, 0] ![512, 0] ![0, 0] (shapeCast _ (mulf (extractStridedSlice S8x2048x1024 ![0, 0, 0] (extractStridedSlice S8x2048x3072 ![0, 0, 2048] (shapeCast _ (extf .f32 (extractStridedSlice S16384x7168 ![0, 0] (m ((c.tc : Thread nD τ).loc main_arg0)) slices_S16896x7168_S16384x7168_0_0) bitsLt_bf16_f32) shapeCasts_S16384x7168_S8x2048x7168) slices_S8x2048x7168_S8x2048x3072_0_0_2048) slices_S8x2048x3072_S8x2048x1024_0_0_0) (conv m c (rows m c))) shapeCasts_S8x2048x1024_S16384x1024) (sitofp .f32 (constantI S_ 32 0#32)) pads_S16384x1024_S16896x1024_05120_000 h_S_) bitsLt_bf16_f32 := rfl

set_option maxHeartbeats 2000000 in
theorem y_eq (c : Dev nD) (i : S16896x1024.Idx) (hi : (i 0 : ℕ) < 16384) : (show EReal from res_main_v34 m c i) =
    promptOutB (m ((c : Thread nD τ).loc main_arg0)) (m ((c : Thread nD τ).loc main_arg1)) i := by
  rw [y_named]
  obtain ⟨r, k, rfl⟩ : ∃ (r : Fin 16896) (k : Fin 1024), i = ix2 r k := ⟨i 0, i 1, (ix2_eta i).symm⟩
  have hi : r.val < 16384 := hi
  set_option maxRecDepth 200000 in
  pointwise
  rw [dif_pos hi]
  have ha : (⟨r.val / 2048 * 2048 + r.val % 2048, by omega⟩ : Fin 16896) = r :=
    Fin.ext (by show r.val / 2048 * 2048 + r.val % 2048 = r.val; omega)
  have hb : (⟨r.val / 2048, by omega⟩ : Fin 8) = streamOf r := Fin.ext (by show r.val / 2048 = r.val / 2048 % 8; omega)
  refine congrArg₂ (fun u v : EReal => u * v) (congrArg (fun q => m ((c : Thread nD τ).loc main_arg0) (ix2 q ⟨2048 + k.val, by omega⟩)) ha) ?_
  refine (conv_eq m c ⟨r.val / 2048, by omega⟩ ⟨r.val % 2048, Nat.mod_lt _ (by decide)⟩ k).trans ?_
  exact congrArg (fun q => taps3 (promptB (m ((c : Thread nD τ).loc main_arg0)) q) (m ((c : Thread nD τ).loc main_arg1)) (r.val % 2048) k) hb

theorem run_values (ρ : Dev nD → PrngReg) : θ_run defs (onTc (τ := τ) (main (F := Ideal))) ⟨m, fun _ => 0, ρ⟩ fun r => ∀ c : Dev nD,
    (∀ i : S16896x1024.Idx, (i 0 : ℕ) < 16384 → r.2.mem ((c.tc : Thread nD τ).loc main_v34) i =
      promptOutB (m ((c : Thread nD τ).loc main_arg0)) (m ((c : Thread nD τ).loc main_arg1)) i)
    ∧ (∀ i : S8x8x1024.Idx, 6 ≤ (i 1).val → r.2.mem ((c.tc : Thread nD τ).loc main_v35) i =
      promptB (m ((c : Thread nD τ).loc main_arg0)) (i 0) (2042 + (i 1).val) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run _ _ _).mono (fun r h c => ⟨fun i hi => ?_, fun i hi => ?_, (h c).2.2⟩) (run m ρ)
  · rw [(h c).1]
    exact y_eq m c i hi
  · have e : r.2.mem ((c.tc : Thread nD τ).loc main_v35) = pad S8x8x1024 ![0, 6, 0] ![0, 0, 0] ![0, 0, 0]
        (extractStridedSlice S8x2x1024 ![0, 2048, 0] (rows m c) slices_S8x2050x1024_S8x2x1024_0_2048_0)
        (sitofp .f32 (constantI S_ 32 0#32)) pads_S8x2x1024_S8x8x1024_000_600_000 h_S_ := (h c).2.1
    rw [e]
    obtain ⟨b, x, k, rfl⟩ : ∃ (b : Fin 8) (x : Fin 8) (k : Fin 1024), i = ix3 b x k := ⟨i 0, i 1, i 2, (ix3_eta i).symm⟩
    have hi : 6 ≤ x.val := hi
    pointwise
    rw [dif_pos (by omega), rows_eq]
    show promptB _ _ (2048 + (x.val - 6)) _ = promptB _ _ (2042 + x.val) _
    rw [show 2048 + (x.val - 6) = 2042 + x.val from by omega]

end Cert.MixbPromptRefIdeal.Block

end
-- ==== Proof.MixMasks.lean ====
/-
  The rows on which the mixers' results are compared: a row index a mask selects lies where the mask says.
-/
module

public import proofs.«01_k».proof.On_mixb_prompt_written
public import proofs.«01_k».proof.On_mixb_sample_kept
public import proofs.«01_k».proof.On_mixc_prompt_written
public import proofs.«01_k».proof.On_mixc_sample_kept
public import Idealize.ShloMosaic.Lib.ValueIdx
public import Idealize.ShloMosaic.Lib.Pointwise
public import Idealize.ShloMosaic.PureOps.Ideal

@[expose] public section

set_option maxRecDepth 16384

noncomputable section

open Idealize.ShloMosaic

namespace Cert.On_mixb_prompt_written.Read

open Cert.On_mixb_prompt_written

variable [Cert.On_mixb_prompt_written.Facts]

/-- A row the first mask selects is a prompt row. -/
theorem prompt (z : FVec Ideal S16896x7168 .bf16) (w : FVec Ideal S3x1024 .f32) (i : S16896x1024.Idx)
    (h : (Cert.On_mixb_prompt_written.fn (F := Ideal) z w).1 i = 1#1) : (i 0 : ℕ) < 16384 := by
  revert h
  pointwise [Cert.On_mixb_prompt_written.fn]
  exact (by decide +kernel : ∀ r : Fin 16896, IntOp.cmpi CmpIPredicate.slt (BitVec.ofNat 32 r.val) 16384#32 = 1#1 → r.val < 16384) (i 0)

/-- A history row the second mask selects is one of the last two. -/
theorem kept (z : FVec Ideal S16896x7168 .bf16) (w : FVec Ideal S3x1024 .f32) (i : S8x8x1024.Idx)
    (h : (Cert.On_mixb_prompt_written.fn (F := Ideal) z w).2 i = 1#1) : 6 ≤ (i 1).val := by
  revert h
  pointwise [Cert.On_mixb_prompt_written.fn]
  exact (by decide +kernel : ∀ r : Fin 8, IntOp.cmpi CmpIPredicate.sge (BitVec.ofNat 32 r.val) 6#32 = 1#1 → 6 ≤ r.val) (i 1)

end Cert.On_mixb_prompt_written.Read

namespace Cert.On_mixb_sample_kept.Read

open Cert.On_mixb_sample_kept

variable [Cert.On_mixb_sample_kept.Facts]

/-- A history row the second mask selects is one of the last two. -/
theorem kept (z : FVec Ideal S16896x7168 .bf16) (H : FVec Ideal S16x2x1024 .f32) (w : FVec Ideal S3x1024 .f32) (o : FVec Ideal S16896x1024 .bf16)
    (i : S16x8x1024.Idx) (h : (Cert.On_mixb_sample_kept.fn (F := Ideal) z H w o).2 i = 1#1) : 6 ≤ (i 1).val := by
  revert h
  pointwise [Cert.On_mixb_sample_kept.fn]
  exact (by decide +kernel : ∀ r : Fin 8, IntOp.cmpi CmpIPredicate.sge (BitVec.ofNat 32 r.val) 6#32 = 1#1 → 6 ≤ r.val) (i 1)

end Cert.On_mixb_sample_kept.Read

namespace Cert.On_mixc_prompt_written.Read

open Cert.On_mixc_prompt_written

variable [Cert.On_mixc_prompt_written.Facts]

/-- A row the first mask selects is a prompt row. -/
theorem prompt (z : FVec Ideal S16896x7168 .bf16) (w : FVec Ideal S31x1024 .f32) (a b d : FVec Ideal S1024 .f32) (i : S16896x1024.Idx)
    (h : (Cert.On_mixc_prompt_written.fn (F := Ideal) z w a b d).1 i = 1#1) : (i 0 : ℕ) < 16384 := by
  revert h
  pointwise [Cert.On_mixc_prompt_written.fn]
  exact (by decide +kernel : ∀ r : Fin 16896, IntOp.cmpi CmpIPredicate.slt (BitVec.ofNat 32 r.val) 16384#32 = 1#1 → r.val < 16384) (i 0)

/-- A history row the second mask selects is not one of the first two. -/
theorem kept (z : FVec Ideal S16896x7168 .bf16) (w : FVec Ideal S31x1024 .f32) (a b d : FVec Ideal S1024 .f32) (i : S8x32x1024.Idx)
    (h : (Cert.On_mixc_prompt_written.fn (F := Ideal) z w a b d).2 i = 1#1) : 2 ≤ (i 1).val := by
  revert h
  pointwise [Cert.On_mixc_prompt_written.fn]
  exact (by decide +kernel : ∀ r : Fin 32, IntOp.cmpi CmpIPredicate.sge (BitVec.ofNat 32 r.val) 2#32 = 1#1 → 2 ≤ r.val) (i 1)

end Cert.On_mixc_prompt_written.Read

namespace Cert.On_mixc_sample_kept.Read

open Cert.On_mixc_sample_kept

variable [Cert.On_mixc_sample_kept.Facts]

/-- A history row the second mask selects is not one of the first two. -/
theorem kept (z : FVec Ideal S16896x7168 .bf16) (H : FVec Ideal S16x30x1024 .f32) (w : FVec Ideal S31x1024 .f32) (a b d : FVec Ideal S1024 .f32)
    (o : FVec Ideal S16896x1024 .bf16) (i : S16x32x1024.Idx) (h : (Cert.On_mixc_sample_kept.fn (F := Ideal) z H w a b d o).2 i = 1#1) : 2 ≤ (i 1).val := by
  revert h
  pointwise [Cert.On_mixc_sample_kept.fn]
  exact (by decide +kernel : ∀ r : Fin 32, IntOp.cmpi CmpIPredicate.sge (BitVec.ofNat 32 r.val) 2#32 = 1#1 → 2 ≤ r.val) (i 1)

end Cert.On_mixc_sample_kept.Read

end
-- ==== Proof.LongConv.lean ====
/-
  The long convolution of 31 taps with its layer norm: one row's function, and the vector operations of a block of 32 rows
  that compute it entry by entry.
-/
module

public import Idealize.ShloMosaic.Lib.Pipeline.ValueKit
public import Idealize.ShloMosaic.Lib.ValueIdx
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.LongConv

/-- A sum of 31 products, from the first to the last. -/
def taps31 (a b : Fin 31 → EReal) : EReal :=
  ((((((((((((((((((((((((((((((a 0 * b 0 + a 1 * b 1) + a 2 * b 2) + a 3 * b 3) + a 4 * b 4) + a 5 * b 5) + a 6 * b 6) + a 7 * b 7) + a 8 * b 8) + a 9 * b 9) + a 10 * b 10) + a 11 * b 11) + a 12 * b 12) + a 13 * b 13) + a 14 * b 14) + a 15 * b 15) + a 16 * b 16) + a 17 * b 17) + a 18 * b 18) + a 19 * b 19) + a 20 * b 20) + a 21 * b 21) + a 22 * b 22) + a 23 * b 23) + a 24 * b 24) + a 25 * b 25) + a 26 * b 26) + a 27 * b 27) + a 28 * b 28) + a 29 * b 29) + a 30 * b 30)

/-- The mean of a row. -/
def mean (z : Fin 1024 → EReal) : EReal := Ideal.div (∑ j, z j) (Ideal.ofBits .f32 0x44800000#32)

/-- One entry of a row's layer norm. -/
def norm (z g b : Fin 1024 → EReal) (k : Fin 1024) : EReal :=
  (z k - mean z) * Ideal.rsqrt (Ideal.div (∑ j, (z j - mean z) * (z j - mean z)) (Ideal.ofBits .f32 0x44800000#32) + Ideal.ofBits .f32 0x358637BD#32) * g k + b k

/-- One entry of the layer norm's swish. -/
def swish (z g b : Fin 1024 → EReal) (k : Fin 1024) : EReal := norm z g b k * Ideal.logistic (norm z g b k)

abbrev S32x1024 : Shape := ⟨2, ![32, 1024]⟩
abbrev S1x1024 : Shape := ⟨2, ![1, 1024]⟩
abbrev S32 : Shape := ⟨1, ![32]⟩
abbrev S32x1 : Shape := ⟨2, ![32, 1]⟩

/-- The 31 products of a block of rows, added up. -/
def accV (hb : S1x1024.Broadcasts S32x1024) (v : Fin 31 → FVec Ideal S32x1024 .f32) (w : Fin 31 → FVec Ideal S1x1024 .f32) : FVec Ideal S32x1024 .f32 :=
  addf (addf (addf (addf (addf (addf (addf (addf (addf (addf (addf (addf (addf (addf (addf (addf (addf (addf (addf (addf (addf (addf (addf (addf (addf (addf (addf (addf (addf (addf (mulf (v 0) (broadcastTo S32x1024 (w 0) hb)) (mulf (v 1) (broadcastTo S32x1024 (w 1) hb))) (mulf (v 2) (broadcastTo S32x1024 (w 2) hb))) (mulf (v 3) (broadcastTo S32x1024 (w 3) hb))) (mulf (v 4) (broadcastTo S32x1024 (w 4) hb))) (mulf (v 5) (broadcastTo S32x1024 (w 5) hb))) (mulf (v 6) (broadcastTo S32x1024 (w 6) hb))) (mulf (v 7) (broadcastTo S32x1024 (w 7) hb))) (mulf (v 8) (broadcastTo S32x1024 (w 8) hb))) (mulf (v 9) (broadcastTo S32x1024 (w 9) hb))) (mulf (v 10) (broadcastTo S32x1024 (w 10) hb))) (mulf (v 11) (broadcastTo S32x1024 (w 11) hb))) (mulf (v 12) (broadcastTo S32x1024 (w 12) hb))) (mulf (v 13) (broadcastTo S32x1024 (w 13) hb))) (mulf (v 14) (broadcastTo S32x1024 (w 14) hb))) (mulf (v 15) (broadcastTo S32x1024 (w 15) hb))) (mulf (v 16) (broadcastTo S32x1024 (w 16) hb))) (mulf (v 17) (broadcastTo S32x1024 (w 17) hb))) (mulf (v 18) (broadcastTo S32x1024 (w 18) hb))) (mulf (v 19) (broadcastTo S32x1024 (w 19) hb))) (mulf (v 20) (broadcastTo S32x1024 (w 20) hb))) (mulf (v 21) (broadcastTo S32x1024 (w 21) hb))) (mulf (v 22) (broadcastTo S32x1024 (w 22) hb))) (mulf (v 23) (broadcastTo S32x1024 (w 23) hb))) (mulf (v 24) (broadcastTo S32x1024 (w 24) hb))) (mulf (v 25) (broadcastTo S32x1024 (w 25) hb))) (mulf (v 26) (broadcastTo S32x1024 (w 26) hb))) (mulf (v 27) (broadcastTo S32x1024 (w 27) hb))) (mulf (v 28) (broadcastTo S32x1024 (w 28) hb))) (mulf (v 29) (broadcastTo S32x1024 (w 29) hb))) (mulf (v 30) (broadcastTo S32x1024 (w 30) hb))

theorem accV_apply (hb : S1x1024.Broadcasts S32x1024) (v : Fin 31 → FVec Ideal S32x1024 .f32) (w : Fin 31 → FVec Ideal S1x1024 .f32) (r : Fin 32) (k : Fin 1024) :
    accV hb v w (ix2 r k) = taps31 (fun t => v t (ix2 r k)) (fun t => w t (ix2 0 k)) := by
  unfold accV taps31
  pointwise

/-- A block of rows with the bias on. -/
def biasV (hb : S1x1024.Broadcasts S32x1024) (hs : S1x1024.ShapeCasts S1x1024) (z : FVec Ideal S32x1024 .f32) (cb : FVec Ideal S1x1024 .f32) : FVec Ideal S32x1024 .f32 :=
  addf z (broadcastTo S32x1024 (shapeCast S1x1024 cb hs) hb)

/-- A block of rows with each row's mean taken off. -/
def cenV (hr : S32x1024.Reduces [1] S32) (h1 : S32.ShapeCasts S32x1) (hm : S32x1.Broadcasts S32x1024) (z : FVec Ideal S32x1024 .f32) : FVec Ideal S32x1024 .f32 :=
  subf z (broadcastTo S32x1024 (divf (shapeCast S32x1 (multiReduction .add [1] S32 z 0x00000000#32 hr (.inl rfl) rfl) h1) (broadcast S32x1 (Scalar.ofBits .f32 0x44800000#32))) hm)

theorem cenV_apply (hr : S32x1024.Reduces [1] S32) (h1 : S32.ShapeCasts S32x1) (hm : S32x1.Broadcasts S32x1024) (z : FVec Ideal S32x1024 .f32) (r : Fin 32) (k : Fin 1024) :
    cenV hr h1 hm z (ix2 r k) = z (ix2 r k) - mean (fun j => z (ix2 r j)) := by
  unfold cenV mean
  pointwise

/-- The layer norm of a block of rows with their means taken off. -/
def normV (hb : S1x1024.Broadcasts S32x1024) (hs : S1x1024.ShapeCasts S1x1024) (hr : S32x1024.Reduces [1] S32) (h1 : S32.ShapeCasts S32x1) (hm : S32x1.Broadcasts S32x1024)
    (d : FVec Ideal S32x1024 .f32) (lg lb : FVec Ideal S1x1024 .f32) : FVec Ideal S32x1024 .f32 :=
  addf (mulf (mulf d (broadcastTo S32x1024 (rsqrt (addf (divf (shapeCast S32x1 (multiReduction .add [1] S32 (mulf d d) 0x00000000#32 hr (.inl rfl) rfl) h1) (broadcast S32x1 (Scalar.ofBits .f32 0x44800000#32)))
    (broadcast S32x1 (Scalar.ofBits .f32 0x358637BD#32)))) hm)) (broadcastTo S32x1024 (shapeCast S1x1024 lg hs) hb)) (broadcastTo S32x1024 (shapeCast S1x1024 lb hs) hb)

theorem normV_apply (hb : S1x1024.Broadcasts S32x1024) (hs : S1x1024.ShapeCasts S1x1024) (hr : S32x1024.Reduces [1] S32) (h1 : S32.ShapeCasts S32x1) (hm : S32x1.Broadcasts S32x1024)
    (d : FVec Ideal S32x1024 .f32) (lg lb : FVec Ideal S1x1024 .f32) (r : Fin 32) (k : Fin 1024) :
    normV hb hs hr h1 hm d lg lb (ix2 r k) =
      d (ix2 r k) * Ideal.rsqrt (Ideal.div (∑ j, d (ix2 r j) * d (ix2 r j)) (Ideal.ofBits .f32 0x44800000#32) + Ideal.ofBits .f32 0x358637BD#32) * lg (ix2 0 k) + lb (ix2 0 k) := by
  unfold normV
  pointwise

/-- What a block of rows becomes: bias, layer norm, swish. -/
def outV (hb : S1x1024.Broadcasts S32x1024) (hs : S1x1024.ShapeCasts S1x1024) (hr : S32x1024.Reduces [1] S32) (h1 : S32.ShapeCasts S32x1) (hm : S32x1.Broadcasts S32x1024)
    (hw : FTy.bits .bf16 < FTy.bits .f32) (z : FVec Ideal S32x1024 .f32) (cb lg lb : FVec Ideal S1x1024 .f32) : FVec Ideal S32x1024 .bf16 :=
  truncf .bf16 (mulf (normV hb hs hr h1 hm (cenV hr h1 hm (biasV hb hs z cb)) lg lb) (logistic (normV hb hs hr h1 hm (cenV hr h1 hm (biasV hb hs z cb)) lg lb))) hw

theorem outV_apply (hb : S1x1024.Broadcasts S32x1024) (hs : S1x1024.ShapeCasts S1x1024) (hr : S32x1024.Reduces [1] S32) (h1 : S32.ShapeCasts S32x1) (hm : S32x1.Broadcasts S32x1024)
    (hw : FTy.bits .bf16 < FTy.bits .f32) (z : FVec Ideal S32x1024 .f32) (cb lg lb : FVec Ideal S1x1024 .f32) (r : Fin 32) (k : Fin 1024) :
    outV hb hs hr h1 hm hw z cb lg lb (ix2 r k) =
      swish (fun j => z (ix2 r j) + cb (ix2 0 j)) (fun j => lg (ix2 0 j)) (fun j => lb (ix2 0 j)) k := by
  have e : ∀ j, biasV hb hs z cb (ix2 r j) = z (ix2 r j) + cb (ix2 0 j) := fun j => by
    unfold biasV
    pointwise
  unfold outV
  pointwise
  simp only [normV_apply, cenV_apply, e]
  rfl

/-- Row x of what a stream of rows becomes, of which row j is f j. -/
def outRow (f : ℕ → Fin 1024 → EReal) (W : (⟨2, ![31, 1024]⟩ : Shape).Idx → EReal) (cb lg lb : (⟨1, ![1024]⟩ : Shape).Idx → EReal) (x : ℕ) (k : Fin 1024) : EReal :=
  swish (fun j => taps31 (fun t => f (x + t.val) j) (fun t => W (ix2 t j)) + cb (ix1 j)) (fun j => lg (ix1 j)) (fun j => lb (ix1 j)) k

/-- The rows mixer C convolves in sample b: the thirty kept from before, then the gated rows of the sample. -/
def sampleC (Z : (⟨2, ![16896, 7168]⟩ : Shape).Idx → EReal) (H : (⟨3, ![16, 30, 1024]⟩ : Shape).Idx → EReal) (b : Fin 16) (j : ℕ) (k : Fin 1024) : EReal :=
  if h : j < 30 then H (ix3 b ⟨j, h⟩ k)
  else if h : j < 62 then
    Z (ix2 ⟨16384 + b.val * 32 + (j - 30), by omega⟩ ⟨5120 + k.val, by omega⟩) * Ideal.logistic (Z (ix2 ⟨16384 + b.val * 32 + (j - 30), by omega⟩ ⟨6144 + k.val, by omega⟩))
  else 0

/-- The rows mixer C convolves in stream b of the prompt: thirty of zeros, then the gated rows of the stream. -/
def promptC (Z : (⟨2, ![16896, 7168]⟩ : Shape).Idx → EReal) (b : Fin 8) (j : ℕ) (k : Fin 1024) : EReal :=
  if j < 30 then 0
  else if h : j < 2078 then
    Z (ix2 ⟨b.val * 2048 + (j - 30), by omega⟩ ⟨5120 + k.val, by omega⟩) * Ideal.logistic (Z (ix2 ⟨b.val * 2048 + (j - 30), by omega⟩ ⟨6144 + k.val, by omega⟩))
  else 0

end Cert.LongConv

end
-- ==== Proof.MixcSample.lean ====
/-
  The samples' long convolution: the call and its reference convolve the same rows, those kept from before and the gated
  new ones, with the same 31 taps, normalise each row alike, and keep the same last rows.
-/
module

public import proofs.«01_k».proof.Proof.Gen.MixcSampleIdeal.Value
public import Idealize.ShloMosaic.Lib.Pipeline.ValueKit
public import Idealize.ShloMosaic.Lib.ValueIdx
public import Idealize.ShloMosaic.Lib.Pointwise
public import Idealize.ShloMosaic.PureOps.Ideal
public import proofs.«01_k».proof.Proof.ConvRows
public import proofs.«01_k».proof.Proof.LongConv
public import proofs.«01_k».proof.Proof.Gen.MixcSampleRefIdeal.Run

@[expose] public section

set_option maxRecDepth 16384

noncomputable section

namespace Cert.MixcSampleIdeal.Block

open Cert.MixcSampleIdeal Cert.MixcSampleIdeal.Gen Idealize.ShloMosaic Idealize.ShloMosaic.TcCoe Idealize.SL.Sem
open Cert.Conv (read_two sampleOf)
open Cert.LongConv (sampleC outRow accV outV accV_apply outV_apply taps31 swish)

variable (m : (ℓ : Loc nD τ sig) → Buf (Elt Ideal) ℓ)

/-- The blocks each grid point reads and writes. -/
theorem idx : ∀ t : Fin cfg0.N, win0_0.index t = ![512 + t.val, 5] ∧ win0_1.index t = ![512 + t.val, 6] ∧ win0_2.index t = ![t.val, 0, 0] ∧
    win0_3.index t = ![0, 0] ∧ win0_4.index t = ![0, 0] ∧ win0_5.index t = ![0, 0] ∧ win0_6.index t = ![0, 0] ∧
    win0_7.index t = ![512 + t.val, 0] ∧ win0_8.index t = ![t.val, 0, 0] :=
  (by decide +kernel : ∀ t : Fin grid0.N, _)

theorem point_lt (t : Fin cfg0.N) : t.val < 16 := by
  have := t.isLt
  have : cfg0.N = 16 := N_0
  omega

/-- The row of the arrays behind a row of a block. -/
def row (t : Fin cfg0.N) (r : Fin 32) : Fin 16896 := ⟨16384 + t.val * 32 + r.val, by have := point_lt t; omega⟩

theorem iblk_a (c : Dev nD) (t : Fin cfg0.N) (r : Fin 32) (k : Fin 1024) :
    iblk m c 0 t (ix2 r k) = m ((c : Thread nD τ).loc main_arg0) (ix2 (row t r) ⟨5120 + k.val, by omega⟩) := by
  rw [← V_main_arg0 m c]
  blk_point [iblk, idx t, row]

theorem iblk_g (c : Dev nD) (t : Fin cfg0.N) (r : Fin 32) (k : Fin 1024) :
    iblk m c 1 t (ix2 r k) = m ((c : Thread nD τ).loc main_arg0) (ix2 (row t r) ⟨6144 + k.val, by omega⟩) := by
  rw [← V_main_arg0 m c]
  blk_point [iblk, idx t, row]

theorem iblk_p (c : Dev nD) (t : Fin cfg0.N) (q : Fin 1) (r : Fin 32) (k : Fin 1024) :
    iblk m c 2 t (ix3 q r k) = V m c (Pipeline.arrRef spec0 2) (ix3 ⟨t.val, point_lt t⟩ r k) := by
  blk_point [iblk, idx t, row]

theorem iblk_w (c : Dev nD) (t : Fin cfg0.N) (j : Fin 31) (k : Fin 1024) :
    iblk m c 3 t (ix2 j k) = m ((c : Thread nD τ).loc main_arg2) (ix2 j k) := by
  rw [← V_main_arg2 m c]
  blk_point [iblk, idx t, row]

theorem V_cb (c : Dev nD) (k : Fin 1024) :
    V m c (Pipeline.arrRef spec0 4) (ix2 0 k) = m ((c : Thread nD τ).loc main_arg3) (ix1 k) := by
  dsimp only [V]
  simp only [hostOps0, hostOps0_1, hostOps0_2, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  pointwise

theorem iblk_cb (c : Dev nD) (t : Fin cfg0.N) (k : Fin 1024) :
    iblk m c 4 t (ix2 0 k) = m ((c : Thread nD τ).loc main_arg3) (ix1 k) := by
  refine Eq.trans ?_ (V_cb m c k)
  blk_point [iblk, idx t]

theorem V_lg (c : Dev nD) (k : Fin 1024) :
    V m c (Pipeline.arrRef spec0 5) (ix2 0 k) = m ((c : Thread nD τ).loc main_arg4) (ix1 k) := by
  dsimp only [V]
  simp only [hostOps0, hostOps0_1, hostOps0_2, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  pointwise

theorem iblk_lg (c : Dev nD) (t : Fin cfg0.N) (k : Fin 1024) :
    iblk m c 5 t (ix2 0 k) = m ((c : Thread nD τ).loc main_arg4) (ix1 k) := by
  refine Eq.trans ?_ (V_lg m c k)
  blk_point [iblk, idx t]

theorem V_lb (c : Dev nD) (k : Fin 1024) :
    V m c (Pipeline.arrRef spec0 6) (ix2 0 k) = m ((c : Thread nD τ).loc main_arg5) (ix1 k) := by
  dsimp only [V]
  simp only [hostOps0, hostOps0_1, hostOps0_2, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  pointwise

theorem iblk_lb (c : Dev nD) (t : Fin cfg0.N) (k : Fin 1024) :
    iblk m c 6 t (ix2 0 k) = m ((c : Thread nD τ).loc main_arg5) (ix1 k) := by
  refine Eq.trans ?_ (V_lb m c k)
  blk_point [iblk, idx t]

set_option maxHeartbeats 4000000 in
/-- The rows kept from before, as the call receives them: two rows of zeros above them. -/
theorem padded (c : Dev nD) (b : Fin 16) (r : Fin 32) (k : Fin 1024) :
    V m c (Pipeline.arrRef spec0 2) (ix3 b r k) = if h : r.val < 2 then (0 : EReal) else m ((c : Thread nD τ).loc main_arg1) (ix3 b ⟨r.val - 2, by omega⟩ k) := by
  dsimp only [V]
  simp only [hostOps0, hostOps0_1, hostOps0_2, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  pointwise
  by_cases h : r.val < 2
  · rw [dif_neg (by omega), dif_pos h]
    show (((0#32 : BitVec 32).toInt : ℝ) : EReal) = 0
    simp
  · rw [dif_pos (by omega), dif_neg h]

/-- The rows the grid point's sample convolves. -/
def S (c : Dev nD) (t : Fin cfg0.N) : ℕ → Fin 1024 → EReal :=
  sampleC (m ((c : Thread nD τ).loc main_arg0)) (m ((c : Thread nD τ).loc main_arg1)) ⟨t.val, point_lt t⟩

/-- The rows of the scratch: two of zeros, then the rows the sample convolves. -/
def scr (c : Dev nD) (t : Fin cfg0.N) (j : ℕ) (k : Fin 1024) : EReal := if j < 2 then 0 else S m c t (j - 2) k

theorem scr_lo (c : Dev nD) (t : Fin cfg0.N) (j : Fin 32) (k : Fin 1024) : k0_pay2 (iblk m c 2 t) (ix2 j k) = scr m c t j.val k := by
  unfold k0_pay2
  pointwise
  rw [iblk_p, padded]
  unfold scr S sampleC
  by_cases h : j.val < 2
  · rw [dif_pos h, if_pos h]
  · rw [dif_neg h, if_neg h, dif_pos (by omega)]

theorem scr_hi (c : Dev nD) (t : Fin cfg0.N) (j : Fin 32) (k : Fin 1024) : k0_pay3 (iblk m c 0 t) (iblk m c 1 t) (ix2 j k) = scr m c t (32 + j.val) k := by
  unfold k0_pay3
  pointwise
  rw [iblk_a, iblk_g]
  unfold scr S sampleC
  rw [if_neg (by omega), dif_neg (by omega), dif_pos (by omega)]
  have e : row t j = ⟨16384 + t.val * 32 + (32 + j.val - 2 - 30), by have := point_lt t; omega⟩ := Fin.ext (by show 16384 + t.val * 32 + j.val = 16384 + t.val * 32 + (32 + j.val - 2 - 30); omega)
  rw [e]

theorem scr_add (c : Dev nD) (t : Fin cfg0.N) (j : ℕ) (k : Fin 1024) : scr m c t (2 + j) k = S m c t j k := by
  unfold scr
  rw [if_neg (by omega), show 2 + j - 2 = j from by omega]

theorem inb_s (j : Fin 31) : ∀ a, (![2 + j.val, 0] : Fin 2 → ℕ) a + S32x1024.size a ≤ S64x1024.size a := fun a => by
  have := j.isLt
  match a with
  | ⟨0, _⟩ => show 2 + j.val + 32 ≤ 64; omega
  | ⟨1, _⟩ => show 0 + 1024 ≤ 1024; omega

theorem inb_w (j : Fin 31) : ∀ a, (![j.val, 0] : Fin 2 → ℕ) a + S1x1024.size a ≤ S31x1024.size a := fun a => by
  have := j.isLt
  match a with
  | ⟨0, _⟩ => show j.val + 1 ≤ 31; omega
  | ⟨1, _⟩ => show 0 + 1024 ≤ 1024; omega

/-- The rows that a tap reads of the scratch. -/
def rd (c : Dev nD) (t : Fin cfg0.N) (j : Fin 31) : Vec Ideal S32x1024 .f32 :=
  (View.whole cc0_scratch0).readCov (Val := Elt Ideal)
    [⟨Rect.unit (s := S64x1024) ![32, 0] S32x1024.size inb_S64x1024_S32x1024_32_0, k0_pay3 (iblk m c 0 t) (iblk m c 1 t)⟩,
      ⟨Rect.unit (s := S64x1024) ![0, 0] S32x1024.size inb_S64x1024_S32x1024_0_0, k0_pay2 (iblk m c 2 t)⟩]
    (Rect.unit (s := S64x1024) ![2 + j.val, 0] S32x1024.size (inb_s j)).toLoadRect

/-- A tap's weights. -/
def wt (c : Dev nD) (t : Fin cfg0.N) (j : Fin 31) : Vec Ideal S1x1024 .f32 :=
  View.ld (iblk m c 3 t) (Rect.unit (s := S31x1024) ![j.val, 0] S1x1024.size (inb_w j))

theorem rd_apply (c : Dev nD) (t : Fin cfg0.N) (j : Fin 31) (r : Fin 32) (k : Fin 1024) : rd m c t j (ix2 r k) = S m c t (r.val + j.val) k := by
  refine (read_two (by rfl) _ _ _ _ _ _ _ (scr_lo m c t) (scr_hi m c t) _ _).trans ?_
  rw [show 2 + j.val + r.val = 2 + (r.val + j.val) from by omega, scr_add]

theorem wt_apply (c : Dev nD) (t : Fin cfg0.N) (j : Fin 31) (k : Fin 1024) : wt m c t j (ix2 0 k) = m ((c : Thread nD τ).loc main_arg2) (ix2 j k) := by
  refine Eq.trans (congrArg (iblk m c 3 t) ?_) (iblk_w m c t j k)
  funext a
  refine Fin.ext ?_
  match a with
  | ⟨0, _⟩ => show j.val + 1 * 0 = j.val; omega
  | ⟨1, _⟩ => show 0 + 1 * k.val = k.val; omega

/-- What a grid point writes of the output. -/
theorem block (c : Dev nD) (t : Fin cfg0.N) (y : S32x1024.Idx) :
    (show Vec Ideal S32x1024 .bf16 from (dats m 0 c).after 7 t) y =
      outRow (S m c t) (m ((c : Thread nD τ).loc main_arg2)) (m ((c : Thread nD τ).loc main_arg3)) (m ((c : Thread nD τ).loc main_arg4)) (m ((c : Thread nD τ).loc main_arg5)) (y 0).val (y 1) := by
  obtain ⟨r, k, rfl⟩ : ∃ (r : Fin 32) (k : Fin 1024), y = ix2 r k := ⟨y 0, y 1, (ix2_eta y).symm⟩
  dsimp only
  rw [after0_7]
  unfold outsAt0
  frame_out
  change outV broadcasts_S1x1024_S32x1024 shapeCasts_S1x1024_S1x1024 reduces_S32x1024_S32 shapeCasts_S32_S32x1 broadcasts_S32x1_S32x1024 bitsLt_bf16_f32
    (accV broadcasts_S1x1024_S32x1024 (rd m c t) (wt m c t)) (iblk m c 4 t) (iblk m c 5 t) (iblk m c 6 t) (ix2 r k) = _
  rw [outV_apply]
  simp only [accV_apply, rd_apply, wt_apply, iblk_cb, iblk_lg, iblk_lb]
  rfl

/-- What a grid point writes of the history. -/
theorem block8 (c : Dev nD) (t : Fin cfg0.N) (y : S1x32x1024.Idx) :
    (show Vec Ideal S1x32x1024 .f32 from (dats m 0 c).after 8 t) y = scr m c t (32 + (y 1).val) (y 2) := by
  obtain ⟨q, r, k, rfl⟩ : ∃ (q : Fin 1) (r : Fin 32) (k : Fin 1024), y = ix3 q r k := ⟨y 0, y 1, y 2, (ix3_eta y).symm⟩
  dsimp only
  rw [after0_8]
  unfold outsAt0
  frame_out
  unfold k0_pay1
  pointwise
  rw [read_two (by rfl) _ _ _ _ _ _ _ (scr_lo m c t) (scr_hi m c t)]

/-- The output on the rows of the samples. -/
def G (c : Dev nD) : S16896x1024.Idx → EReal := fun i =>
  outRow (sampleC (m ((c : Thread nD τ).loc main_arg0)) (m ((c : Thread nD τ).loc main_arg1)) (sampleOf (i 0)))
    (m ((c : Thread nD τ).loc main_arg2)) (m ((c : Thread nD τ).loc main_arg3)) (m ((c : Thread nD τ).loc main_arg4)) (m ((c : Thread nD τ).loc main_arg5)) ((i 0).val % 32) (i 1)

theorem arr7 (c : Dev nD) : (dats m 0 c).arrAt 7 cfg0.N =
    fun i => if 16384 ≤ (i 0 : ℕ) then G m c i else (dats m 0 c).A 7 i := by
  refine (dats m 0 c).arrAt_eq_of_coversWhere 7 _ (fun β => 512 ≤ β 0) (by decide +kernel) (fun t hf y => ?_)
    (fun j => by blk_simp [Pipeline.Window.cell_apply]; omega)
  blk_simp
  have e0 : ((View.whole main_v4_0).slice (win0_7.rect t)).emb y = ix2 (row t (y 0)) (y 1) := by
    blk_ext [idx t, row]
  refine (block m c t y).trans (Eq.trans ?_ (congrArg (G m c) e0).symm)
  have ht := point_lt t
  have hy : (y 0).val < 32 := (y 0).isLt
  have e1 : sampleOf (row t (y 0)) = ⟨t.val, point_lt t⟩ := Fin.ext (by show (16384 + t.val * 32 + (y 0).val - 16384) / 32 = t.val; omega)
  have e2 : (row t (y 0)).val % 32 = (y 0).val := by show (16384 + t.val * 32 + (y 0).val) % 32 = (y 0).val; omega
  show _ = outRow (sampleC _ _ (sampleOf (row t (y 0)))) _ _ _ _ ((row t (y 0)).val % 32) (y 1)
  rw [e1, e2]
  rfl

/-- The call finds in its output buffer the rows it is given. -/
theorem entry (c : Dev nD) (i : S16896x1024.Idx) : (dats m 0 c).A 7 i = m ((c : Thread nD τ).loc main_arg6) i := by
  show V m c main_v4_0 i = _
  dsimp only [V]
  simp only [hostOps0, hostOps0_1, hostOps0_2, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  rfl

/-- The history a sample leaves: the last 32 of its rows, of which the first two may be any. -/
def G8 (c : Dev nD) : S16x32x1024.Idx → EReal := fun i =>
  sampleC (m ((c : Thread nD τ).loc main_arg0)) (m ((c : Thread nD τ).loc main_arg1)) (i 0) (30 + (i 1).val) (i 2)

theorem arr8 (c : Dev nD) : (dats m 0 c).arrAt 8 cfg0.N = G8 m c := by
  refine (dats m 0 c).arrAt_eq_of_covers 8 _ (by decide +kernel) fun t hf y => ?_
  blk_simp
  have e0 : ((View.whole main_v4_1).slice (win0_8.rect t)).emb y = ix3 ⟨t.val, point_lt t⟩ (y 1) (y 2) := by
    blk_ext [idx t, row]
  refine (block8 m c t y).trans (Eq.trans ?_ (congrArg (G8 m c) e0).symm)
  rw [show 32 + (y 1).val = 2 + (30 + (y 1).val) from by omega]
  exact scr_add m c t _ _

end Cert.MixcSampleIdeal.Block

namespace Cert.MixcSampleRefIdeal.Block

open Cert.MixcSampleRefIdeal Cert.MixcSampleRefIdeal.Gen Cert.MixcSampleRefIdeal.Value Idealize.ShloMosaic Idealize.ShloMosaic.TcCoe Idealize.SL.Sem
open Cert.Conv (sampleOf)
open Idealize.ShloMosaic.StableHlo (launchContents)
open Cert.LongConv (sampleC outRow taps31 mean norm swish)

variable (m : (ℓ : Loc nD τ sig) → Buf (Elt Ideal) ℓ)

theorem rows_eq (c : Dev nD) (b : Fin 16) (j : Fin 62) (k : Fin 1024) :
    res_main_v13 (launchContents m c) (ix3 b j k) = sampleC (m ((c : Thread nD τ).loc main_arg0)) (m ((c : Thread nD τ).loc main_arg1)) b j.val k := by
  unfold res_main_v13 res_main_v3
  pointwise
  unfold sampleC
  by_cases h : j.val < 30
  · rw [dif_pos h, dif_pos h]
  · rw [dif_neg h, dif_neg h, dif_pos j.isLt]
    have e : 16384 + (b.val * 32 + (j.val - 30)) = 16384 + b.val * 32 + (j.val - 30) := by omega
    have e2 : 5120 + (1024 + k.val) = 6144 + k.val := by omega
    simp only [e, e2]
    rfl

/-- The convolution's row, with the bias on. -/
def conv (c : Dev nD) (b : Fin 16) (x : ℕ) (k : Fin 1024) : EReal :=
  taps31 (fun t => sampleC (m ((c : Thread nD τ).loc main_arg0)) (m ((c : Thread nD τ).loc main_arg1)) b (x + t.val) k) (fun t => (m ((c : Thread nD τ).loc main_arg2)) (ix2 t k)) + (m ((c : Thread nD τ).loc main_arg3)) (ix1 k)

set_option maxHeartbeats 8000000 in
theorem conv_eq (c : Dev nD) (b : Fin 16) (x : Fin 32) (k : Fin 1024) : res_main_v233 (launchContents m c) (ix3 b x k) = conv m c b x.val k := by
  unfold res_main_v233 res_main_v166 res_main_v89
  pointwise
  simp only [rows_eq]
  unfold conv taps31
  simp only [Nat.add_comm 1, Nat.add_comm 2, Nat.add_comm 3, Nat.add_comm 4, Nat.add_comm 5, Nat.add_comm 6, Nat.add_comm 7, Nat.add_comm 8, Nat.add_comm 9, Nat.add_comm 10, Nat.add_comm 11, Nat.add_comm 12, Nat.add_comm 13, Nat.add_comm 14, Nat.add_comm 15, Nat.add_comm 16, Nat.add_comm 17, Nat.add_comm 18, Nat.add_comm 19, Nat.add_comm 20, Nat.add_comm 21, Nat.add_comm 22, Nat.add_comm 23, Nat.add_comm 24, Nat.add_comm 25, Nat.add_comm 26, Nat.add_comm 27, Nat.add_comm 28, Nat.add_comm 29, Nat.add_comm 30]
  rfl

theorem mean_eq (c : Dev nD) (b : Fin 16) (x : Fin 32) (q : Fin 1) : res_main_v237 (launchContents m c) (ix3 b x q) = mean (conv m c b x.val) := by
  unfold res_main_v237
  pointwise
  simp only [conv_eq]
  rfl

theorem cen_eq (c : Dev nD) (b : Fin 16) (x : Fin 32) (k : Fin 1024) :
    res_main_v239 (launchContents m c) (ix3 b x k) = conv m c b x.val k - mean (conv m c b x.val) := by
  unfold res_main_v239
  pointwise
  rw [conv_eq, mean_eq]

theorem norm_eq (c : Dev nD) (b : Fin 16) (x : Fin 32) (k : Fin 1024) :
    res_main_v257 (launchContents m c) (ix3 b x k) = norm (conv m c b x.val) (fun j => (m ((c : Thread nD τ).loc main_arg4)) (ix1 j)) (fun j => (m ((c : Thread nD τ).loc main_arg5)) (ix1 j)) k := by
  unfold res_main_v257
  pointwise
  simp only [conv_eq, mean_eq, cen_eq]
  rfl

/-- The reference's output. -/
def Y (c : Dev nD) : FVec Ideal S16896x1024 .bf16 :=
  concatenate S16896x1024 0 [⟨S16384x1024, (extractStridedSlice S16384x1024 ![0, 0] ((launchContents m c) (Proc.devRef .tc main_arg6)) slices_S16896x1024_S16384x1024_0_0)⟩, ⟨S512x1024, (truncf .bf16 (shapeCast _ (mulf (res_main_v257 (launchContents m c)) (Host.divf (broadcastInDim S16x32x1024 ![] bcast_S_S16x32x1024 (constant S_ .f32 0x3F800000#32)) (addf (broadcastInDim S16x32x1024 ![] bcast_S_S16x32x1024 (constant S_ .f32 0x3F800000#32)) (Host.exp (Host.negf (res_main_v257 (launchContents m c))))))) shapeCasts_S16x32x1024_S512x1024) bitsLt_bf16_f32)⟩] concatenates_S16384x1024_S512x1024_S16896x1024_d0

set_option maxHeartbeats 2000000 in
theorem y_eq (c : Dev nD) (i : S16896x1024.Idx) : Y m c i = if 16384 ≤ (i 0 : ℕ) then
    outRow (sampleC (m ((c : Thread nD τ).loc main_arg0)) (m ((c : Thread nD τ).loc main_arg1)) (sampleOf (i 0))) (m ((c : Thread nD τ).loc main_arg2)) (m ((c : Thread nD τ).loc main_arg3)) (m ((c : Thread nD τ).loc main_arg4)) (m ((c : Thread nD τ).loc main_arg5)) ((i 0).val % 32) (i 1)
    else (show EReal from m ((c : Thread nD τ).loc main_arg6) i) := by
  unfold Y
  obtain ⟨r, k, rfl⟩ : ∃ (r : Fin 16896) (k : Fin 1024), i = ix2 r k := ⟨i 0, i 1, (ix2_eta i).symm⟩
  set_option maxRecDepth 200000 in
  pointwise
  by_cases h : r.val < 16384
  · have h2 : ¬ 16384 ≤ r.val := by omega
    rw [dif_pos h, if_neg h2]
  · have h2 : 16384 ≤ r.val := by omega
    rw [dif_neg h, if_pos h2, norm_eq]
    have e2 : (r.val - 16384) % 32 = r.val % 32 := by omega
    refine Eq.trans ?_ (congrArg (fun x => outRow (sampleC (m ((c : Thread nD τ).loc main_arg0)) (m ((c : Thread nD τ).loc main_arg1)) (sampleOf r)) (m ((c : Thread nD τ).loc main_arg2)) (m ((c : Thread nD τ).loc main_arg3)) (m ((c : Thread nD τ).loc main_arg4)) (m ((c : Thread nD τ).loc main_arg5)) x k) e2)
    rfl

theorem run_values (ρ : Dev nD → PrngReg) : θ_run defs (onTc (τ := τ) (main (F := Ideal))) ⟨m, fun _ => 0, ρ⟩ fun r => ∀ c : Dev nD,
    (∀ i : S16896x1024.Idx, r.2.mem ((c.tc : Thread nD τ).loc main_v262) i = (show EReal from if 16384 ≤ (i 0 : ℕ) then
      outRow (sampleC (m ((c : Thread nD τ).loc main_arg0)) (m ((c : Thread nD τ).loc main_arg1)) (sampleOf (i 0))) (m ((c : Thread nD τ).loc main_arg2)) (m ((c : Thread nD τ).loc main_arg3)) (m ((c : Thread nD τ).loc main_arg4)) (m ((c : Thread nD τ).loc main_arg5)) ((i 0).val % 32) (i 1)
      else (show EReal from m ((c : Thread nD τ).loc main_arg6) i)))
    ∧ (∀ i : S16x32x1024.Idx, 2 ≤ (i 1).val → r.2.mem ((c.tc : Thread nD τ).loc main_v263) i =
      sampleC (m ((c : Thread nD τ).loc main_arg0)) (m ((c : Thread nD τ).loc main_arg1)) (i 0) (30 + (i 1).val) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run _ _ _).mono (fun r h c => ⟨fun i => ?_, fun i hi => ?_, (h c).2.2⟩) (run m ρ)
  · have e : r.2.mem ((c.tc : Thread nD τ).loc main_v262) = Y m c := (h c).1
    rw [e]
    exact y_eq m c i
  · rw [(h c).2.1]
    obtain ⟨b, x, k, rfl⟩ : ∃ (b : Fin 16) (x : Fin 32) (k : Fin 1024), i = ix3 b x k := ⟨i 0, i 1, i 2, (ix3_eta i).symm⟩
    have hi : 2 ≤ x.val := hi
    pointwise
    rw [dif_pos (by omega), rows_eq]
    show sampleC _ _ _ (32 + (x.val - 2)) _ = sampleC _ _ _ (30 + x.val) _
    rw [show 32 + (x.val - 2) = 30 + x.val from by omega]

end Cert.MixcSampleRefIdeal.Block

end
-- ==== Proof.MixcPrompt.lean ====
/-
  The prompt's long convolution: the call and its reference convolve the same gated rows of a stream, zeros before the first,
  with the same 31 taps, normalise each row alike, and keep the same last rows.
-/
module

public import proofs.«01_k».proof.Proof.Gen.MixcPromptIdeal.Value
public import Idealize.ShloMosaic.Lib.Pipeline.ValueKit
public import Idealize.ShloMosaic.Lib.ValueIdx
public import Idealize.ShloMosaic.Lib.Pointwise
public import Idealize.ShloMosaic.PureOps.Ideal
public import proofs.«01_k».proof.Proof.ConvRows
public import proofs.«01_k».proof.Proof.LongConv
public import proofs.«01_k».proof.Proof.MixbPrompt
public import proofs.«01_k».proof.Proof.Gen.MixcPromptRefIdeal.Run

@[expose] public section

set_option maxRecDepth 16384

noncomputable section

namespace Cert.MixcPromptIdeal.Block

open Cert.MixcPromptIdeal Cert.MixcPromptIdeal.Gen Idealize.ShloMosaic Idealize.ShloMosaic.TcCoe Idealize.SL.Sem
open Cert.Conv (read_two streamOf)
open Cert.MixbPromptIdeal.Block (first)
open Cert.LongConv (promptC outRow accV outV accV_apply outV_apply taps31 swish)

variable (m : (ℓ : Loc nD τ sig) → Buf (Elt Ideal) ℓ)

/-- The blocks each grid point reads and writes: point t works on rows 256 t and below of stream t/8, and on the 32 rows before them. -/
theorem idx : ∀ t : Fin cfg0.N, win0_0.index t = ![t.val, 5] ∧ win0_1.index t = ![t.val, 6] ∧ win0_2.index t = ![t.val * 8 - 1, 5] ∧
    win0_3.index t = ![t.val * 8 - 1, 6] ∧ win0_4.index t = ![0, 0] ∧ win0_5.index t = ![0, 0] ∧ win0_6.index t = ![0, 0] ∧ win0_7.index t = ![0, 0] ∧
    win0_8.index t = ![t.val, 0] ∧ win0_9.index t = ![t.val / 8, 0, 0] ∧ (grid0.coords t 0).val = t.val :=
  (by decide +kernel : ∀ t : Fin grid0.N, _)

theorem coords_eq (t : Fin cfg0.N) : (grid0.coords t 0).val = t.val := (idx t).2.2.2.2.2.2.2.2.2.2

theorem point_lt (t : Fin cfg0.N) : t.val < 64 := by
  have := t.isLt
  have : cfg0.N = 64 := N_0
  omega

/-- The row of the arrays behind a row of a block. -/
def row (t : Fin cfg0.N) (r : Fin 256) : Fin 16896 := ⟨t.val * 256 + r.val, by have := point_lt t; omega⟩

/-- The row of the arrays behind a row of the block before. -/
def prow (t : Fin cfg0.N) (r : Fin 32) : Fin 16896 := ⟨(t.val * 8 - 1) * 32 + r.val, by have := point_lt t; omega⟩

theorem iblk_a (c : Dev nD) (t : Fin cfg0.N) (r : Fin 256) (k : Fin 1024) :
    iblk m c 0 t (ix2 r k) = m ((c : Thread nD τ).loc main_arg0) (ix2 (row t r) ⟨5120 + k.val, by omega⟩) := by
  rw [← V_main_arg0 m c]
  blk_point [iblk, idx t, row]

theorem iblk_g (c : Dev nD) (t : Fin cfg0.N) (r : Fin 256) (k : Fin 1024) :
    iblk m c 1 t (ix2 r k) = m ((c : Thread nD τ).loc main_arg0) (ix2 (row t r) ⟨6144 + k.val, by omega⟩) := by
  rw [← V_main_arg0 m c]
  blk_point [iblk, idx t, row]

theorem iblk_ap (c : Dev nD) (t : Fin cfg0.N) (r : Fin 32) (k : Fin 1024) :
    iblk m c 2 t (ix2 r k) = m ((c : Thread nD τ).loc main_arg0) (ix2 (prow t r) ⟨5120 + k.val, by omega⟩) := by
  rw [← V_main_arg0 m c]
  blk_point [iblk, idx t, prow]

theorem iblk_gp (c : Dev nD) (t : Fin cfg0.N) (r : Fin 32) (k : Fin 1024) :
    iblk m c 3 t (ix2 r k) = m ((c : Thread nD τ).loc main_arg0) (ix2 (prow t r) ⟨6144 + k.val, by omega⟩) := by
  rw [← V_main_arg0 m c]
  blk_point [iblk, idx t, prow]

theorem iblk_w (c : Dev nD) (t : Fin cfg0.N) (j : Fin 31) (k : Fin 1024) :
    iblk m c 4 t (ix2 j k) = m ((c : Thread nD τ).loc main_arg1) (ix2 j k) := by
  rw [← V_main_arg1 m c]
  blk_point [iblk, idx t, row]

theorem V_cb (c : Dev nD) (k : Fin 1024) :
    V m c (Pipeline.arrRef spec0 5) (ix2 0 k) = m ((c : Thread nD τ).loc main_arg2) (ix1 k) := by
  dsimp only [V]
  simp only [hostOps0, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  pointwise

theorem iblk_cb (c : Dev nD) (t : Fin cfg0.N) (k : Fin 1024) :
    iblk m c 5 t (ix2 0 k) = m ((c : Thread nD τ).loc main_arg2) (ix1 k) := by
  refine Eq.trans ?_ (V_cb m c k)
  blk_point [iblk, idx t]

theorem V_lg (c : Dev nD) (k : Fin 1024) :
    V m c (Pipeline.arrRef spec0 6) (ix2 0 k) = m ((c : Thread nD τ).loc main_arg3) (ix1 k) := by
  dsimp only [V]
  simp only [hostOps0, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  pointwise

theorem iblk_lg (c : Dev nD) (t : Fin cfg0.N) (k : Fin 1024) :
    iblk m c 6 t (ix2 0 k) = m ((c : Thread nD τ).loc main_arg3) (ix1 k) := by
  refine Eq.trans ?_ (V_lg m c k)
  blk_point [iblk, idx t]

theorem V_lb (c : Dev nD) (k : Fin 1024) :
    V m c (Pipeline.arrRef spec0 7) (ix2 0 k) = m ((c : Thread nD τ).loc main_arg4) (ix1 k) := by
  dsimp only [V]
  simp only [hostOps0, List.flatten_cons, List.flatten_nil, List.cons_append, List.nil_append,
    StableHlo.TRef.binary, StableHlo.TRef.ternary, StableHlo.TRef.unary, StableHlo.TRef.nullary, StableHlo.TRef.toBuf, StableHlo.TRef.ofBuf, cast_eq]
  after_results_simp
  pointwise

theorem iblk_lb (c : Dev nD) (t : Fin cfg0.N) (k : Fin 1024) :
    iblk m c 7 t (ix2 0 k) = m ((c : Thread nD τ).loc main_arg4) (ix1 k) := by
  refine Eq.trans ?_ (V_lb m c k)
  blk_point [iblk, idx t]

/-- The rows the grid point's stream convolves, from the first that the block's first row takes. -/
def S (c : Dev nD) (t : Fin cfg0.N) : ℕ → Fin 1024 → EReal := fun j =>
  promptC (m ((c : Thread nD τ).loc main_arg0)) ⟨t.val / 8, by have := point_lt t; omega⟩ (256 * (t.val % 8) + j)

/-- The rows of the scratch: those of the stream from two before. -/
def scr (c : Dev nD) (t : Fin cfg0.N) (j : ℕ) (k : Fin 1024) : EReal :=
  promptC (m ((c : Thread nD τ).loc main_arg0)) ⟨t.val / 8, by have := point_lt t; omega⟩ (256 * (t.val % 8) + j - 2) k

theorem scr_lo (c : Dev nD) (t : Fin cfg0.N) (j : Fin 32) (k : Fin 1024) : k0_pay1 (grid0.coords t) (iblk m c 2 t) (iblk m c 3 t) (ix2 j k) = scr m c t j.val k := by
  have ht := point_lt t
  unfold k0_pay1
  pointwise
  rw [first _ (by rw [coords_eq]; exact ht), coords_eq, iblk_ap, iblk_gp]
  unfold scr promptC
  by_cases h : t.val % 8 = 0
  · rw [if_pos h, if_pos (by omega)]
  · rw [if_neg h, if_neg (by omega), dif_pos (by omega)]
    have e : prow t j = ⟨t.val / 8 * 2048 + (256 * (t.val % 8) + j.val - 2 - 30), by omega⟩ :=
      Fin.ext (by show (t.val * 8 - 1) * 32 + j.val = t.val / 8 * 2048 + (256 * (t.val % 8) + j.val - 2 - 30); omega)
    rw [e]

theorem scr_hi (c : Dev nD) (t : Fin cfg0.N) (j : Fin 256) (k : Fin 1024) : k0_pay2 (iblk m c 0 t) (iblk m c 1 t) (ix2 j k) = scr m c t (32 + j.val) k := by
  unfold k0_pay2
  pointwise
  rw [iblk_a, iblk_g]
  unfold scr promptC
  have ht := point_lt t
  rw [if_neg (by omega), dif_pos (by omega)]
  have e : row t j = ⟨t.val / 8 * 2048 + (256 * (t.val % 8) + (32 + j.val) - 2 - 30), by omega⟩ :=
    Fin.ext (by show t.val * 256 + j.val = t.val / 8 * 2048 + (256 * (t.val % 8) + (32 + j.val) - 2 - 30); omega)
  rw [e]

theorem scr_add (c : Dev nD) (t : Fin cfg0.N) (j : ℕ) (k : Fin 1024) : scr m c t (2 + j) k = S m c t j k := by
  unfold scr S
  rw [show 256 * (t.val % 8) + (2 + j) - 2 = 256 * (t.val % 8) + j from by omega]

theorem inb_s (o : ℕ) (ho : o ≤ 224) (j : Fin 31) : ∀ a, (![o + 2 + j.val, 0] : Fin 2 → ℕ) a + S32x1024.size a ≤ S288x1024.size a := fun a => by
  have := j.isLt
  match a with
  | ⟨0, _⟩ => show o + 2 + j.val + 32 ≤ 288; omega
  | ⟨1, _⟩ => show 0 + 1024 ≤ 1024; omega

theorem inb_w (j : Fin 31) : ∀ a, (![j.val, 0] : Fin 2 → ℕ) a + S1x1024.size a ≤ S31x1024.size a := fun a => by
  have := j.isLt
  match a with
  | ⟨0, _⟩ => show j.val + 1 ≤ 31; omega
  | ⟨1, _⟩ => show 0 + 1024 ≤ 1024; omega

/-- The rows that a tap reads of the scratch for the 32 rows from the given one. -/
def rd (c : Dev nD) (t : Fin cfg0.N) (o : ℕ) (ho : o ≤ 224) (j : Fin 31) : Vec Ideal S32x1024 .f32 :=
  (View.whole cc0_scratch0).readCov (Val := Elt Ideal)
    [⟨Rect.unit (s := S288x1024) ![32, 0] S256x1024.size inb_S288x1024_S256x1024_32_0, k0_pay2 (iblk m c 0 t) (iblk m c 1 t)⟩,
      ⟨Rect.unit (s := S288x1024) ![0, 0] S32x1024.size inb_S288x1024_S32x1024_0_0, k0_pay1 (grid0.coords t) (iblk m c 2 t) (iblk m c 3 t)⟩]
    (Rect.unit (s := S288x1024) ![o + 2 + j.val, 0] S32x1024.size (inb_s o ho j)).toLoadRect

/-- A tap's weights. -/
def wt (c : Dev nD) (t : Fin cfg0.N) (j : Fin 31) : Vec Ideal S1x1024 .f32 :=
  View.ld (iblk m c 4 t) (Rect.unit (s := S31x1024) ![j.val, 0] S1x1024.size (inb_w j))

theorem rd_apply (c : Dev nD) (t : Fin cfg0.N) (o : ℕ) (ho : o ≤ 224) (j : Fin 31) (r : Fin 32) (k : Fin 1024) :
    rd m c t o ho j (ix2 r k) = S m c t (o + r.val + j.val) k := by
  refine (read_two (by rfl) _ _ _ _ _ _ _ (scr_lo m c t) (scr_hi m c t) _ _).trans ?_
  rw [show o + 2 + j.val + r.val = 2 + (o + r.val + j.val) from by omega, scr_add]

theorem wt_apply (c : Dev nD) (t : Fin cfg0.N) (j : Fin 31) (k : Fin 1024) : wt m c t j (ix2 0 k) = m ((c : Thread nD τ).loc main_arg1) (ix2 j k) := by
  refine Eq.trans (congrArg (iblk m c 4 t) ?_) (iblk_w m c t j k)
  funext a
  refine Fin.ext ?_
  match a with
  | ⟨0, _⟩ => show j.val + 1 * 0 = j.val; omega
  | ⟨1, _⟩ => show 0 + 1 * k.val = k.val; omega

/-- What a grid point writes of the output. -/
def cell (c : Dev nD) (t : Fin cfg0.N) (y : S256x1024.Idx) : EReal :=
  outRow (S m c t) (m ((c : Thread nD τ).loc main_arg1)) (m ((c : Thread nD τ).loc main_arg2)) (m ((c : Thread nD τ).loc main_arg3)) (m ((c : Thread nD τ).loc main_arg4)) (y 0).val (y 1)

/-- One store of 32 rows. -/
theorem piece (c : Dev nD) (t : Fin cfg0.N) (o : ℕ) (ho : o ≤ 224) (r : Fin 32) (k : Fin 1024) (y : S256x1024.Idx)
    (h0 : (y 0).val = o + r.val) (h1 : (y 1).val = k.val) :
    outV broadcasts_S1x1024_S32x1024 shapeCasts_S1x1024_S1x1024 reduces_S32x1024_S32 shapeCasts_S32_S32x1 broadcasts_S32x1_S32x1024 bitsLt_bf16_f32
      (accV broadcasts_S1x1024_S32x1024 (rd m c t o ho) (wt m c t)) (iblk m c 5 t) (iblk m c 6 t) (iblk m c 7 t) (ix2 r k) = cell m c t y := by
  obtain ⟨y0, y1, rfl⟩ : ∃ (y0 : Fin 256) (y1 : Fin 1024), y = ix2 y0 y1 := ⟨y 0, y 1, (ix2_eta y).symm⟩
  have h0 : y0.val = o + r.val := h0
  obtain rfl : y1 = k := Fin.ext h1
  rw [outV_apply]
  simp only [accV_apply, rd_apply, wt_apply, iblk_cb, iblk_lg, iblk_lb]
  show _ = outRow (S m c t) _ _ _ _ y0.val y1
  rw [h0]
  rfl

set_option maxHeartbeats 8000000 in
theorem block (c : Dev nD) (t : Fin cfg0.N) (y : S256x1024.Idx) :
    (show Vec Ideal S256x1024 .bf16 from (dats m 0 c).after 8 t) y = cell m c t y := by
  dsimp only
  rw [after0_8]
  unfold outsAt0
  frame_out
  canon_tiles x h
  all_goals obtain ⟨r, k, rfl⟩ : ∃ (r : Fin 32) (k : Fin 1024), x = ix2 r k := ⟨x 0, x 1, (ix2_eta x).symm⟩
  case piece0 => exact piece m c t 224 (by decide) r k _ h0 h1
  case piece1 => exact piece m c t 192 (by decide) r k _ h0 h1
  case piece2 => exact piece m c t 160 (by decide) r k _ h0 h1
  case piece3 => exact piece m c t 128 (by decide) r k _ h0 h1
  case piece4 => exact piece m c t 96 (by decide) r k _ h0 h1
  case piece5 => exact piece m c t 64 (by decide) r k _ h0 h1
  case piece6 => exact piece m c t 32 (by decide) r k _ h0 h1
  case piece7 => exact piece m c t 0 (by decide) r k _ (h0.trans (Nat.zero_add _).symm) h1

/-- What a grid point writes of the history. -/
theorem block9 (c : Dev nD) (t : Fin cfg0.N) (y : S1x32x1024.Idx) :
    (show Vec Ideal S1x32x1024 .f32 from (dats m 0 c).after 9 t) y = scr m c t (256 + (y 1).val) (y 2) := by
  obtain ⟨q, r, k, rfl⟩ : ∃ (q : Fin 1) (r : Fin 32) (k : Fin 1024), y = ix3 q r k := ⟨y 0, y 1, y 2, (ix3_eta y).symm⟩
  dsimp only
  rw [after0_9]
  unfold outsAt0
  frame_out
  unfold k0_pay70
  pointwise
  rw [read_two (by rfl) _ _ _ _ _ _ _ (scr_lo m c t) (scr_hi m c t)]

/-- The output on the rows of the prompt. -/
def G (c : Dev nD) : S16896x1024.Idx → EReal := fun i =>
  outRow (promptC (m ((c : Thread nD τ).loc main_arg0)) (streamOf (i 0)))
    (m ((c : Thread nD τ).loc main_arg1)) (m ((c : Thread nD τ).loc main_arg2)) (m ((c : Thread nD τ).loc main_arg3)) (m ((c : Thread nD τ).loc main_arg4)) ((i 0).val % 2048) (i 1)

theorem arr8 (c : Dev nD) : (dats m 0 c).arrAt 8 cfg0.N =
    fun i => if (i 0 : ℕ) < 16384 then G m c i else (dats m 0 c).A 8 i := by
  refine (dats m 0 c).arrAt_eq_of_coversWhere 8 _ (fun β => β 0 < 64) (by decide +kernel) (fun t hf y => ?_)
    (fun j => by blk_simp [Pipeline.Window.cell_apply]; omega)
  blk_simp
  have e0 : ((View.whole main_v3_0).slice (win0_8.rect t)).emb y = ix2 (row t (y 0)) (y 1) := by
    blk_ext [idx t, row]
  refine (block m c t y).trans (Eq.trans ?_ (congrArg (G m c) e0).symm)
  have ht := point_lt t
  have hy : (y 0).val < 256 := (y 0).isLt
  have e1 : streamOf (row t (y 0)) = ⟨t.val / 8, by omega⟩ := Fin.ext (by show (t.val * 256 + (y 0).val) / 2048 % 8 = t.val / 8; omega)
  have e2 : (row t (y 0)).val % 2048 = 256 * (t.val % 8) + (y 0).val := by show (t.val * 256 + (y 0).val) % 2048 = _; omega
  show _ = outRow (promptC _ (streamOf (row t (y 0)))) _ _ _ _ ((row t (y 0)).val % 2048) (y 1)
  rw [e1, e2]
  unfold cell outRow S
  simp only [Nat.add_assoc]

/-- The history a stream leaves: its last 32 rows. -/
def G9 (c : Dev nD) : S8x32x1024.Idx → EReal := fun i =>
  promptC (m ((c : Thread nD τ).loc main_arg0)) (i 0) (2046 + (i 1).val) (i 2)

/-- A stream's history is what its last block writes. -/
theorem last : ∀ t : Fin cfg0.N, (cfg0.win 9).flush t = true → t.val % 8 = 7 :=
  (by decide +kernel : ∀ t : Fin grid0.N, win0_9.flush t = true → t.val % 8 = 7)

theorem arr9 (c : Dev nD) : (dats m 0 c).arrAt 9 cfg0.N = G9 m c := by
  refine (dats m 0 c).arrAt_eq_of_covers 9 _ (by decide +kernel) fun t hf y => ?_
  blk_simp
  have ht := point_lt t
  have e0 : ((View.whole main_v3_1).slice (win0_9.rect t)).emb y = ix3 ⟨t.val / 8, by omega⟩ (y 1) (y 2) := by
    blk_ext [idx t, row]
  refine (block9 m c t y).trans (Eq.trans ?_ (congrArg (G9 m c) e0).symm)
  have h7 := last t hf
  show promptC _ _ (256 * (t.val % 8) + (256 + (y 1).val) - 2) _ = promptC _ _ (2046 + (y 1).val) _
  rw [show 256 * (t.val % 8) + (256 + (y 1).val) - 2 = 2046 + (y 1).val from by omega]
  rfl

end Cert.MixcPromptIdeal.Block

namespace Cert.MixcPromptRefIdeal.Block

open Cert.MixcPromptRefIdeal Cert.MixcPromptRefIdeal.Gen Cert.MixcPromptRefIdeal.Value Idealize.ShloMosaic Idealize.ShloMosaic.TcCoe Idealize.SL.Sem
open Cert.Conv (streamOf)
open Idealize.ShloMosaic.StableHlo (launchContents)
open Cert.LongConv (promptC outRow taps31 mean norm swish)

variable (m : (ℓ : Loc nD τ sig) → Buf (Elt Ideal) ℓ)

theorem rows_eq (c : Dev nD) (b : Fin 8) (j : Fin 2078) (k : Fin 1024) :
    res_main_v14 (launchContents m c) (ix3 b j k) = promptC (m ((c : Thread nD τ).loc main_arg0)) b j.val k := by
  unfold res_main_v14 res_main_v4
  pointwise
  unfold promptC
  by_cases h : j.val < 30
  · rw [if_pos h, dif_pos h]
  · rw [if_neg h, dif_neg h, dif_pos j.isLt]
    have e2 : 5120 + (1024 + k.val) = 6144 + k.val := by omega
    simp only [e2]
    rfl

/-- The convolution's row, with the bias on. -/
def conv (c : Dev nD) (b : Fin 8) (x : ℕ) (k : Fin 1024) : EReal :=
  taps31 (fun t => promptC (m ((c : Thread nD τ).loc main_arg0)) b (x + t.val) k) (fun t => (m ((c : Thread nD τ).loc main_arg1)) (ix2 t k)) + (m ((c : Thread nD τ).loc main_arg2)) (ix1 k)

set_option maxHeartbeats 8000000 in
theorem conv_eq (c : Dev nD) (b : Fin 8) (x : Fin 2048) (k : Fin 1024) : res_main_v234 (launchContents m c) (ix3 b x k) = conv m c b x.val k := by
  unfold res_main_v234 res_main_v167 res_main_v90
  pointwise
  simp only [rows_eq]
  unfold conv taps31
  simp only [Nat.add_comm 1, Nat.add_comm 2, Nat.add_comm 3, Nat.add_comm 4, Nat.add_comm 5, Nat.add_comm 6, Nat.add_comm 7, Nat.add_comm 8, Nat.add_comm 9, Nat.add_comm 10, Nat.add_comm 11, Nat.add_comm 12, Nat.add_comm 13, Nat.add_comm 14, Nat.add_comm 15, Nat.add_comm 16, Nat.add_comm 17, Nat.add_comm 18, Nat.add_comm 19, Nat.add_comm 20, Nat.add_comm 21, Nat.add_comm 22, Nat.add_comm 23, Nat.add_comm 24, Nat.add_comm 25, Nat.add_comm 26, Nat.add_comm 27, Nat.add_comm 28, Nat.add_comm 29, Nat.add_comm 30]
  rfl

theorem mean_eq (c : Dev nD) (b : Fin 8) (x : Fin 2048) (q : Fin 1) : res_main_v238 (launchContents m c) (ix3 b x q) = mean (conv m c b x.val) := by
  unfold res_main_v238
  pointwise
  simp only [conv_eq]
  rfl

theorem cen_eq (c : Dev nD) (b : Fin 8) (x : Fin 2048) (k : Fin 1024) :
    res_main_v240 (launchContents m c) (ix3 b x k) = conv m c b x.val k - mean (conv m c b x.val) := by
  unfold res_main_v240
  pointwise
  rw [conv_eq, mean_eq]

theorem norm_eq (c : Dev nD) (b : Fin 8) (x : Fin 2048) (k : Fin 1024) :
    res_main_v258 (launchContents m c) (ix3 b x k) = norm (conv m c b x.val) (fun j => (m ((c : Thread nD τ).loc main_arg3)) (ix1 j)) (fun j => (m ((c : Thread nD τ).loc main_arg4)) (ix1 j)) k := by
  unfold res_main_v258
  pointwise
  simp only [conv_eq, mean_eq, cen_eq]
  rfl

/-- The reference's output. -/
def Y (c : Dev nD) : FVec Ideal S16896x1024 .bf16 :=
  truncf .bf16 (pad S16896x1024 ![0, 0] ![512, 0] ![0, 0] (shapeCast _ (mulf (res_main_v258 (launchContents m c)) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (res_main_v258 (launchContents m c))))))) shapeCasts_S8x2048x1024_S16384x1024) (sitofp .f32 (constantI S_ 32 0#32)) pads_S16384x1024_S16896x1024_05120_000 h_S_) bitsLt_bf16_f32

set_option maxHeartbeats 2000000 in
theorem y_eq (c : Dev nD) (i : S16896x1024.Idx) (hi : (i 0 : ℕ) < 16384) : Y m c i =
    outRow (promptC (m ((c : Thread nD τ).loc main_arg0)) (streamOf (i 0))) (m ((c : Thread nD τ).loc main_arg1)) (m ((c : Thread nD τ).loc main_arg2)) (m ((c : Thread nD τ).loc main_arg3)) (m ((c : Thread nD τ).loc main_arg4)) ((i 0).val % 2048) (i 1) := by
  unfold Y
  obtain ⟨r, k, rfl⟩ : ∃ (r : Fin 16896) (k : Fin 1024), i = ix2 r k := ⟨i 0, i 1, (ix2_eta i).symm⟩
  have hi : r.val < 16384 := hi
  set_option maxRecDepth 200000 in
  pointwise
  rw [dif_pos hi, norm_eq]
  have hb : (⟨r.val / 2048, by omega⟩ : Fin 8) = streamOf r := Fin.ext (by show r.val / 2048 = r.val / 2048 % 8; omega)
  refine Eq.trans ?_ (congrArg (fun q => outRow (promptC (m ((c : Thread nD τ).loc main_arg0)) q) (m ((c : Thread nD τ).loc main_arg1)) (m ((c : Thread nD τ).loc main_arg2)) (m ((c : Thread nD τ).loc main_arg3)) (m ((c : Thread nD τ).loc main_arg4)) (r.val % 2048) k) hb)
  rfl

theorem run_values (ρ : Dev nD → PrngReg) : θ_run defs (onTc (τ := τ) (main (F := Ideal))) ⟨m, fun _ => 0, ρ⟩ fun r => ∀ c : Dev nD,
    (∀ i : S16896x1024.Idx, (i 0 : ℕ) < 16384 → r.2.mem ((c.tc : Thread nD τ).loc main_v262) i =
      outRow (promptC (m ((c : Thread nD τ).loc main_arg0)) (streamOf (i 0))) (m ((c : Thread nD τ).loc main_arg1)) (m ((c : Thread nD τ).loc main_arg2)) (m ((c : Thread nD τ).loc main_arg3)) (m ((c : Thread nD τ).loc main_arg4)) ((i 0).val % 2048) (i 1))
    ∧ (∀ i : S8x32x1024.Idx, 2 ≤ (i 1).val → r.2.mem ((c.tc : Thread nD τ).loc main_v263) i =
      promptC (m ((c : Thread nD τ).loc main_arg0)) (i 0) (2046 + (i 1).val) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run _ _ _).mono (fun r h c => ⟨fun i hi => ?_, fun i hi => ?_, (h c).2.2⟩) (run m ρ)
  · have e : r.2.mem ((c.tc : Thread nD τ).loc main_v262) = Y m c := (h c).1
    rw [e]
    exact y_eq m c i hi
  · rw [(h c).2.1]
    obtain ⟨b, x, k, rfl⟩ : ∃ (b : Fin 8) (x : Fin 32) (k : Fin 1024), i = ix3 b x k := ⟨i 0, i 1, i 2, (ix3_eta i).symm⟩
    have hi : 2 ≤ x.val := hi
    pointwise
    rw [dif_pos (by omega), rows_eq]
    show promptC _ _ (2048 + (x.val - 2)) _ = promptC _ _ (2046 + x.val) _
    rw [show 2048 + (x.val - 2) = 2046 + x.val from by omega]

end Cert.MixcPromptRefIdeal.Block

end
-- ==== Proof.lean ====
/-
  The whole claim, put together from the values and runs the other modules prove.
-/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InprojKv
public import proofs.«01_k».proof.Proof.Gen.InprojKv.Skeleton
public import proofs.«01_k».proof.Proof.Gen.InprojKv.Launch
public import proofs.«01_k».proof.Proof.Gen.InprojKv.Points
public import proofs.«01_k».proof.Proof.Gen.InprojKv.Frame
public import proofs.«01_k».proof.Proof.Gen.InprojKvIdeal
public import proofs.«01_k».proof.Proof.Gen.InprojKvIdeal.Skeleton
public import proofs.«01_k».proof.Proof.Gen.InprojKvIdeal.Launch
public import proofs.«01_k».proof.Proof.Gen.InprojKvIdeal.Points
public import proofs.«01_k».proof.Proof.Gen.InprojKvIdeal.Frame
public import proofs.«01_k».proof.Proof.Gen.InprojKvRefIdeal
public import proofs.«01_k».proof.Proof.Gen.InprojRest
public import proofs.«01_k».proof.Proof.Gen.InprojRest.Skeleton
public import proofs.«01_k».proof.Proof.Gen.InprojRest.Launch
public import proofs.«01_k».proof.Proof.Gen.InprojRest.Points
public import proofs.«01_k».proof.Proof.Gen.InprojRest.Frame
public import proofs.«01_k».proof.Proof.Gen.InprojRestIdeal
public import proofs.«01_k».proof.Proof.Gen.InprojRestIdeal.Skeleton
public import proofs.«01_k».proof.Proof.Gen.InprojRestIdeal.Launch
public import proofs.«01_k».proof.Proof.Gen.InprojRestIdeal.Points
public import proofs.«01_k».proof.Proof.Gen.InprojRestIdeal.Frame
public import proofs.«01_k».proof.Proof.Gen.InprojRestRefIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.NormH
public import proofs.«01_k».proof.Proof.Gen.NormH.Skeleton
public import proofs.«01_k».proof.Proof.Gen.NormH.Launch
public import proofs.«01_k».proof.Proof.Gen.NormH.Points
public import proofs.«01_k».proof.Proof.Gen.NormH.Frame
public import proofs.«01_k».proof.Proof.Gen.NormHIdeal
public import proofs.«01_k».proof.Proof.Gen.NormHIdeal.Skeleton
public import proofs.«01_k».proof.Proof.Gen.NormHIdeal.Launch
public import proofs.«01_k».proof.Proof.Gen.NormHIdeal.Points
public import proofs.«01_k».proof.Proof.Gen.NormHIdeal.Frame
public import proofs.«01_k».proof.Proof.Gen.NormHRefIdeal
public import proofs.«01_k».proof.Proof.Gen.NormPrompt
public import proofs.«01_k».proof.Proof.Gen.NormPrompt.Skeleton
public import proofs.«01_k».proof.Proof.Gen.NormPrompt.Launch
public import proofs.«01_k».proof.Proof.Gen.NormPrompt.Points
public import proofs.«01_k».proof.Proof.Gen.NormPrompt.Frame
public import proofs.«01_k».proof.Proof.Gen.NormPromptIdeal
public import proofs.«01_k».proof.Proof.Gen.NormPromptIdeal.Skeleton
public import proofs.«01_k».proof.Proof.Gen.NormPromptIdeal.Launch
public import proofs.«01_k».proof.Proof.Gen.NormPromptIdeal.Points
public import proofs.«01_k».proof.Proof.Gen.NormPromptIdeal.Frame
public import proofs.«01_k».proof.Proof.Gen.NormPromptRefIdeal
public import proofs.«01_k».proof.Proof.Gen.NormSample
public import proofs.«01_k».proof.Proof.Gen.NormSample.Skeleton
public import proofs.«01_k».proof.Proof.Gen.NormSample.Launch
public import proofs.«01_k».proof.Proof.Gen.NormSample.Points
public import proofs.«01_k».proof.Proof.Gen.NormSample.Frame
public import proofs.«01_k».proof.Proof.Gen.NormSampleIdeal
public import proofs.«01_k».proof.Proof.Gen.NormSampleIdeal.Skeleton
public import proofs.«01_k».proof.Proof.Gen.NormSampleIdeal.Launch
public import proofs.«01_k».proof.Proof.Gen.NormSampleIdeal.Points
public import proofs.«01_k».proof.Proof.Gen.NormSampleIdeal.Frame
public import proofs.«01_k».proof.Proof.Gen.NormSampleRefIdeal
public import proofs.«01_k».proof.Proof.Gen.MixbPrompt
public import proofs.«01_k».proof.Proof.Gen.MixbPrompt.Skeleton
public import proofs.«01_k».proof.Proof.Gen.MixbPrompt.Launch
public import proofs.«01_k».proof.Proof.Gen.MixbPrompt.Points
public import proofs.«01_k».proof.Proof.Gen.MixbPrompt.Frame
public import proofs.«01_k».proof.Proof.Gen.MixbPromptIdeal
public import proofs.«01_k».proof.Proof.Gen.MixbPromptIdeal.Skeleton
public import proofs.«01_k».proof.Proof.Gen.MixbPromptIdeal.Launch
public import proofs.«01_k».proof.Proof.Gen.MixbPromptIdeal.Points
public import proofs.«01_k».proof.Proof.Gen.MixbPromptIdeal.Frame
public import proofs.«01_k».proof.Proof.Gen.MixbPromptRefIdeal
public import proofs.«01_k».proof.Proof.Gen.MixbSample
public import proofs.«01_k».proof.Proof.Gen.MixbSample.Skeleton
public import proofs.«01_k».proof.Proof.Gen.MixbSample.Launch
public import proofs.«01_k».proof.Proof.Gen.MixbSample.Points
public import proofs.«01_k».proof.Proof.Gen.MixbSample.Frame
public import proofs.«01_k».proof.Proof.Gen.MixbSampleIdeal
public import proofs.«01_k».proof.Proof.Gen.MixbSampleIdeal.Skeleton
public import proofs.«01_k».proof.Proof.Gen.MixbSampleIdeal.Launch
public import proofs.«01_k».proof.Proof.Gen.MixbSampleIdeal.Points
public import proofs.«01_k».proof.Proof.Gen.MixbSampleIdeal.Frame
public import proofs.«01_k».proof.Proof.Gen.MixbSampleRefIdeal
public import proofs.«01_k».proof.Proof.Gen.MixcPrompt
public import proofs.«01_k».proof.Proof.Gen.MixcPrompt.Skeleton
public import proofs.«01_k».proof.Proof.Gen.MixcPrompt.Launch
public import proofs.«01_k».proof.Proof.Gen.MixcPrompt.Points
public import proofs.«01_k».proof.Proof.Gen.MixcPrompt.Frame
public import proofs.«01_k».proof.Proof.Gen.MixcPromptIdeal
public import proofs.«01_k».proof.Proof.Gen.MixcPromptIdeal.Skeleton
public import proofs.«01_k».proof.Proof.Gen.MixcPromptIdeal.Launch
public import proofs.«01_k».proof.Proof.Gen.MixcPromptIdeal.Points
public import proofs.«01_k».proof.Proof.Gen.MixcPromptIdeal.Frame
public import proofs.«01_k».proof.Proof.Gen.MixcPromptRefIdeal
public import proofs.«01_k».proof.Proof.Gen.MixcSample
public import proofs.«01_k».proof.Proof.Gen.MixcSample.Skeleton
public import proofs.«01_k».proof.Proof.Gen.MixcSample.Launch
public import proofs.«01_k».proof.Proof.Gen.MixcSample.Points
public import proofs.«01_k».proof.Proof.Gen.MixcSample.Frame
public import proofs.«01_k».proof.Proof.Gen.MixcSampleIdeal
public import proofs.«01_k».proof.Proof.Gen.MixcSampleIdeal.Skeleton
public import proofs.«01_k».proof.Proof.Gen.MixcSampleIdeal.Launch
public import proofs.«01_k».proof.Proof.Gen.MixcSampleIdeal.Points
public import proofs.«01_k».proof.Proof.Gen.MixcSampleIdeal.Frame
public import proofs.«01_k».proof.Proof.Gen.MixcSampleRefIdeal
public import proofs.«01_k».proof.Proof.Gen.Pre_finite_scores
public import proofs.«01_k».proof.Proof.Gen.On_prompt_rows
public import proofs.«01_k».proof.Proof.Gen.On_mixb_prompt_written
public import proofs.«01_k».proof.Proof.Gen.On_mixb_sample_kept
public import proofs.«01_k».proof.Proof.Gen.On_mixc_prompt_written
public import proofs.«01_k».proof.Proof.Gen.On_mixc_sample_kept
public import Idealize.ShloMosaic.Adequacy
public import Idealize.ShloMosaic.Init

public import Idealize.ShloMosaic.Lib.Quiescent
public import proofs.«01_k».proof.Proof.FfnValue
public import proofs.«01_k».proof.Proof.Inproj
public import proofs.«01_k».proof.Proof.InprojRest
public import proofs.«01_k».proof.Proof.Outproj
public import proofs.«01_k».proof.Proof.NormH
public import proofs.«01_k».proof.Proof.NormPrompt
public import proofs.«01_k».proof.Proof.NormSample
public import proofs.«01_k».proof.Proof.AttnValue
public import proofs.«01_k».proof.Proof.MixbSample
public import proofs.«01_k».proof.Proof.MixbPrompt
public import proofs.«01_k».proof.Proof.MixMasks
public import proofs.«01_k».proof.Proof.MixcSample
public import proofs.«01_k».proof.Proof.MixcPrompt

@[expose] public section

set_option maxRecDepth 16384

noncomputable section

namespace Cert.Proof

open Idealize.ShloMosaic Idealize.ShloMosaic.TcCoe Idealize.SL.Sem Cert.Attn

/-- The reference program of Attn runs, keeps its arguments and leaves every counter at zero. -/
theorem frame_AttnRefIdeal : quiescent_AttnRefIdeal (hAttnRefIdeal := Cert.AttnRefIdeal.Gen.facts) := fun m ρ _ =>
  (θ_run Cert.AttnRefIdeal.defs _ _).mono (fun r h => ⟨fun c => (h c).2, Idealize.ShloMosaic.sem_eq_zero_of_no_sems (by decide) r.2⟩)
    (Cert.AttnRefIdeal.Value.run m ρ)

/-- The reference program of Ffn runs, keeps its arguments and leaves every counter at zero. -/
theorem frame_FfnRefIdeal : quiescent_FfnRefIdeal (hFfnRefIdeal := Cert.FfnRefIdeal.Gen.facts) := fun m ρ _ =>
  (θ_run Cert.FfnRefIdeal.defs _ _).mono (fun r h => ⟨fun c => (h c).2, Idealize.ShloMosaic.sem_eq_zero_of_no_sems (by decide) r.2⟩)
    (Cert.FfnRefIdeal.Value.run m ρ)

/-- The reference program of InprojKv runs, keeps its arguments and leaves every counter at zero. -/
theorem frame_InprojKvRefIdeal : quiescent_InprojKvRefIdeal (hInprojKvRefIdeal := Cert.InprojKvRefIdeal.Gen.facts) := fun m ρ _ =>
  (θ_run Cert.InprojKvRefIdeal.defs _ _).mono (fun r h => ⟨fun c => (h c).2.2, Idealize.ShloMosaic.sem_eq_zero_of_no_sems (by decide) r.2⟩)
    (Cert.InprojKvRefIdeal.Value.run m ρ)

/-- The reference program of InprojRest runs, keeps its arguments and leaves every counter at zero. -/
theorem frame_InprojRestRefIdeal : quiescent_InprojRestRefIdeal (hInprojRestRefIdeal := Cert.InprojRestRefIdeal.Gen.facts) := fun m ρ _ =>
  (θ_run Cert.InprojRestRefIdeal.defs _ _).mono (fun r h => ⟨fun c => (h c).2, Idealize.ShloMosaic.sem_eq_zero_of_no_sems (by decide) r.2⟩)
    (Cert.InprojRestRefIdeal.Value.run m ρ)

/-- The reference program of Outproj runs, keeps its arguments and leaves every counter at zero. -/
theorem frame_OutprojRefIdeal : quiescent_OutprojRefIdeal (hOutprojRefIdeal := Cert.OutprojRefIdeal.Gen.facts) := fun m ρ _ =>
  (θ_run Cert.OutprojRefIdeal.defs _ _).mono (fun r h => ⟨fun c => (h c).2, Idealize.ShloMosaic.sem_eq_zero_of_no_sems (by decide) r.2⟩)
    (Cert.OutprojRefIdeal.Value.run m ρ)

/-- The reference program of NormH runs, keeps its arguments and leaves every counter at zero. -/
theorem frame_NormHRefIdeal : quiescent_NormHRefIdeal (hNormHRefIdeal := Cert.NormHRefIdeal.Gen.facts) := fun m ρ _ =>
  (θ_run Cert.NormHRefIdeal.defs _ _).mono (fun r h => ⟨fun c => (h c).2, Idealize.ShloMosaic.sem_eq_zero_of_no_sems (by decide) r.2⟩)
    (Cert.NormHRefIdeal.Value.run m ρ)

/-- The reference program of NormPrompt runs, keeps its arguments and leaves every counter at zero. -/
theorem frame_NormPromptRefIdeal : quiescent_NormPromptRefIdeal (hNormPromptRefIdeal := Cert.NormPromptRefIdeal.Gen.facts) := fun m ρ _ =>
  (θ_run Cert.NormPromptRefIdeal.defs _ _).mono (fun r h => ⟨fun c => (h c).2, Idealize.ShloMosaic.sem_eq_zero_of_no_sems (by decide) r.2⟩)
    (Cert.NormPromptRefIdeal.Value.run m ρ)

/-- The reference program of NormSample runs, keeps its arguments and leaves every counter at zero. -/
theorem frame_NormSampleRefIdeal : quiescent_NormSampleRefIdeal (hNormSampleRefIdeal := Cert.NormSampleRefIdeal.Gen.facts) := fun m ρ _ =>
  (θ_run Cert.NormSampleRefIdeal.defs _ _).mono (fun r h => ⟨fun c => (h c).2, Idealize.ShloMosaic.sem_eq_zero_of_no_sems (by decide) r.2⟩)
    (Cert.NormSampleRefIdeal.Value.run m ρ)

/-- The reference program of MixbPrompt runs, keeps its arguments and leaves every counter at zero. -/
theorem frame_MixbPromptRefIdeal : quiescent_MixbPromptRefIdeal (hMixbPromptRefIdeal := Cert.MixbPromptRefIdeal.Gen.facts) := fun m ρ _ =>
  (θ_run Cert.MixbPromptRefIdeal.defs _ _).mono (fun r h => ⟨fun c => (h c).2.2, Idealize.ShloMosaic.sem_eq_zero_of_no_sems (by decide) r.2⟩)
    (Cert.MixbPromptRefIdeal.Value.run m ρ)

/-- The reference program of MixbSample runs, keeps its arguments and leaves every counter at zero. -/
theorem frame_MixbSampleRefIdeal : quiescent_MixbSampleRefIdeal (hMixbSampleRefIdeal := Cert.MixbSampleRefIdeal.Gen.facts) := fun m ρ _ =>
  (θ_run Cert.MixbSampleRefIdeal.defs _ _).mono (fun r h => ⟨fun c => (h c).2.2, Idealize.ShloMosaic.sem_eq_zero_of_no_sems (by decide) r.2⟩)
    (Cert.MixbSampleRefIdeal.Value.run m ρ)

/-- The reference program of MixcPrompt runs, keeps its arguments and leaves every counter at zero. -/
theorem frame_MixcPromptRefIdeal : quiescent_MixcPromptRefIdeal (hMixcPromptRefIdeal := Cert.MixcPromptRefIdeal.Gen.facts) := fun m ρ _ =>
  (θ_run Cert.MixcPromptRefIdeal.defs _ _).mono (fun r h => ⟨fun c => (h c).2.2, Idealize.ShloMosaic.sem_eq_zero_of_no_sems (by decide) r.2⟩)
    (Cert.MixcPromptRefIdeal.Value.run m ρ)

/-- The reference program of MixcSample runs, keeps its arguments and leaves every counter at zero. -/
theorem frame_MixcSampleRefIdeal : quiescent_MixcSampleRefIdeal (hMixcSampleRefIdeal := Cert.MixcSampleRefIdeal.Gen.facts) := fun m ρ _ =>
  (θ_run Cert.MixcSampleRefIdeal.defs _ _).mono (fun r h => ⟨fun c => (h c).2.2, Idealize.ShloMosaic.sem_eq_zero_of_no_sems (by decide) r.2⟩)
    (Cert.MixcSampleRefIdeal.Value.run m ρ)

/-- Kernel and reference of the prompt's attention end with the same prompt rows. -/
theorem alg_Attn : algebraic_AttnIdeal_AttnRefIdeal_on_prompt_rows_pre_finite_scores (hAttnIdeal := Cert.AttnIdeal.Gen.facts)
    (hAttnRefIdeal := Cert.AttnRefIdeal.Gen.facts) (hPre_finite_scores := Cert.Pre_finite_scores.Gen.facts)
    (hOn_prompt_rows := Cert.On_prompt_rows.Gen.facts) := by
  intro m ρ m' ρ' hp ha
  refine ⟨fun c => Cert.AttnIdeal.Block.G m c, (θ_run _ _ _).mono (fun r h c => ⟨fun i hi => ?_, (h c).2⟩) (Cert.AttnIdeal.Value.run_blocks m ρ),
    (θ_run _ _ _).mono (fun r h c => ⟨fun i hi => ?_, (h c).2⟩) (Cert.AttnRefIdeal.Value.run m' ρ')⟩
  · exact (congrFun ((h c).1.trans (Cert.AttnIdeal.Block.arr12 m c)) i).trans (if_pos (Cert.Pre_finite_scores.Read.prompt _ _ _ i hi))
  · refine (congrFun (h c).1 i).trans ?_
    refine (congrArg _ (ix2_eta i).symm).trans ((Cert.AttnRefIdeal.Block.same m' m c (ha c).1 (ha c).2.1 (ha c).2.2 (hp c).1 (hp c).2.1 (hp c).2.2 (i 0) (i 1)
      (Cert.Pre_finite_scores.Read.prompt _ _ _ i hi)).trans (congrArg _ (ix2_eta i)))

/-- Kernel and reference of Ffn end with the same results. -/
theorem alg_Ffn : algebraic_FfnIdeal_FfnRefIdeal (hFfnIdeal := Cert.FfnIdeal.Gen.facts) (hFfnRefIdeal := Cert.FfnRefIdeal.Gen.facts) := by
  intro m ρ m' ρ' _ ha
  refine ⟨_, (θ_run _ _ _).mono (fun r h c => ⟨((h c).1).trans (Cert.FfnIdeal.Block.kernel_eq m c), (h c).2⟩) (Cert.FfnIdeal.Value.run m ρ),
    (θ_run _ _ _).mono (fun r h c => ⟨((h c).1).trans (by rw [(ha c).1, (ha c).2.1, (ha c).2.2.1, (ha c).2.2.2.1, (ha c).2.2.2.2]; exact (Cert.FfnRefIdeal.Block.ref_eq _ _ _ _ _)), (h c).2⟩) (Cert.FfnRefIdeal.Value.run m' ρ')⟩

/-- Kernel and reference of InprojKv end with the same results. -/
theorem alg_InprojKv : algebraic_InprojKvIdeal_InprojKvRefIdeal (hInprojKvIdeal := Cert.InprojKvIdeal.Gen.facts) (hInprojKvRefIdeal := Cert.InprojKvRefIdeal.Gen.facts) := by
  intro m ρ m' ρ' _ ha
  refine ⟨_, _, (θ_run _ _ _).mono (fun r h c => ⟨((h c).1).trans (Cert.InprojKvIdeal.Block.arr2 m c), ((h c).2.1).trans (Cert.InprojKvIdeal.Block.arr3 m c), (h c).2.2⟩) (Cert.InprojKvIdeal.Value.run_blocks m ρ),
    (θ_run _ _ _).mono (fun r h c => ⟨((h c).1).trans (by rw [(ha c).1, (ha c).2]; exact (Cert.InprojKvRefIdeal.Block.ref_bf16 _ _)), ((h c).2.1).trans (by rw [(ha c).1, (ha c).2]; exact (Cert.InprojKvRefIdeal.Block.ref_f32 _ _)), (h c).2.2⟩) (Cert.InprojKvRefIdeal.Value.run m' ρ')⟩

/-- Kernel and reference of InprojRest end with the same results. -/
theorem alg_InprojRest : algebraic_InprojRestIdeal_InprojRestRefIdeal (hInprojRestIdeal := Cert.InprojRestIdeal.Gen.facts) (hInprojRestRefIdeal := Cert.InprojRestRefIdeal.Gen.facts) := by
  intro m ρ m' ρ' _ ha
  refine ⟨_, (θ_run _ _ _).mono (fun r h c => ⟨((h c).1).trans (Cert.InprojRestIdeal.Block.arr2 m c), (h c).2⟩) (Cert.InprojRestIdeal.Value.run_blocks m ρ),
    (θ_run _ _ _).mono (fun r h c => ⟨((h c).1).trans (by rw [(ha c).1, (ha c).2]; exact (Cert.InprojRestRefIdeal.Block.ref_eq _ _)), (h c).2⟩) (Cert.InprojRestRefIdeal.Value.run m' ρ')⟩

/-- Kernel and reference of Outproj end with the same results. -/
theorem alg_Outproj : algebraic_OutprojIdeal_OutprojRefIdeal (hOutprojIdeal := Cert.OutprojIdeal.Gen.facts) (hOutprojRefIdeal := Cert.OutprojRefIdeal.Gen.facts) := by
  intro m ρ m' ρ' _ ha
  refine ⟨_, (θ_run _ _ _).mono (fun r h c => ⟨((h c).1).trans (Cert.OutprojIdeal.Block.arr7 m c), (h c).2⟩) (Cert.OutprojIdeal.Value.run_blocks m ρ),
    (θ_run _ _ _).mono (fun r h c => ⟨((h c).1).trans (by rw [(ha c).1, (ha c).2.1, (ha c).2.2.1, (ha c).2.2.2.1, (ha c).2.2.2.2]; exact (Cert.OutprojRefIdeal.Block.ref_eq _ _ _ _ _)), (h c).2⟩) (Cert.OutprojRefIdeal.Value.run m' ρ')⟩

/-- Kernel and reference of NormH end with the same results. -/
theorem alg_NormH : algebraic_NormHIdeal_NormHRefIdeal (hNormHIdeal := Cert.NormHIdeal.Gen.facts) (hNormHRefIdeal := Cert.NormHRefIdeal.Gen.facts) := by
  intro m ρ m' ρ' _ ha
  refine ⟨_, (θ_run _ _ _).mono (fun r h c => ⟨((h c).1).trans (Cert.NormHIdeal.Block.arr2 m c), (h c).2⟩) (Cert.NormHIdeal.Value.run_blocks m ρ),
    (θ_run _ _ _).mono (fun r h c => ⟨((h c).1).trans (by rw [(ha c).1, (ha c).2]; exact (Cert.NormHRefIdeal.Block.ref_eq _ _)), (h c).2⟩) (Cert.NormHRefIdeal.Value.run m' ρ')⟩

/-- Kernel and reference of NormPrompt end with the same results. -/
theorem alg_NormPrompt : algebraic_NormPromptIdeal_NormPromptRefIdeal (hNormPromptIdeal := Cert.NormPromptIdeal.Gen.facts) (hNormPromptRefIdeal := Cert.NormPromptRefIdeal.Gen.facts) := by
  intro m ρ m' ρ' _ ha
  refine ⟨_, (θ_run _ _ _).mono (fun r h c => ⟨((h c).1).trans (Cert.NormPromptIdeal.Block.arr2 m c), (h c).2⟩) (Cert.NormPromptIdeal.Value.run_blocks m ρ),
    (θ_run _ _ _).mono (fun r h c => ⟨((h c).1).trans (by rw [(ha c).1, (ha c).2]; exact (Cert.NormPromptRefIdeal.Block.ref_eq _ _)), (h c).2⟩) (Cert.NormPromptRefIdeal.Value.run m' ρ')⟩

/-- Kernel and reference of NormSample end with the same results. -/
theorem alg_NormSample : algebraic_NormSampleIdeal_NormSampleRefIdeal (hNormSampleIdeal := Cert.NormSampleIdeal.Gen.facts) (hNormSampleRefIdeal := Cert.NormSampleRefIdeal.Gen.facts) := by
  intro m ρ m' ρ' _ ha
  refine ⟨_, (θ_run _ _ _).mono (fun r h c => ⟨((h c).1).trans (Cert.NormSampleIdeal.Block.arr2 m c), (h c).2⟩) (Cert.NormSampleIdeal.Value.run_blocks m ρ),
    (θ_run _ _ _).mono (fun r h c => ⟨((h c).1).trans (by rw [(ha c).1, (ha c).2]; exact (Cert.NormSampleRefIdeal.Block.ref_eq _ _)), (h c).2⟩) (Cert.NormSampleRefIdeal.Value.run m' ρ')⟩

/-- Kernel and reference of the prompt's gated convolution end with the same prompt rows and the same rows kept. -/
theorem alg_MixbPrompt : algebraic_MixbPromptIdeal_MixbPromptRefIdeal_on_mixb_prompt_written (hMixbPromptIdeal := Cert.MixbPromptIdeal.Gen.facts)
    (hMixbPromptRefIdeal := Cert.MixbPromptRefIdeal.Gen.facts) (hOn_mixb_prompt_written := Cert.On_mixb_prompt_written.Gen.facts) := by
  intro m ρ m' ρ' _ ha
  refine ⟨fun c => Cert.MixbPromptIdeal.Block.G m c, fun c => Cert.MixbPromptIdeal.Block.G7 m c,
    (θ_run _ _ _).mono (fun r h c => ⟨fun i hi => ?_, fun i _ => ?_, (h c).2.2⟩) (Cert.MixbPromptIdeal.Value.run_blocks m ρ),
    (θ_run _ _ _).mono (fun r h c => ⟨fun i hi => ?_, fun i hi => ?_, (h c).2.2⟩) (Cert.MixbPromptRefIdeal.Block.run_values m' ρ')⟩
  · exact (congrFun ((h c).1.trans (Cert.MixbPromptIdeal.Block.arr6 m c)) i).trans (if_pos (Cert.On_mixb_prompt_written.Read.prompt _ _ i hi))
  · exact congrFun ((h c).2.1.trans (Cert.MixbPromptIdeal.Block.arr7 m c)) i
  · refine ((h c).1 i (Cert.On_mixb_prompt_written.Read.prompt _ _ i hi)).trans ?_
    rw [(ha c).1, (ha c).2]
    rfl
  · refine ((h c).2.1 i (Cert.On_mixb_prompt_written.Read.kept _ _ i hi)).trans ?_
    rw [(ha c).1]
    rfl

/-- Kernel and reference of the samples' gated convolution end with the same output and the same rows kept. -/
theorem alg_MixbSample : algebraic_MixbSampleIdeal_MixbSampleRefIdeal_on_mixb_sample_kept (hMixbSampleIdeal := Cert.MixbSampleIdeal.Gen.facts)
    (hMixbSampleRefIdeal := Cert.MixbSampleRefIdeal.Gen.facts) (hOn_mixb_sample_kept := Cert.On_mixb_sample_kept.Gen.facts) := by
  intro m ρ m' ρ' _ ha
  refine ⟨fun c => (fun i => if 16384 ≤ (i 0 : ℕ) then Cert.MixbSampleIdeal.Block.G m c i else m ((c.tc : Thread Cert.MixbSampleIdeal.nD Cert.MixbSampleIdeal.τ).loc Cert.MixbSampleIdeal.main_arg3) i),
    fun c => Cert.MixbSampleIdeal.Block.G6 m c,
    (θ_run _ _ _).mono (fun r h c => ⟨fun i _ => ?_, fun i _ => ?_, (h c).2.2⟩) (Cert.MixbSampleIdeal.Value.run_blocks m ρ),
    (θ_run _ _ _).mono (fun r h c => ⟨fun i _ => ?_, fun i hi => ?_, (h c).2.2⟩) (Cert.MixbSampleRefIdeal.Block.run_values m' ρ')⟩
  · refine (congrFun ((h c).1.trans (Cert.MixbSampleIdeal.Block.arr5 m c)) i).trans ?_
    exact congrArg (fun e => if 16384 ≤ (i 0 : ℕ) then Cert.MixbSampleIdeal.Block.G m c i else e) (Cert.MixbSampleIdeal.Block.entry m c i)
  · exact congrFun ((h c).2.1.trans (Cert.MixbSampleIdeal.Block.arr6 m c)) i
  · refine ((h c).1 i).trans ?_
    rw [(ha c).1, (ha c).2.1, (ha c).2.2.1, (ha c).2.2.2]
    rfl
  · refine ((h c).2.1 i (Cert.On_mixb_sample_kept.Read.kept _ _ _ _ i hi)).trans ?_
    rw [(ha c).1, (ha c).2.1]
    rfl

/-- Kernel and reference of the prompt's long convolution end with the same prompt rows and the same rows kept. -/
theorem alg_MixcPrompt : algebraic_MixcPromptIdeal_MixcPromptRefIdeal_on_mixc_prompt_written (hMixcPromptIdeal := Cert.MixcPromptIdeal.Gen.facts)
    (hMixcPromptRefIdeal := Cert.MixcPromptRefIdeal.Gen.facts) (hOn_mixc_prompt_written := Cert.On_mixc_prompt_written.Gen.facts) := by
  intro m ρ m' ρ' _ ha
  refine ⟨fun c => Cert.MixcPromptIdeal.Block.G m c, fun c => Cert.MixcPromptIdeal.Block.G9 m c,
    (θ_run _ _ _).mono (fun r h c => ⟨fun i hi => ?_, fun i _ => ?_, (h c).2.2⟩) (Cert.MixcPromptIdeal.Value.run_blocks m ρ),
    (θ_run _ _ _).mono (fun r h c => ⟨fun i hi => ?_, fun i hi => ?_, (h c).2.2⟩) (Cert.MixcPromptRefIdeal.Block.run_values m' ρ')⟩
  · exact (congrFun ((h c).1.trans (Cert.MixcPromptIdeal.Block.arr8 m c)) i).trans (if_pos (Cert.On_mixc_prompt_written.Read.prompt _ _ _ _ _ i hi))
  · exact congrFun ((h c).2.1.trans (Cert.MixcPromptIdeal.Block.arr9 m c)) i
  · refine ((h c).1 i (Cert.On_mixc_prompt_written.Read.prompt _ _ _ _ _ i hi)).trans ?_
    rw [(ha c).1, (ha c).2.1, (ha c).2.2.1, (ha c).2.2.2.1, (ha c).2.2.2.2]
    rfl
  · refine ((h c).2.1 i (Cert.On_mixc_prompt_written.Read.kept _ _ _ _ _ i hi)).trans ?_
    rw [(ha c).1]
    rfl

/-- Kernel and reference of the samples' long convolution end with the same output and the same rows kept. -/
theorem alg_MixcSample : algebraic_MixcSampleIdeal_MixcSampleRefIdeal_on_mixc_sample_kept (hMixcSampleIdeal := Cert.MixcSampleIdeal.Gen.facts)
    (hMixcSampleRefIdeal := Cert.MixcSampleRefIdeal.Gen.facts) (hOn_mixc_sample_kept := Cert.On_mixc_sample_kept.Gen.facts) := by
  intro m ρ m' ρ' _ ha
  refine ⟨fun c => (fun i => if 16384 ≤ (i 0 : ℕ) then Cert.MixcSampleIdeal.Block.G m c i else m ((c.tc : Thread Cert.MixcSampleIdeal.nD Cert.MixcSampleIdeal.τ).loc Cert.MixcSampleIdeal.main_arg6) i),
    fun c => Cert.MixcSampleIdeal.Block.G8 m c,
    (θ_run _ _ _).mono (fun r h c => ⟨fun i _ => ?_, fun i _ => ?_, (h c).2.2⟩) (Cert.MixcSampleIdeal.Value.run_blocks m ρ),
    (θ_run _ _ _).mono (fun r h c => ⟨fun i _ => ?_, fun i hi => ?_, (h c).2.2⟩) (Cert.MixcSampleRefIdeal.Block.run_values m' ρ')⟩
  · refine (congrFun ((h c).1.trans (Cert.MixcSampleIdeal.Block.arr7 m c)) i).trans ?_
    exact congrArg (fun e => if 16384 ≤ (i 0 : ℕ) then Cert.MixcSampleIdeal.Block.G m c i else e) (Cert.MixcSampleIdeal.Block.entry m c i)
  · exact congrFun ((h c).2.1.trans (Cert.MixcSampleIdeal.Block.arr8 m c)) i
  · refine ((h c).1 i).trans ?_
    rw [(ha c).1, (ha c).2.1, (ha c).2.2.1, (ha c).2.2.2.1, (ha c).2.2.2.2.1, (ha c).2.2.2.2.2.1, (ha c).2.2.2.2.2.2]
    rfl
  · refine ((h c).2.1 i (Cert.On_mixc_sample_kept.Read.kept _ _ _ _ _ _ _ i hi)).trans ?_
    rw [(ha c).1, (ha c).2.1]
    rfl

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.InprojKv.Gen.facts, Cert.InprojKvIdeal.Gen.facts, Cert.InprojKvRefIdeal.Gen.facts, Cert.InprojRest.Gen.facts, Cert.InprojRestIdeal.Gen.facts, Cert.InprojRestRefIdeal.Gen.facts, Cert.Outproj.Gen.facts, Cert.OutprojIdeal.Gen.facts, Cert.OutprojRefIdeal.Gen.facts, Cert.NormH.Gen.facts, Cert.NormHIdeal.Gen.facts, Cert.NormHRefIdeal.Gen.facts, Cert.NormPrompt.Gen.facts, Cert.NormPromptIdeal.Gen.facts, Cert.NormPromptRefIdeal.Gen.facts, Cert.NormSample.Gen.facts, Cert.NormSampleIdeal.Gen.facts, Cert.NormSampleRefIdeal.Gen.facts, Cert.MixbPrompt.Gen.facts, Cert.MixbPromptIdeal.Gen.facts, Cert.MixbPromptRefIdeal.Gen.facts, Cert.MixbSample.Gen.facts, Cert.MixbSampleIdeal.Gen.facts, Cert.MixbSampleRefIdeal.Gen.facts, Cert.MixcPrompt.Gen.facts, Cert.MixcPromptIdeal.Gen.facts, Cert.MixcPromptRefIdeal.Gen.facts, Cert.MixcSample.Gen.facts, Cert.MixcSampleIdeal.Gen.facts, Cert.MixcSampleRefIdeal.Gen.facts, Cert.Pre_finite_scores.Gen.facts, Cert.On_prompt_rows.Gen.facts, Cert.On_mixb_prompt_written.Gen.facts, Cert.On_mixb_sample_kept.Gen.facts, Cert.On_mixc_prompt_written.Gen.facts, Cert.On_mixc_sample_kept.Gen.facts, (fun m ρ _ => Cert.Attn.Gen.frame m ρ),
  (fun m ρ _ => Cert.AttnIdeal.Gen.frame m ρ),
  (fun m ρ _ => Cert.AttnIdeal.Gen.frame m ρ),
  (frame_AttnRefIdeal),
  (fun m ρ _ => frame_AttnRefIdeal m ρ (by intros; trivial)),
  (fun m ρ _ => Cert.Ffn.Gen.frame m ρ),
  (fun m ρ _ => Cert.FfnIdeal.Gen.frame m ρ),
  (frame_FfnRefIdeal),
  (fun m ρ _ => Cert.InprojKv.Gen.frame m ρ),
  (fun m ρ _ => Cert.InprojKvIdeal.Gen.frame m ρ),
  (frame_InprojKvRefIdeal),
  (fun m ρ _ => Cert.InprojRest.Gen.frame m ρ),
  (fun m ρ _ => Cert.InprojRestIdeal.Gen.frame m ρ),
  (frame_InprojRestRefIdeal),
  (fun m ρ _ => Cert.Outproj.Gen.frame m ρ),
  (fun m ρ _ => Cert.OutprojIdeal.Gen.frame m ρ),
  (frame_OutprojRefIdeal),
  (fun m ρ _ => Cert.NormH.Gen.frame m ρ),
  (fun m ρ _ => Cert.NormHIdeal.Gen.frame m ρ),
  (frame_NormHRefIdeal),
  (fun m ρ _ => Cert.NormPrompt.Gen.frame m ρ),
  (fun m ρ _ => Cert.NormPromptIdeal.Gen.frame m ρ),
  (frame_NormPromptRefIdeal),
  (fun m ρ _ => Cert.NormSample.Gen.frame m ρ),
  (fun m ρ _ => Cert.NormSampleIdeal.Gen.frame m ρ),
  (frame_NormSampleRefIdeal),
  (fun m ρ _ => Cert.MixbPrompt.Gen.frame m ρ),
  (fun m ρ _ => Cert.MixbPromptIdeal.Gen.frame m ρ),
  (frame_MixbPromptRefIdeal),
  (fun m ρ _ => Cert.MixbSample.Gen.frame m ρ),
  (fun m ρ _ => Cert.MixbSampleIdeal.Gen.frame m ρ),
  (frame_MixbSampleRefIdeal),
  (fun m ρ _ => Cert.MixcPrompt.Gen.frame m ρ),
  (fun m ρ _ => Cert.MixcPromptIdeal.Gen.frame m ρ),
  (frame_MixcPromptRefIdeal),
  (fun m ρ _ => Cert.MixcSample.Gen.frame m ρ),
  (fun m ρ _ => Cert.MixcSampleIdeal.Gen.frame m ρ),
  (frame_MixcSampleRefIdeal),
  (IdealRules.named_const.statement Cert.AttnIdeal.κ "mask" .f32 0xF149F2CA#32 ⊥ rfl),
  (alg_Attn),
  (trivial),
  (alg_Ffn),
  (trivial),
  (alg_InprojKv),
  (trivial),
  (alg_InprojRest),
  (trivial),
  (alg_Outproj),
  (trivial),
  (alg_NormH),
  (trivial),
  (alg_NormPrompt),
  (trivial),
  (alg_NormSample),
  (trivial),
  (alg_MixbPrompt),
  (trivial),
  (alg_MixbSample),
  (trivial),
  (alg_MixcPrompt),
  (trivial),
  (alg_MixcSample)⟩

end Cert.Proof

end
